-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v868)) (v1 : (c : Dev Cert.KernelIdeal.nD) → Buf (Elt Ideal) ((c.tc : Thread Cert.KernelIdeal.nD Cert.KernelIdeal.τ).loc Cert.KernelIdeal.main_v869)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v868) = v0 c
          ∧ r.2.mem ((c.tc : Thread Cert.KernelIdeal.nD Cert.KernelIdeal.τ).loc Cert.KernelIdeal.main_v869) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v889) = v0 c
          ∧ r.2.mem ((c.tc : Thread Cert.ReferenceIdeal.nD Cert.ReferenceIdeal.τ).loc Cert.ReferenceIdeal.main_v890) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x2 : Shape := ⟨2, ![10000, 2]⟩
abbrev S2x160000 : Shape := ⟨2, ![2, 160000]⟩
abbrev S160000x2 : Shape := ⟨2, ![160000, 2]⟩
abbrev S10000 : Shape := ⟨1, ![10000]⟩
abbrev S512 : Shape := ⟨1, ![512]⟩
abbrev S120x300 : Shape := ⟨2, ![120, 300]⟩
abbrev S3x300 : Shape := ⟨2, ![3, 300]⟩
abbrev S5x6x300 : Shape := ⟨3, ![5, 6, 300]⟩
abbrev S5x3x300 : Shape := ⟨3, ![5, 3, 300]⟩
abbrev S5x300x600 : Shape := ⟨3, ![5, 300, 600]⟩
abbrev S5x600 : Shape := ⟨2, ![5, 600]⟩
abbrev S5x600x300 : Shape := ⟨3, ![5, 600, 300]⟩
abbrev S5x300 : Shape := ⟨2, ![5, 300]⟩
abbrev S4x300x300 : Shape := ⟨3, ![4, 300, 300]⟩
abbrev S4x300 : Shape := ⟨2, ![4, 300]⟩
abbrev S1x160000 : Shape := ⟨2, ![1, 160000]⟩
abbrev S160000 : Shape := ⟨1, ![160000]⟩
abbrev S160000x1 : Shape := ⟨2, ![160000, 1]⟩
abbrev S10000x1 : Shape := ⟨2, ![10000, 1]⟩
abbrev S_ : Shape := ⟨0, ![]⟩
abbrev S10000x300 : Shape := ⟨2, ![10000, 300]⟩
abbrev S170000 : Shape := ⟨1, ![170000]⟩
abbrev S1x6x300 : Shape := ⟨3, ![1, 6, 300]⟩
abbrev S6x300 : Shape := ⟨2, ![6, 300]⟩
abbrev S170000x1 : Shape := ⟨2, ![170000, 1]⟩
abbrev S170000x300 : Shape := ⟨2, ![170000, 300]⟩
abbrev S1x3x300 : Shape := ⟨3, ![1, 3, 300]⟩
abbrev S1x300x600 : Shape := ⟨3, ![1, 300, 600]⟩
abbrev S300x600 : Shape := ⟨2, ![300, 600]⟩
abbrev S1x600 : Shape := ⟨2, ![1, 600]⟩
abbrev S600 : Shape := ⟨1, ![600]⟩
abbrev S1x600x300 : Shape := ⟨3, ![1, 600, 300]⟩
abbrev S600x300 : Shape := ⟨2, ![600, 300]⟩
abbrev S1x300 : Shape := ⟨2, ![1, 300]⟩
abbrev S300 : Shape := ⟨1, ![300]⟩
abbrev S10000x600 : Shape := ⟨2, ![10000, 600]⟩
abbrev S512x300 : Shape := ⟨2, ![512, 300]⟩
abbrev S512x1 : Shape := ⟨2, ![512, 1]⟩
abbrev S1x300x300 : Shape := ⟨3, ![1, 300, 300]⟩
abbrev S300x300 : Shape := ⟨2, ![300, 300]⟩
abbrev S512x512 : Shape := ⟨2, ![512, 512]⟩

abbrev nBuf : Space → Nat
  | .hbm => 1287
  | .vmem => 35
  | .smem => 0
  | _ => 0

abbrev hbmTy0_0 (i : Nat) : BufTy := match i % 128 with
  | 0 => ⟨S10000x2, .i32⟩
  | 1 => ⟨S2x160000, .i32⟩
  | 2 => ⟨S160000x2, .i32⟩
  | 3 => ⟨S10000, .i32⟩
  | 4 => ⟨S512, .i32⟩
  | 5 => ⟨S10000x2, .i32⟩
  | 6 => ⟨S2x160000, .i32⟩
  | 7 => ⟨S160000x2, .i32⟩
  | 8 => ⟨S10000, .i32⟩
  | 9 => ⟨S512, .i32⟩
  | 10 => ⟨S120x300, .f32⟩
  | 11 => ⟨S3x300, .f32⟩
  | 12 => ⟨S5x6x300, .f32⟩
  | 13 => ⟨S5x3x300, .f32⟩
  | 14 => ⟨S5x300x600, .f32⟩
  | 15 => ⟨S5x600, .f32⟩
  | 16 => ⟨S5x600x300, .f32⟩
  | 17 => ⟨S5x300, .f32⟩
  | 18 => ⟨S5x300, .f32⟩
  | 19 => ⟨S5x300, .f32⟩
  | 20 => ⟨S4x300x300, .f32⟩
  | 21 => ⟨S4x300, .f32⟩
  | 22 => ⟨S4x300x300, .f32⟩
  | 23 => ⟨S4x300, .f32⟩
  | 24 => ⟨S1x160000, .i32⟩
  | 25 => ⟨S160000, .i32⟩
  | 26 => ⟨S1x160000, .i32⟩
  | 27 => ⟨S160000, .i32⟩
  | 28 => ⟨S160000x1, .i32⟩
  | 29 => ⟨S160000, .i32⟩
  | 30 => ⟨S160000x1, .i32⟩
  | 31 => ⟨S160000, .i32⟩
  | 32 => ⟨S10000x1, .i32⟩
  | 33 => ⟨S10000, .i32⟩
  | 34 => ⟨S_, .i32⟩
  | 35 => ⟨S10000, .i32⟩
  | 36 => ⟨S10000, .i1⟩
  | 37 => ⟨S_, .i32⟩
  | 38 => ⟨S10000, .i32⟩
  | 39 => ⟨S10000, .i32⟩
  | 40 => ⟨S10000, .i32⟩
  | 41 => ⟨S10000x1, .i32⟩
  | 42 => ⟨S10000x300, .f32⟩
  | 43 => ⟨S10000x1, .i32⟩
  | 44 => ⟨S10000, .i32⟩
  | 45 => ⟨S_, .i32⟩
  | 46 => ⟨S10000, .i32⟩
  | 47 => ⟨S10000, .i1⟩
  | 48 => ⟨S_, .i32⟩
  | 49 => ⟨S10000, .i32⟩
  | 50 => ⟨S10000, .i32⟩
  | 51 => ⟨S10000, .i32⟩
  | 52 => ⟨S10000x1, .i32⟩
  | 53 => ⟨S10000x300, .f32⟩
  | 54 => ⟨S10000x300, .f32⟩
  | 55 => ⟨S10000, .i32⟩
  | 56 => ⟨S170000, .i32⟩
  | 57 => ⟨S170000, .i32⟩
  | 58 => ⟨S_, .i32⟩
  | 59 => ⟨S10000, .i32⟩
  | 60 => ⟨S170000, .i32⟩
  | 61 => ⟨S_, .i32⟩
  | 62 => ⟨S10000, .i32⟩
  | 63 => ⟨S170000, .i32⟩
  | 64 => ⟨S1x6x300, .f32⟩
  | 65 => ⟨S6x300, .f32⟩
  | 66 => ⟨S_, .i32⟩
  | 67 => ⟨S170000, .i32⟩
  | 68 => ⟨S170000, .i1⟩
  | 69 => ⟨S_, .i32⟩
  | 70 => ⟨S170000, .i32⟩
  | 71 => ⟨S170000, .i32⟩
  | 72 => ⟨S170000, .i32⟩
  | 73 => ⟨S170000x1, .i32⟩
  | 74 => ⟨S170000x300, .f32⟩
  | 75 => ⟨S1x3x300, .f32⟩
  | 76 => ⟨S3x300, .f32⟩
  | 77 => ⟨S_, .i32⟩
  | 78 => ⟨S170000, .i32⟩
  | 79 => ⟨S170000, .i1⟩
  | 80 => ⟨S_, .i32⟩
  | 81 => ⟨S170000, .i32⟩
  | 82 => ⟨S170000, .i32⟩
  | 83 => ⟨S170000, .i32⟩
  | 84 => ⟨S170000x1, .i32⟩
  | 85 => ⟨S170000x300, .f32⟩
  | 86 => ⟨S170000x300, .f32⟩
  | 87 => ⟨S_, .i32⟩
  | 88 => ⟨S170000, .i32⟩
  | 89 => ⟨S170000, .i1⟩
  | 90 => ⟨S_, .i32⟩
  | 91 => ⟨S170000, .i32⟩
  | 92 => ⟨S170000, .i32⟩
  | 93 => ⟨S170000, .i32⟩
  | 94 => ⟨S170000x1, .i32⟩
  | 95 => ⟨S170000x300, .f32⟩
  | 96 => ⟨S170000x300, .f32⟩
  | 97 => ⟨S_, .f32⟩
  | 98 => ⟨S10000x300, .f32⟩
  | 99 => ⟨S170000x1, .i32⟩
  | 100 => ⟨S10000x300, .f32⟩
  | 101 => ⟨S1x300x600, .f32⟩
  | 102 => ⟨S300x600, .f32⟩
  | 103 => ⟨S1x600, .f32⟩
  | 104 => ⟨S600, .f32⟩
  | 105 => ⟨S1x600x300, .f32⟩
  | 106 => ⟨S600x300, .f32⟩
  | 107 => ⟨S1x300, .f32⟩
  | 108 => ⟨S300, .f32⟩
  | 109 => ⟨S10000x600, .f32⟩
  | 110 => ⟨S1x600, .f32⟩
  | 111 => ⟨S10000x600, .f32⟩
  | 112 => ⟨S10000x600, .f32⟩
  | 113 => ⟨S_, .f32⟩
  | 114 => ⟨S10000x600, .f32⟩
  | 115 => ⟨S10000x600, .f32⟩
  | 116 => ⟨S10000x300, .f32⟩
  | 117 => ⟨S1x300, .f32⟩
  | 118 => ⟨S10000x300, .f32⟩
  | 119 => ⟨S10000x300, .f32⟩
  | 120 => ⟨S_, .f32⟩
  | 121 => ⟨S300, .f32⟩
  | 122 => ⟨S_, .f32⟩
  | 123 => ⟨S300, .f32⟩
  | 124 => ⟨S300, .f32⟩
  | 125 => ⟨S_, .i32⟩
  | 126 => ⟨S_, .f32⟩
  | 127 => ⟨S300, .f32⟩
  | _ => ⟨S10000x2, .i32⟩

abbrev hbmTy0_1 (i : Nat) : BufTy := match i % 128 with
  | 0 => ⟨S1x300, .f32⟩
  | 1 => ⟨S_, .f32⟩
  | 2 => ⟨S1x300, .f32⟩
  | 3 => ⟨S1x300, .f32⟩
  | 4 => ⟨S10000x300, .f32⟩
  | 5 => ⟨S10000x300, .f32⟩
  | 6 => ⟨S10000x300, .f32⟩
  | 7 => ⟨S_, .f32⟩
  | 8 => ⟨S_, .f32⟩
  | 9 => ⟨S_, .f32⟩
  | 10 => ⟨S_, .f32⟩
  | 11 => ⟨S300, .f32⟩
  | 12 => ⟨S300, .f32⟩
  | 13 => ⟨S300, .f32⟩
  | 14 => ⟨S_, .f32⟩
  | 15 => ⟨S_, .i1⟩
  | 16 => ⟨S_, .f32⟩
  | 17 => ⟨S_, .f32⟩
  | 18 => ⟨S300, .f32⟩
  | 19 => ⟨S300, .f32⟩
  | 20 => ⟨S1x300, .f32⟩
  | 21 => ⟨S10000x300, .f32⟩
  | 22 => ⟨S10000x300, .f32⟩
  | 23 => ⟨S_, .f32⟩
  | 24 => ⟨S300, .f32⟩
  | 25 => ⟨S300, .f32⟩
  | 26 => ⟨S300, .f32⟩
  | 27 => ⟨S1x300, .f32⟩
  | 28 => ⟨S10000x300, .f32⟩
  | 29 => ⟨S10000x300, .f32⟩
  | 30 => ⟨S1x300, .f32⟩
  | 31 => ⟨S300, .f32⟩
  | 32 => ⟨S1x300, .f32⟩
  | 33 => ⟨S10000x300, .f32⟩
  | 34 => ⟨S10000x300, .f32⟩
  | 35 => ⟨S1x300, .f32⟩
  | 36 => ⟨S300, .f32⟩
  | 37 => ⟨S1x300, .f32⟩
  | 38 => ⟨S10000x300, .f32⟩
  | 39 => ⟨S10000x300, .f32⟩
  | 40 => ⟨S_, .f32⟩
  | 41 => ⟨S10000x300, .f32⟩
  | 42 => ⟨S10000x300, .f32⟩
  | 43 => ⟨S1x6x300, .f32⟩
  | 44 => ⟨S6x300, .f32⟩
  | 45 => ⟨S_, .i32⟩
  | 46 => ⟨S170000, .i32⟩
  | 47 => ⟨S170000, .i1⟩
  | 48 => ⟨S_, .i32⟩
  | 49 => ⟨S170000, .i32⟩
  | 50 => ⟨S170000, .i32⟩
  | 51 => ⟨S170000, .i32⟩
  | 52 => ⟨S170000x1, .i32⟩
  | 53 => ⟨S170000x300, .f32⟩
  | 54 => ⟨S1x3x300, .f32⟩
  | 55 => ⟨S3x300, .f32⟩
  | 56 => ⟨S_, .i32⟩
  | 57 => ⟨S170000, .i32⟩
  | 58 => ⟨S170000, .i1⟩
  | 59 => ⟨S_, .i32⟩
  | 60 => ⟨S170000, .i32⟩
  | 61 => ⟨S170000, .i32⟩
  | 62 => ⟨S170000, .i32⟩
  | 63 => ⟨S170000x1, .i32⟩
  | 64 => ⟨S170000x300, .f32⟩
  | 65 => ⟨S170000x300, .f32⟩
  | 66 => ⟨S_, .i32⟩
  | 67 => ⟨S170000, .i32⟩
  | 68 => ⟨S170000, .i1⟩
  | 69 => ⟨S_, .i32⟩
  | 70 => ⟨S170000, .i32⟩
  | 71 => ⟨S170000, .i32⟩
  | 72 => ⟨S170000, .i32⟩
  | 73 => ⟨S170000x1, .i32⟩
  | 74 => ⟨S170000x300, .f32⟩
  | 75 => ⟨S170000x300, .f32⟩
  | 76 => ⟨S_, .f32⟩
  | 77 => ⟨S10000x300, .f32⟩
  | 78 => ⟨S170000x1, .i32⟩
  | 79 => ⟨S10000x300, .f32⟩
  | 80 => ⟨S1x300x600, .f32⟩
  | 81 => ⟨S300x600, .f32⟩
  | 82 => ⟨S1x600, .f32⟩
  | 83 => ⟨S600, .f32⟩
  | 84 => ⟨S1x600x300, .f32⟩
  | 85 => ⟨S600x300, .f32⟩
  | 86 => ⟨S1x300, .f32⟩
  | 87 => ⟨S300, .f32⟩
  | 88 => ⟨S10000x600, .f32⟩
  | 89 => ⟨S1x600, .f32⟩
  | 90 => ⟨S10000x600, .f32⟩
  | 91 => ⟨S10000x600, .f32⟩
  | 92 => ⟨S_, .f32⟩
  | 93 => ⟨S10000x600, .f32⟩
  | 94 => ⟨S10000x600, .f32⟩
  | 95 => ⟨S10000x300, .f32⟩
  | 96 => ⟨S1x300, .f32⟩
  | 97 => ⟨S10000x300, .f32⟩
  | 98 => ⟨S10000x300, .f32⟩
  | 99 => ⟨S_, .f32⟩
  | 100 => ⟨S300, .f32⟩
  | 101 => ⟨S_, .f32⟩
  | 102 => ⟨S300, .f32⟩
  | 103 => ⟨S300, .f32⟩
  | 104 => ⟨S_, .i32⟩
  | 105 => ⟨S_, .f32⟩
  | 106 => ⟨S300, .f32⟩
  | 107 => ⟨S1x300, .f32⟩
  | 108 => ⟨S_, .f32⟩
  | 109 => ⟨S1x300, .f32⟩
  | 110 => ⟨S1x300, .f32⟩
  | 111 => ⟨S10000x300, .f32⟩
  | 112 => ⟨S10000x300, .f32⟩
  | 113 => ⟨S10000x300, .f32⟩
  | 114 => ⟨S_, .f32⟩
  | 115 => ⟨S_, .f32⟩
  | 116 => ⟨S_, .f32⟩
  | 117 => ⟨S_, .f32⟩
  | 118 => ⟨S300, .f32⟩
  | 119 => ⟨S300, .f32⟩
  | 120 => ⟨S300, .f32⟩
  | 121 => ⟨S_, .f32⟩
  | 122 => ⟨S_, .i1⟩
  | 123 => ⟨S_, .f32⟩
  | 124 => ⟨S_, .f32⟩
  | 125 => ⟨S300, .f32⟩
  | 126 => ⟨S300, .f32⟩
  | 127 => ⟨S1x300, .f32⟩
  | _ => ⟨S10000x2, .i32⟩

abbrev hbmTy0_2 (i : Nat) : BufTy := match i % 128 with
  | 0 => ⟨S10000x300, .f32⟩
  | 1 => ⟨S10000x300, .f32⟩
  | 2 => ⟨S_, .f32⟩
  | 3 => ⟨S300, .f32⟩
  | 4 => ⟨S300, .f32⟩
  | 5 => ⟨S300, .f32⟩
  | 6 => ⟨S1x300, .f32⟩
  | 7 => ⟨S10000x300, .f32⟩
  | 8 => ⟨S10000x300, .f32⟩
  | 9 => ⟨S1x300, .f32⟩
  | 10 => ⟨S300, .f32⟩
  | 11 => ⟨S1x300, .f32⟩
  | 12 => ⟨S10000x300, .f32⟩
  | 13 => ⟨S10000x300, .f32⟩
  | 14 => ⟨S1x300, .f32⟩
  | 15 => ⟨S300, .f32⟩
  | 16 => ⟨S1x300, .f32⟩
  | 17 => ⟨S10000x300, .f32⟩
  | 18 => ⟨S10000x300, .f32⟩
  | 19 => ⟨S_, .f32⟩
  | 20 => ⟨S10000x300, .f32⟩
  | 21 => ⟨S10000x300, .f32⟩
  | 22 => ⟨S1x6x300, .f32⟩
  | 23 => ⟨S6x300, .f32⟩
  | 24 => ⟨S_, .i32⟩
  | 25 => ⟨S170000, .i32⟩
  | 26 => ⟨S170000, .i1⟩
  | 27 => ⟨S_, .i32⟩
  | 28 => ⟨S170000, .i32⟩
  | 29 => ⟨S170000, .i32⟩
  | 30 => ⟨S170000, .i32⟩
  | 31 => ⟨S170000x1, .i32⟩
  | 32 => ⟨S170000x300, .f32⟩
  | 33 => ⟨S1x3x300, .f32⟩
  | 34 => ⟨S3x300, .f32⟩
  | 35 => ⟨S_, .i32⟩
  | 36 => ⟨S170000, .i32⟩
  | 37 => ⟨S170000, .i1⟩
  | 38 => ⟨S_, .i32⟩
  | 39 => ⟨S170000, .i32⟩
  | 40 => ⟨S170000, .i32⟩
  | 41 => ⟨S170000, .i32⟩
  | 42 => ⟨S170000x1, .i32⟩
  | 43 => ⟨S170000x300, .f32⟩
  | 44 => ⟨S170000x300, .f32⟩
  | 45 => ⟨S_, .i32⟩
  | 46 => ⟨S170000, .i32⟩
  | 47 => ⟨S170000, .i1⟩
  | 48 => ⟨S_, .i32⟩
  | 49 => ⟨S170000, .i32⟩
  | 50 => ⟨S170000, .i32⟩
  | 51 => ⟨S170000, .i32⟩
  | 52 => ⟨S170000x1, .i32⟩
  | 53 => ⟨S170000x300, .f32⟩
  | 54 => ⟨S170000x300, .f32⟩
  | 55 => ⟨S_, .f32⟩
  | 56 => ⟨S10000x300, .f32⟩
  | 57 => ⟨S170000x1, .i32⟩
  | 58 => ⟨S10000x300, .f32⟩
  | 59 => ⟨S1x300x600, .f32⟩
  | 60 => ⟨S300x600, .f32⟩
  | 61 => ⟨S1x600, .f32⟩
  | 62 => ⟨S600, .f32⟩
  | 63 => ⟨S1x600x300, .f32⟩
  | 64 => ⟨S600x300, .f32⟩
  | 65 => ⟨S1x300, .f32⟩
  | 66 => ⟨S300, .f32⟩
  | 67 => ⟨S10000x600, .f32⟩
  | 68 => ⟨S1x600, .f32⟩
  | 69 => ⟨S10000x600, .f32⟩
  | 70 => ⟨S10000x600, .f32⟩
  | 71 => ⟨S_, .f32⟩
  | 72 => ⟨S10000x600, .f32⟩
  | 73 => ⟨S10000x600, .f32⟩
  | 74 => ⟨S10000x300, .f32⟩
  | 75 => ⟨S1x300, .f32⟩
  | 76 => ⟨S10000x300, .f32⟩
  | 77 => ⟨S10000x300, .f32⟩
  | 78 => ⟨S_, .f32⟩
  | 79 => ⟨S300, .f32⟩
  | 80 => ⟨S_, .f32⟩
  | 81 => ⟨S300, .f32⟩
  | 82 => ⟨S300, .f32⟩
  | 83 => ⟨S_, .i32⟩
  | 84 => ⟨S_, .f32⟩
  | 85 => ⟨S300, .f32⟩
  | 86 => ⟨S1x300, .f32⟩
  | 87 => ⟨S_, .f32⟩
  | 88 => ⟨S1x300, .f32⟩
  | 89 => ⟨S1x300, .f32⟩
  | 90 => ⟨S10000x300, .f32⟩
  | 91 => ⟨S10000x300, .f32⟩
  | 92 => ⟨S10000x300, .f32⟩
  | 93 => ⟨S_, .f32⟩
  | 94 => ⟨S_, .f32⟩
  | 95 => ⟨S_, .f32⟩
  | 96 => ⟨S_, .f32⟩
  | 97 => ⟨S300, .f32⟩
  | 98 => ⟨S300, .f32⟩
  | 99 => ⟨S300, .f32⟩
  | 100 => ⟨S_, .f32⟩
  | 101 => ⟨S_, .i1⟩
  | 102 => ⟨S_, .f32⟩
  | 103 => ⟨S_, .f32⟩
  | 104 => ⟨S300, .f32⟩
  | 105 => ⟨S300, .f32⟩
  | 106 => ⟨S1x300, .f32⟩
  | 107 => ⟨S10000x300, .f32⟩
  | 108 => ⟨S10000x300, .f32⟩
  | 109 => ⟨S_, .f32⟩
  | 110 => ⟨S300, .f32⟩
  | 111 => ⟨S300, .f32⟩
  | 112 => ⟨S300, .f32⟩
  | 113 => ⟨S1x300, .f32⟩
  | 114 => ⟨S10000x300, .f32⟩
  | 115 => ⟨S10000x300, .f32⟩
  | 116 => ⟨S1x300, .f32⟩
  | 117 => ⟨S300, .f32⟩
  | 118 => ⟨S1x300, .f32⟩
  | 119 => ⟨S10000x300, .f32⟩
  | 120 => ⟨S10000x300, .f32⟩
  | 121 => ⟨S1x300, .f32⟩
  | 122 => ⟨S300, .f32⟩
  | 123 => ⟨S1x300, .f32⟩
  | 124 => ⟨S10000x300, .f32⟩
  | 125 => ⟨S10000x300, .f32⟩
  | 126 => ⟨S_, .f32⟩
  | 127 => ⟨S10000x300, .f32⟩
  | _ => ⟨S10000x2, .i32⟩

abbrev hbmTy0_3 (i : Nat) : BufTy := match i % 128 with
  | 0 => ⟨S10000x300, .f32⟩
  | 1 => ⟨S1x6x300, .f32⟩
  | 2 => ⟨S6x300, .f32⟩
  | 3 => ⟨S_, .i32⟩
  | 4 => ⟨S170000, .i32⟩
  | 5 => ⟨S170000, .i1⟩
  | 6 => ⟨S_, .i32⟩
  | 7 => ⟨S170000, .i32⟩
  | 8 => ⟨S170000, .i32⟩
  | 9 => ⟨S170000, .i32⟩
  | 10 => ⟨S170000x1, .i32⟩
  | 11 => ⟨S170000x300, .f32⟩
  | 12 => ⟨S1x3x300, .f32⟩
  | 13 => ⟨S3x300, .f32⟩
  | 14 => ⟨S_, .i32⟩
  | 15 => ⟨S170000, .i32⟩
  | 16 => ⟨S170000, .i1⟩
  | 17 => ⟨S_, .i32⟩
  | 18 => ⟨S170000, .i32⟩
  | 19 => ⟨S170000, .i32⟩
  | 20 => ⟨S170000, .i32⟩
  | 21 => ⟨S170000x1, .i32⟩
  | 22 => ⟨S170000x300, .f32⟩
  | 23 => ⟨S170000x300, .f32⟩
  | 24 => ⟨S_, .i32⟩
  | 25 => ⟨S170000, .i32⟩
  | 26 => ⟨S170000, .i1⟩
  | 27 => ⟨S_, .i32⟩
  | 28 => ⟨S170000, .i32⟩
  | 29 => ⟨S170000, .i32⟩
  | 30 => ⟨S170000, .i32⟩
  | 31 => ⟨S170000x1, .i32⟩
  | 32 => ⟨S170000x300, .f32⟩
  | 33 => ⟨S170000x300, .f32⟩
  | 34 => ⟨S_, .f32⟩
  | 35 => ⟨S10000x300, .f32⟩
  | 36 => ⟨S170000x1, .i32⟩
  | 37 => ⟨S10000x300, .f32⟩
  | 38 => ⟨S1x300x600, .f32⟩
  | 39 => ⟨S300x600, .f32⟩
  | 40 => ⟨S1x600, .f32⟩
  | 41 => ⟨S600, .f32⟩
  | 42 => ⟨S1x600x300, .f32⟩
  | 43 => ⟨S600x300, .f32⟩
  | 44 => ⟨S1x300, .f32⟩
  | 45 => ⟨S300, .f32⟩
  | 46 => ⟨S10000x600, .f32⟩
  | 47 => ⟨S1x600, .f32⟩
  | 48 => ⟨S10000x600, .f32⟩
  | 49 => ⟨S10000x600, .f32⟩
  | 50 => ⟨S_, .f32⟩
  | 51 => ⟨S10000x600, .f32⟩
  | 52 => ⟨S10000x600, .f32⟩
  | 53 => ⟨S10000x300, .f32⟩
  | 54 => ⟨S1x300, .f32⟩
  | 55 => ⟨S10000x300, .f32⟩
  | 56 => ⟨S10000x300, .f32⟩
  | 57 => ⟨S_, .f32⟩
  | 58 => ⟨S300, .f32⟩
  | 59 => ⟨S_, .f32⟩
  | 60 => ⟨S300, .f32⟩
  | 61 => ⟨S300, .f32⟩
  | 62 => ⟨S_, .i32⟩
  | 63 => ⟨S_, .f32⟩
  | 64 => ⟨S300, .f32⟩
  | 65 => ⟨S1x300, .f32⟩
  | 66 => ⟨S_, .f32⟩
  | 67 => ⟨S1x300, .f32⟩
  | 68 => ⟨S1x300, .f32⟩
  | 69 => ⟨S10000x300, .f32⟩
  | 70 => ⟨S10000x300, .f32⟩
  | 71 => ⟨S10000x300, .f32⟩
  | 72 => ⟨S_, .f32⟩
  | 73 => ⟨S_, .f32⟩
  | 74 => ⟨S_, .f32⟩
  | 75 => ⟨S_, .f32⟩
  | 76 => ⟨S300, .f32⟩
  | 77 => ⟨S300, .f32⟩
  | 78 => ⟨S300, .f32⟩
  | 79 => ⟨S_, .f32⟩
  | 80 => ⟨S_, .i1⟩
  | 81 => ⟨S_, .f32⟩
  | 82 => ⟨S_, .f32⟩
  | 83 => ⟨S300, .f32⟩
  | 84 => ⟨S300, .f32⟩
  | 85 => ⟨S1x300, .f32⟩
  | 86 => ⟨S10000x300, .f32⟩
  | 87 => ⟨S10000x300, .f32⟩
  | 88 => ⟨S_, .f32⟩
  | 89 => ⟨S300, .f32⟩
  | 90 => ⟨S300, .f32⟩
  | 91 => ⟨S300, .f32⟩
  | 92 => ⟨S1x300, .f32⟩
  | 93 => ⟨S10000x300, .f32⟩
  | 94 => ⟨S10000x300, .f32⟩
  | 95 => ⟨S1x300, .f32⟩
  | 96 => ⟨S300, .f32⟩
  | 97 => ⟨S1x300, .f32⟩
  | 98 => ⟨S10000x300, .f32⟩
  | 99 => ⟨S10000x300, .f32⟩
  | 100 => ⟨S1x300, .f32⟩
  | 101 => ⟨S300, .f32⟩
  | 102 => ⟨S1x300, .f32⟩
  | 103 => ⟨S10000x300, .f32⟩
  | 104 => ⟨S10000x300, .f32⟩
  | 105 => ⟨S_, .f32⟩
  | 106 => ⟨S10000x300, .f32⟩
  | 107 => ⟨S10000x300, .f32⟩
  | 108 => ⟨S1x6x300, .f32⟩
  | 109 => ⟨S6x300, .f32⟩
  | 110 => ⟨S_, .i32⟩
  | 111 => ⟨S170000, .i32⟩
  | 112 => ⟨S170000, .i1⟩
  | 113 => ⟨S_, .i32⟩
  | 114 => ⟨S170000, .i32⟩
  | 115 => ⟨S170000, .i32⟩
  | 116 => ⟨S170000, .i32⟩
  | 117 => ⟨S170000x1, .i32⟩
  | 118 => ⟨S170000x300, .f32⟩
  | 119 => ⟨S1x3x300, .f32⟩
  | 120 => ⟨S3x300, .f32⟩
  | 121 => ⟨S_, .i32⟩
  | 122 => ⟨S170000, .i32⟩
  | 123 => ⟨S170000, .i1⟩
  | 124 => ⟨S_, .i32⟩
  | 125 => ⟨S170000, .i32⟩
  | 126 => ⟨S170000, .i32⟩
  | 127 => ⟨S170000, .i32⟩
  | _ => ⟨S10000x2, .i32⟩

abbrev hbmTy0_4 (i : Nat) : BufTy := match i % 128 with
  | 0 => ⟨S170000x1, .i32⟩
  | 1 => ⟨S170000x300, .f32⟩
  | 2 => ⟨S170000x300, .f32⟩
  | 3 => ⟨S_, .i32⟩
  | 4 => ⟨S170000, .i32⟩
  | 5 => ⟨S170000, .i1⟩
  | 6 => ⟨S_, .i32⟩
  | 7 => ⟨S170000, .i32⟩
  | 8 => ⟨S170000, .i32⟩
  | 9 => ⟨S170000, .i32⟩
  | 10 => ⟨S170000x1, .i32⟩
  | 11 => ⟨S170000x300, .f32⟩
  | 12 => ⟨S170000x300, .f32⟩
  | 13 => ⟨S_, .f32⟩
  | 14 => ⟨S10000x300, .f32⟩
  | 15 => ⟨S170000x1, .i32⟩
  | 16 => ⟨S10000x300, .f32⟩
  | 17 => ⟨S1x300x600, .f32⟩
  | 18 => ⟨S300x600, .f32⟩
  | 19 => ⟨S1x600, .f32⟩
  | 20 => ⟨S600, .f32⟩
  | 21 => ⟨S1x600x300, .f32⟩
  | 22 => ⟨S600x300, .f32⟩
  | 23 => ⟨S1x300, .f32⟩
  | 24 => ⟨S300, .f32⟩
  | 25 => ⟨S10000x600, .f32⟩
  | 26 => ⟨S1x600, .f32⟩
  | 27 => ⟨S10000x600, .f32⟩
  | 28 => ⟨S10000x600, .f32⟩
  | 29 => ⟨S_, .f32⟩
  | 30 => ⟨S10000x600, .f32⟩
  | 31 => ⟨S10000x600, .f32⟩
  | 32 => ⟨S10000x300, .f32⟩
  | 33 => ⟨S1x300, .f32⟩
  | 34 => ⟨S10000x300, .f32⟩
  | 35 => ⟨S10000x300, .f32⟩
  | 36 => ⟨S_, .f32⟩
  | 37 => ⟨S300, .f32⟩
  | 38 => ⟨S_, .f32⟩
  | 39 => ⟨S300, .f32⟩
  | 40 => ⟨S300, .f32⟩
  | 41 => ⟨S_, .i32⟩
  | 42 => ⟨S_, .f32⟩
  | 43 => ⟨S300, .f32⟩
  | 44 => ⟨S1x300, .f32⟩
  | 45 => ⟨S_, .f32⟩
  | 46 => ⟨S1x300, .f32⟩
  | 47 => ⟨S1x300, .f32⟩
  | 48 => ⟨S10000x300, .f32⟩
  | 49 => ⟨S10000x300, .f32⟩
  | 50 => ⟨S10000x300, .f32⟩
  | 51 => ⟨S_, .f32⟩
  | 52 => ⟨S_, .f32⟩
  | 53 => ⟨S_, .f32⟩
  | 54 => ⟨S_, .f32⟩
  | 55 => ⟨S300, .f32⟩
  | 56 => ⟨S300, .f32⟩
  | 57 => ⟨S300, .f32⟩
  | 58 => ⟨S_, .f32⟩
  | 59 => ⟨S_, .i1⟩
  | 60 => ⟨S_, .f32⟩
  | 61 => ⟨S_, .f32⟩
  | 62 => ⟨S300, .f32⟩
  | 63 => ⟨S300, .f32⟩
  | 64 => ⟨S1x300, .f32⟩
  | 65 => ⟨S10000x300, .f32⟩
  | 66 => ⟨S10000x300, .f32⟩
  | 67 => ⟨S_, .f32⟩
  | 68 => ⟨S300, .f32⟩
  | 69 => ⟨S300, .f32⟩
  | 70 => ⟨S300, .f32⟩
  | 71 => ⟨S1x300, .f32⟩
  | 72 => ⟨S10000x300, .f32⟩
  | 73 => ⟨S10000x300, .f32⟩
  | 74 => ⟨S1x300, .f32⟩
  | 75 => ⟨S300, .f32⟩
  | 76 => ⟨S1x300, .f32⟩
  | 77 => ⟨S10000x300, .f32⟩
  | 78 => ⟨S10000x300, .f32⟩
  | 79 => ⟨S1x300, .f32⟩
  | 80 => ⟨S300, .f32⟩
  | 81 => ⟨S1x300, .f32⟩
  | 82 => ⟨S10000x300, .f32⟩
  | 83 => ⟨S10000x300, .f32⟩
  | 84 => ⟨S1x160000, .i32⟩
  | 85 => ⟨S160000, .i32⟩
  | 86 => ⟨S1x160000, .i32⟩
  | 87 => ⟨S160000, .i32⟩
  | 88 => ⟨S160000x1, .i32⟩
  | 89 => ⟨S160000, .i32⟩
  | 90 => ⟨S160000x1, .i32⟩
  | 91 => ⟨S160000, .i32⟩
  | 92 => ⟨S10000x1, .i32⟩
  | 93 => ⟨S10000, .i32⟩
  | 94 => ⟨S_, .i32⟩
  | 95 => ⟨S10000, .i32⟩
  | 96 => ⟨S10000, .i1⟩
  | 97 => ⟨S_, .i32⟩
  | 98 => ⟨S10000, .i32⟩
  | 99 => ⟨S10000, .i32⟩
  | 100 => ⟨S10000, .i32⟩
  | 101 => ⟨S10000x1, .i32⟩
  | 102 => ⟨S10000x300, .f32⟩
  | 103 => ⟨S10000x1, .i32⟩
  | 104 => ⟨S10000, .i32⟩
  | 105 => ⟨S_, .i32⟩
  | 106 => ⟨S10000, .i32⟩
  | 107 => ⟨S10000, .i1⟩
  | 108 => ⟨S_, .i32⟩
  | 109 => ⟨S10000, .i32⟩
  | 110 => ⟨S10000, .i32⟩
  | 111 => ⟨S10000, .i32⟩
  | 112 => ⟨S10000x1, .i32⟩
  | 113 => ⟨S10000x300, .f32⟩
  | 114 => ⟨S10000x300, .f32⟩
  | 115 => ⟨S10000, .i32⟩
  | 116 => ⟨S170000, .i32⟩
  | 117 => ⟨S170000, .i32⟩
  | 118 => ⟨S_, .i32⟩
  | 119 => ⟨S10000, .i32⟩
  | 120 => ⟨S170000, .i32⟩
  | 121 => ⟨S_, .i32⟩
  | 122 => ⟨S10000, .i32⟩
  | 123 => ⟨S170000, .i32⟩
  | 124 => ⟨S1x6x300, .f32⟩
  | 125 => ⟨S6x300, .f32⟩
  | 126 => ⟨S_, .i32⟩
  | 127 => ⟨S170000, .i32⟩
  | _ => ⟨S10000x2, .i32⟩

abbrev hbmTy0_5 (i : Nat) : BufTy := match i % 128 with
  | 0 => ⟨S170000, .i1⟩
  | 1 => ⟨S_, .i32⟩
  | 2 => ⟨S170000, .i32⟩
  | 3 => ⟨S170000, .i32⟩
  | 4 => ⟨S170000, .i32⟩
  | 5 => ⟨S170000x1, .i32⟩
  | 6 => ⟨S170000x300, .f32⟩
  | 7 => ⟨S1x3x300, .f32⟩
  | 8 => ⟨S3x300, .f32⟩
  | 9 => ⟨S_, .i32⟩
  | 10 => ⟨S170000, .i32⟩
  | 11 => ⟨S170000, .i1⟩
  | 12 => ⟨S_, .i32⟩
  | 13 => ⟨S170000, .i32⟩
  | 14 => ⟨S170000, .i32⟩
  | 15 => ⟨S170000, .i32⟩
  | 16 => ⟨S170000x1, .i32⟩
  | 17 => ⟨S170000x300, .f32⟩
  | 18 => ⟨S170000x300, .f32⟩
  | 19 => ⟨S_, .i32⟩
  | 20 => ⟨S170000, .i32⟩
  | 21 => ⟨S170000, .i1⟩
  | 22 => ⟨S_, .i32⟩
  | 23 => ⟨S170000, .i32⟩
  | 24 => ⟨S170000, .i32⟩
  | 25 => ⟨S170000, .i32⟩
  | 26 => ⟨S170000x1, .i32⟩
  | 27 => ⟨S170000x300, .f32⟩
  | 28 => ⟨S170000x300, .f32⟩
  | 29 => ⟨S_, .f32⟩
  | 30 => ⟨S10000x300, .f32⟩
  | 31 => ⟨S170000x1, .i32⟩
  | 32 => ⟨S10000x300, .f32⟩
  | 33 => ⟨S1x300x600, .f32⟩
  | 34 => ⟨S300x600, .f32⟩
  | 35 => ⟨S1x600, .f32⟩
  | 36 => ⟨S600, .f32⟩
  | 37 => ⟨S1x600x300, .f32⟩
  | 38 => ⟨S600x300, .f32⟩
  | 39 => ⟨S1x300, .f32⟩
  | 40 => ⟨S300, .f32⟩
  | 41 => ⟨S10000x600, .f32⟩
  | 42 => ⟨S1x600, .f32⟩
  | 43 => ⟨S10000x600, .f32⟩
  | 44 => ⟨S10000x600, .f32⟩
  | 45 => ⟨S_, .f32⟩
  | 46 => ⟨S10000x600, .f32⟩
  | 47 => ⟨S10000x600, .f32⟩
  | 48 => ⟨S10000x300, .f32⟩
  | 49 => ⟨S1x300, .f32⟩
  | 50 => ⟨S10000x300, .f32⟩
  | 51 => ⟨S10000x300, .f32⟩
  | 52 => ⟨S_, .f32⟩
  | 53 => ⟨S300, .f32⟩
  | 54 => ⟨S_, .f32⟩
  | 55 => ⟨S300, .f32⟩
  | 56 => ⟨S300, .f32⟩
  | 57 => ⟨S_, .i32⟩
  | 58 => ⟨S_, .f32⟩
  | 59 => ⟨S300, .f32⟩
  | 60 => ⟨S1x300, .f32⟩
  | 61 => ⟨S_, .f32⟩
  | 62 => ⟨S1x300, .f32⟩
  | 63 => ⟨S1x300, .f32⟩
  | 64 => ⟨S10000x300, .f32⟩
  | 65 => ⟨S10000x300, .f32⟩
  | 66 => ⟨S10000x300, .f32⟩
  | 67 => ⟨S_, .f32⟩
  | 68 => ⟨S_, .f32⟩
  | 69 => ⟨S_, .f32⟩
  | 70 => ⟨S_, .f32⟩
  | 71 => ⟨S300, .f32⟩
  | 72 => ⟨S300, .f32⟩
  | 73 => ⟨S300, .f32⟩
  | 74 => ⟨S_, .f32⟩
  | 75 => ⟨S_, .i1⟩
  | 76 => ⟨S_, .f32⟩
  | 77 => ⟨S_, .f32⟩
  | 78 => ⟨S300, .f32⟩
  | 79 => ⟨S300, .f32⟩
  | 80 => ⟨S1x300, .f32⟩
  | 81 => ⟨S10000x300, .f32⟩
  | 82 => ⟨S10000x300, .f32⟩
  | 83 => ⟨S_, .f32⟩
  | 84 => ⟨S300, .f32⟩
  | 85 => ⟨S300, .f32⟩
  | 86 => ⟨S300, .f32⟩
  | 87 => ⟨S1x300, .f32⟩
  | 88 => ⟨S10000x300, .f32⟩
  | 89 => ⟨S10000x300, .f32⟩
  | 90 => ⟨S1x300, .f32⟩
  | 91 => ⟨S300, .f32⟩
  | 92 => ⟨S1x300, .f32⟩
  | 93 => ⟨S10000x300, .f32⟩
  | 94 => ⟨S10000x300, .f32⟩
  | 95 => ⟨S1x300, .f32⟩
  | 96 => ⟨S300, .f32⟩
  | 97 => ⟨S1x300, .f32⟩
  | 98 => ⟨S10000x300, .f32⟩
  | 99 => ⟨S10000x300, .f32⟩
  | 100 => ⟨S_, .f32⟩
  | 101 => ⟨S10000x300, .f32⟩
  | 102 => ⟨S10000x300, .f32⟩
  | 103 => ⟨S1x6x300, .f32⟩
  | 104 => ⟨S6x300, .f32⟩
  | 105 => ⟨S_, .i32⟩
  | 106 => ⟨S170000, .i32⟩
  | 107 => ⟨S170000, .i1⟩
  | 108 => ⟨S_, .i32⟩
  | 109 => ⟨S170000, .i32⟩
  | 110 => ⟨S170000, .i32⟩
  | 111 => ⟨S170000, .i32⟩
  | 112 => ⟨S170000x1, .i32⟩
  | 113 => ⟨S170000x300, .f32⟩
  | 114 => ⟨S1x3x300, .f32⟩
  | 115 => ⟨S3x300, .f32⟩
  | 116 => ⟨S_, .i32⟩
  | 117 => ⟨S170000, .i32⟩
  | 118 => ⟨S170000, .i1⟩
  | 119 => ⟨S_, .i32⟩
  | 120 => ⟨S170000, .i32⟩
  | 121 => ⟨S170000, .i32⟩
  | 122 => ⟨S170000, .i32⟩
  | 123 => ⟨S170000x1, .i32⟩
  | 124 => ⟨S170000x300, .f32⟩
  | 125 => ⟨S170000x300, .f32⟩
  | 126 => ⟨S_, .i32⟩
  | 127 => ⟨S170000, .i32⟩
  | _ => ⟨S10000x2, .i32⟩

abbrev hbmTy0_6 (i : Nat) : BufTy := match i % 128 with
  | 0 => ⟨S170000, .i1⟩
  | 1 => ⟨S_, .i32⟩
  | 2 => ⟨S170000, .i32⟩
  | 3 => ⟨S170000, .i32⟩
  | 4 => ⟨S170000, .i32⟩
  | 5 => ⟨S170000x1, .i32⟩
  | 6 => ⟨S170000x300, .f32⟩
  | 7 => ⟨S170000x300, .f32⟩
  | 8 => ⟨S_, .f32⟩
  | 9 => ⟨S10000x300, .f32⟩
  | 10 => ⟨S170000x1, .i32⟩
  | 11 => ⟨S10000x300, .f32⟩
  | 12 => ⟨S1x300x600, .f32⟩
  | 13 => ⟨S300x600, .f32⟩
  | 14 => ⟨S1x600, .f32⟩
  | 15 => ⟨S600, .f32⟩
  | 16 => ⟨S1x600x300, .f32⟩
  | 17 => ⟨S600x300, .f32⟩
  | 18 => ⟨S1x300, .f32⟩
  | 19 => ⟨S300, .f32⟩
  | 20 => ⟨S10000x600, .f32⟩
  | 21 => ⟨S1x600, .f32⟩
  | 22 => ⟨S10000x600, .f32⟩
  | 23 => ⟨S10000x600, .f32⟩
  | 24 => ⟨S_, .f32⟩
  | 25 => ⟨S10000x600, .f32⟩
  | 26 => ⟨S10000x600, .f32⟩
  | 27 => ⟨S10000x300, .f32⟩
  | 28 => ⟨S1x300, .f32⟩
  | 29 => ⟨S10000x300, .f32⟩
  | 30 => ⟨S10000x300, .f32⟩
  | 31 => ⟨S_, .f32⟩
  | 32 => ⟨S300, .f32⟩
  | 33 => ⟨S_, .f32⟩
  | 34 => ⟨S300, .f32⟩
  | 35 => ⟨S300, .f32⟩
  | 36 => ⟨S_, .i32⟩
  | 37 => ⟨S_, .f32⟩
  | 38 => ⟨S300, .f32⟩
  | 39 => ⟨S1x300, .f32⟩
  | 40 => ⟨S_, .f32⟩
  | 41 => ⟨S1x300, .f32⟩
  | 42 => ⟨S1x300, .f32⟩
  | 43 => ⟨S10000x300, .f32⟩
  | 44 => ⟨S10000x300, .f32⟩
  | 45 => ⟨S10000x300, .f32⟩
  | 46 => ⟨S_, .f32⟩
  | 47 => ⟨S_, .f32⟩
  | 48 => ⟨S_, .f32⟩
  | 49 => ⟨S_, .f32⟩
  | 50 => ⟨S300, .f32⟩
  | 51 => ⟨S300, .f32⟩
  | 52 => ⟨S300, .f32⟩
  | 53 => ⟨S_, .f32⟩
  | 54 => ⟨S_, .i1⟩
  | 55 => ⟨S_, .f32⟩
  | 56 => ⟨S_, .f32⟩
  | 57 => ⟨S300, .f32⟩
  | 58 => ⟨S300, .f32⟩
  | 59 => ⟨S1x300, .f32⟩
  | 60 => ⟨S10000x300, .f32⟩
  | 61 => ⟨S10000x300, .f32⟩
  | 62 => ⟨S_, .f32⟩
  | 63 => ⟨S300, .f32⟩
  | 64 => ⟨S300, .f32⟩
  | 65 => ⟨S300, .f32⟩
  | 66 => ⟨S1x300, .f32⟩
  | 67 => ⟨S10000x300, .f32⟩
  | 68 => ⟨S10000x300, .f32⟩
  | 69 => ⟨S1x300, .f32⟩
  | 70 => ⟨S300, .f32⟩
  | 71 => ⟨S1x300, .f32⟩
  | 72 => ⟨S10000x300, .f32⟩
  | 73 => ⟨S10000x300, .f32⟩
  | 74 => ⟨S1x300, .f32⟩
  | 75 => ⟨S300, .f32⟩
  | 76 => ⟨S1x300, .f32⟩
  | 77 => ⟨S10000x300, .f32⟩
  | 78 => ⟨S10000x300, .f32⟩
  | 79 => ⟨S_, .f32⟩
  | 80 => ⟨S10000x300, .f32⟩
  | 81 => ⟨S10000x300, .f32⟩
  | 82 => ⟨S1x6x300, .f32⟩
  | 83 => ⟨S6x300, .f32⟩
  | 84 => ⟨S_, .i32⟩
  | 85 => ⟨S170000, .i32⟩
  | 86 => ⟨S170000, .i1⟩
  | 87 => ⟨S_, .i32⟩
  | 88 => ⟨S170000, .i32⟩
  | 89 => ⟨S170000, .i32⟩
  | 90 => ⟨S170000, .i32⟩
  | 91 => ⟨S170000x1, .i32⟩
  | 92 => ⟨S170000x300, .f32⟩
  | 93 => ⟨S1x3x300, .f32⟩
  | 94 => ⟨S3x300, .f32⟩
  | 95 => ⟨S_, .i32⟩
  | 96 => ⟨S170000, .i32⟩
  | 97 => ⟨S170000, .i1⟩
  | 98 => ⟨S_, .i32⟩
  | 99 => ⟨S170000, .i32⟩
  | 100 => ⟨S170000, .i32⟩
  | 101 => ⟨S170000, .i32⟩
  | 102 => ⟨S170000x1, .i32⟩
  | 103 => ⟨S170000x300, .f32⟩
  | 104 => ⟨S170000x300, .f32⟩
  | 105 => ⟨S_, .i32⟩
  | 106 => ⟨S170000, .i32⟩
  | 107 => ⟨S170000, .i1⟩
  | 108 => ⟨S_, .i32⟩
  | 109 => ⟨S170000, .i32⟩
  | 110 => ⟨S170000, .i32⟩
  | 111 => ⟨S170000, .i32⟩
  | 112 => ⟨S170000x1, .i32⟩
  | 113 => ⟨S170000x300, .f32⟩
  | 114 => ⟨S170000x300, .f32⟩
  | 115 => ⟨S_, .f32⟩
  | 116 => ⟨S10000x300, .f32⟩
  | 117 => ⟨S170000x1, .i32⟩
  | 118 => ⟨S10000x300, .f32⟩
  | 119 => ⟨S1x300x600, .f32⟩
  | 120 => ⟨S300x600, .f32⟩
  | 121 => ⟨S1x600, .f32⟩
  | 122 => ⟨S600, .f32⟩
  | 123 => ⟨S1x600x300, .f32⟩
  | 124 => ⟨S600x300, .f32⟩
  | 125 => ⟨S1x300, .f32⟩
  | 126 => ⟨S300, .f32⟩
  | 127 => ⟨S10000x600, .f32⟩
  | _ => ⟨S10000x2, .i32⟩

abbrev hbmTy0_7 (i : Nat) : BufTy := match i % 128 with
  | 0 => ⟨S1x600, .f32⟩
  | 1 => ⟨S10000x600, .f32⟩
  | 2 => ⟨S10000x600, .f32⟩
  | 3 => ⟨S_, .f32⟩
  | 4 => ⟨S10000x600, .f32⟩
  | 5 => ⟨S10000x600, .f32⟩
  | 6 => ⟨S10000x300, .f32⟩
  | 7 => ⟨S1x300, .f32⟩
  | 8 => ⟨S10000x300, .f32⟩
  | 9 => ⟨S10000x300, .f32⟩
  | 10 => ⟨S_, .f32⟩
  | 11 => ⟨S300, .f32⟩
  | 12 => ⟨S_, .f32⟩
  | 13 => ⟨S300, .f32⟩
  | 14 => ⟨S300, .f32⟩
  | 15 => ⟨S_, .i32⟩
  | 16 => ⟨S_, .f32⟩
  | 17 => ⟨S300, .f32⟩
  | 18 => ⟨S1x300, .f32⟩
  | 19 => ⟨S_, .f32⟩
  | 20 => ⟨S1x300, .f32⟩
  | 21 => ⟨S1x300, .f32⟩
  | 22 => ⟨S10000x300, .f32⟩
  | 23 => ⟨S10000x300, .f32⟩
  | 24 => ⟨S10000x300, .f32⟩
  | 25 => ⟨S_, .f32⟩
  | 26 => ⟨S_, .f32⟩
  | 27 => ⟨S_, .f32⟩
  | 28 => ⟨S_, .f32⟩
  | 29 => ⟨S300, .f32⟩
  | 30 => ⟨S300, .f32⟩
  | 31 => ⟨S300, .f32⟩
  | 32 => ⟨S_, .f32⟩
  | 33 => ⟨S_, .i1⟩
  | 34 => ⟨S_, .f32⟩
  | 35 => ⟨S_, .f32⟩
  | 36 => ⟨S300, .f32⟩
  | 37 => ⟨S300, .f32⟩
  | 38 => ⟨S1x300, .f32⟩
  | 39 => ⟨S10000x300, .f32⟩
  | 40 => ⟨S10000x300, .f32⟩
  | 41 => ⟨S_, .f32⟩
  | 42 => ⟨S300, .f32⟩
  | 43 => ⟨S300, .f32⟩
  | 44 => ⟨S300, .f32⟩
  | 45 => ⟨S1x300, .f32⟩
  | 46 => ⟨S10000x300, .f32⟩
  | 47 => ⟨S10000x300, .f32⟩
  | 48 => ⟨S1x300, .f32⟩
  | 49 => ⟨S300, .f32⟩
  | 50 => ⟨S1x300, .f32⟩
  | 51 => ⟨S10000x300, .f32⟩
  | 52 => ⟨S10000x300, .f32⟩
  | 53 => ⟨S1x300, .f32⟩
  | 54 => ⟨S300, .f32⟩
  | 55 => ⟨S1x300, .f32⟩
  | 56 => ⟨S10000x300, .f32⟩
  | 57 => ⟨S10000x300, .f32⟩
  | 58 => ⟨S_, .f32⟩
  | 59 => ⟨S10000x300, .f32⟩
  | 60 => ⟨S10000x300, .f32⟩
  | 61 => ⟨S1x6x300, .f32⟩
  | 62 => ⟨S6x300, .f32⟩
  | 63 => ⟨S_, .i32⟩
  | 64 => ⟨S170000, .i32⟩
  | 65 => ⟨S170000, .i1⟩
  | 66 => ⟨S_, .i32⟩
  | 67 => ⟨S170000, .i32⟩
  | 68 => ⟨S170000, .i32⟩
  | 69 => ⟨S170000, .i32⟩
  | 70 => ⟨S170000x1, .i32⟩
  | 71 => ⟨S170000x300, .f32⟩
  | 72 => ⟨S1x3x300, .f32⟩
  | 73 => ⟨S3x300, .f32⟩
  | 74 => ⟨S_, .i32⟩
  | 75 => ⟨S170000, .i32⟩
  | 76 => ⟨S170000, .i1⟩
  | 77 => ⟨S_, .i32⟩
  | 78 => ⟨S170000, .i32⟩
  | 79 => ⟨S170000, .i32⟩
  | 80 => ⟨S170000, .i32⟩
  | 81 => ⟨S170000x1, .i32⟩
  | 82 => ⟨S170000x300, .f32⟩
  | 83 => ⟨S170000x300, .f32⟩
  | 84 => ⟨S_, .i32⟩
  | 85 => ⟨S170000, .i32⟩
  | 86 => ⟨S170000, .i1⟩
  | 87 => ⟨S_, .i32⟩
  | 88 => ⟨S170000, .i32⟩
  | 89 => ⟨S170000, .i32⟩
  | 90 => ⟨S170000, .i32⟩
  | 91 => ⟨S170000x1, .i32⟩
  | 92 => ⟨S170000x300, .f32⟩
  | 93 => ⟨S170000x300, .f32⟩
  | 94 => ⟨S_, .f32⟩
  | 95 => ⟨S10000x300, .f32⟩
  | 96 => ⟨S170000x1, .i32⟩
  | 97 => ⟨S10000x300, .f32⟩
  | 98 => ⟨S1x300x600, .f32⟩
  | 99 => ⟨S300x600, .f32⟩
  | 100 => ⟨S1x600, .f32⟩
  | 101 => ⟨S600, .f32⟩
  | 102 => ⟨S1x600x300, .f32⟩
  | 103 => ⟨S600x300, .f32⟩
  | 104 => ⟨S1x300, .f32⟩
  | 105 => ⟨S300, .f32⟩
  | 106 => ⟨S10000x600, .f32⟩
  | 107 => ⟨S1x600, .f32⟩
  | 108 => ⟨S10000x600, .f32⟩
  | 109 => ⟨S10000x600, .f32⟩
  | 110 => ⟨S_, .f32⟩
  | 111 => ⟨S10000x600, .f32⟩
  | 112 => ⟨S10000x600, .f32⟩
  | 113 => ⟨S10000x300, .f32⟩
  | 114 => ⟨S1x300, .f32⟩
  | 115 => ⟨S10000x300, .f32⟩
  | 116 => ⟨S10000x300, .f32⟩
  | 117 => ⟨S_, .f32⟩
  | 118 => ⟨S300, .f32⟩
  | 119 => ⟨S_, .f32⟩
  | 120 => ⟨S300, .f32⟩
  | 121 => ⟨S300, .f32⟩
  | 122 => ⟨S_, .i32⟩
  | 123 => ⟨S_, .f32⟩
  | 124 => ⟨S300, .f32⟩
  | 125 => ⟨S1x300, .f32⟩
  | 126 => ⟨S_, .f32⟩
  | 127 => ⟨S1x300, .f32⟩
  | _ => ⟨S10000x2, .i32⟩

abbrev hbmTy0_8 (i : Nat) : BufTy := match i % 128 with
  | 0 => ⟨S1x300, .f32⟩
  | 1 => ⟨S10000x300, .f32⟩
  | 2 => ⟨S10000x300, .f32⟩
  | 3 => ⟨S10000x300, .f32⟩
  | 4 => ⟨S_, .f32⟩
  | 5 => ⟨S_, .f32⟩
  | 6 => ⟨S_, .f32⟩
  | 7 => ⟨S_, .f32⟩
  | 8 => ⟨S300, .f32⟩
  | 9 => ⟨S300, .f32⟩
  | 10 => ⟨S300, .f32⟩
  | 11 => ⟨S_, .f32⟩
  | 12 => ⟨S_, .i1⟩
  | 13 => ⟨S_, .f32⟩
  | 14 => ⟨S_, .f32⟩
  | 15 => ⟨S300, .f32⟩
  | 16 => ⟨S300, .f32⟩
  | 17 => ⟨S1x300, .f32⟩
  | 18 => ⟨S10000x300, .f32⟩
  | 19 => ⟨S10000x300, .f32⟩
  | 20 => ⟨S_, .f32⟩
  | 21 => ⟨S300, .f32⟩
  | 22 => ⟨S300, .f32⟩
  | 23 => ⟨S300, .f32⟩
  | 24 => ⟨S1x300, .f32⟩
  | 25 => ⟨S10000x300, .f32⟩
  | 26 => ⟨S10000x300, .f32⟩
  | 27 => ⟨S1x300, .f32⟩
  | 28 => ⟨S300, .f32⟩
  | 29 => ⟨S1x300, .f32⟩
  | 30 => ⟨S10000x300, .f32⟩
  | 31 => ⟨S10000x300, .f32⟩
  | 32 => ⟨S1x300, .f32⟩
  | 33 => ⟨S300, .f32⟩
  | 34 => ⟨S1x300, .f32⟩
  | 35 => ⟨S10000x300, .f32⟩
  | 36 => ⟨S10000x300, .f32⟩
  | 37 => ⟨S_, .f32⟩
  | 38 => ⟨S10000x300, .f32⟩
  | 39 => ⟨S10000x300, .f32⟩
  | 40 => ⟨S1x6x300, .f32⟩
  | 41 => ⟨S6x300, .f32⟩
  | 42 => ⟨S_, .i32⟩
  | 43 => ⟨S170000, .i32⟩
  | 44 => ⟨S170000, .i1⟩
  | 45 => ⟨S_, .i32⟩
  | 46 => ⟨S170000, .i32⟩
  | 47 => ⟨S170000, .i32⟩
  | 48 => ⟨S170000, .i32⟩
  | 49 => ⟨S170000x1, .i32⟩
  | 50 => ⟨S170000x300, .f32⟩
  | 51 => ⟨S1x3x300, .f32⟩
  | 52 => ⟨S3x300, .f32⟩
  | 53 => ⟨S_, .i32⟩
  | 54 => ⟨S170000, .i32⟩
  | 55 => ⟨S170000, .i1⟩
  | 56 => ⟨S_, .i32⟩
  | 57 => ⟨S170000, .i32⟩
  | 58 => ⟨S170000, .i32⟩
  | 59 => ⟨S170000, .i32⟩
  | 60 => ⟨S170000x1, .i32⟩
  | 61 => ⟨S170000x300, .f32⟩
  | 62 => ⟨S170000x300, .f32⟩
  | 63 => ⟨S_, .i32⟩
  | 64 => ⟨S170000, .i32⟩
  | 65 => ⟨S170000, .i1⟩
  | 66 => ⟨S_, .i32⟩
  | 67 => ⟨S170000, .i32⟩
  | 68 => ⟨S170000, .i32⟩
  | 69 => ⟨S170000, .i32⟩
  | 70 => ⟨S170000x1, .i32⟩
  | 71 => ⟨S170000x300, .f32⟩
  | 72 => ⟨S170000x300, .f32⟩
  | 73 => ⟨S_, .f32⟩
  | 74 => ⟨S10000x300, .f32⟩
  | 75 => ⟨S170000x1, .i32⟩
  | 76 => ⟨S10000x300, .f32⟩
  | 77 => ⟨S1x300x600, .f32⟩
  | 78 => ⟨S300x600, .f32⟩
  | 79 => ⟨S1x600, .f32⟩
  | 80 => ⟨S600, .f32⟩
  | 81 => ⟨S1x600x300, .f32⟩
  | 82 => ⟨S600x300, .f32⟩
  | 83 => ⟨S1x300, .f32⟩
  | 84 => ⟨S300, .f32⟩
  | 85 => ⟨S10000x600, .f32⟩
  | 86 => ⟨S1x600, .f32⟩
  | 87 => ⟨S10000x600, .f32⟩
  | 88 => ⟨S10000x600, .f32⟩
  | 89 => ⟨S_, .f32⟩
  | 90 => ⟨S10000x600, .f32⟩
  | 91 => ⟨S10000x600, .f32⟩
  | 92 => ⟨S10000x300, .f32⟩
  | 93 => ⟨S1x300, .f32⟩
  | 94 => ⟨S10000x300, .f32⟩
  | 95 => ⟨S10000x300, .f32⟩
  | 96 => ⟨S_, .f32⟩
  | 97 => ⟨S300, .f32⟩
  | 98 => ⟨S_, .f32⟩
  | 99 => ⟨S300, .f32⟩
  | 100 => ⟨S300, .f32⟩
  | 101 => ⟨S_, .i32⟩
  | 102 => ⟨S_, .f32⟩
  | 103 => ⟨S300, .f32⟩
  | 104 => ⟨S1x300, .f32⟩
  | 105 => ⟨S_, .f32⟩
  | 106 => ⟨S1x300, .f32⟩
  | 107 => ⟨S1x300, .f32⟩
  | 108 => ⟨S10000x300, .f32⟩
  | 109 => ⟨S10000x300, .f32⟩
  | 110 => ⟨S10000x300, .f32⟩
  | 111 => ⟨S_, .f32⟩
  | 112 => ⟨S_, .f32⟩
  | 113 => ⟨S_, .f32⟩
  | 114 => ⟨S_, .f32⟩
  | 115 => ⟨S300, .f32⟩
  | 116 => ⟨S300, .f32⟩
  | 117 => ⟨S300, .f32⟩
  | 118 => ⟨S_, .f32⟩
  | 119 => ⟨S_, .i1⟩
  | 120 => ⟨S_, .f32⟩
  | 121 => ⟨S_, .f32⟩
  | 122 => ⟨S300, .f32⟩
  | 123 => ⟨S300, .f32⟩
  | 124 => ⟨S1x300, .f32⟩
  | 125 => ⟨S10000x300, .f32⟩
  | 126 => ⟨S10000x300, .f32⟩
  | 127 => ⟨S_, .f32⟩
  | _ => ⟨S10000x2, .i32⟩

abbrev hbmTy0_9 (i : Nat) : BufTy := match i % 128 with
  | 0 => ⟨S300, .f32⟩
  | 1 => ⟨S300, .f32⟩
  | 2 => ⟨S300, .f32⟩
  | 3 => ⟨S1x300, .f32⟩
  | 4 => ⟨S10000x300, .f32⟩
  | 5 => ⟨S10000x300, .f32⟩
  | 6 => ⟨S1x300, .f32⟩
  | 7 => ⟨S300, .f32⟩
  | 8 => ⟨S1x300, .f32⟩
  | 9 => ⟨S10000x300, .f32⟩
  | 10 => ⟨S10000x300, .f32⟩
  | 11 => ⟨S1x300, .f32⟩
  | 12 => ⟨S300, .f32⟩
  | 13 => ⟨S1x300, .f32⟩
  | 14 => ⟨S10000x300, .f32⟩
  | 15 => ⟨S10000x300, .f32⟩
  | 16 => ⟨S_, .f32⟩
  | 17 => ⟨S512x300, .f32⟩
  | 18 => ⟨S10000x1, .i32⟩
  | 19 => ⟨S512x300, .f32⟩
  | 20 => ⟨S_, .f32⟩
  | 21 => ⟨S10000x1, .f32⟩
  | 22 => ⟨S_, .f32⟩
  | 23 => ⟨S512x1, .f32⟩
  | 24 => ⟨S10000x1, .i32⟩
  | 25 => ⟨S512x1, .f32⟩
  | 26 => ⟨S_, .f32⟩
  | 27 => ⟨S_, .f32⟩
  | 28 => ⟨S512x1, .f32⟩
  | 29 => ⟨S512x1, .f32⟩
  | 30 => ⟨S512x300, .f32⟩
  | 31 => ⟨S512x300, .f32⟩
  | 32 => ⟨S1x300x300, .f32⟩
  | 33 => ⟨S300x300, .f32⟩
  | 34 => ⟨S1x300, .f32⟩
  | 35 => ⟨S300, .f32⟩
  | 36 => ⟨S1x300x300, .f32⟩
  | 37 => ⟨S300x300, .f32⟩
  | 38 => ⟨S1x300, .f32⟩
  | 39 => ⟨S300, .f32⟩
  | 40 => ⟨S1x300, .f32⟩
  | 41 => ⟨S512x300, .f32⟩
  | 42 => ⟨S1x300, .f32⟩
  | 43 => ⟨S512x300, .f32⟩
  | 44 => ⟨S_, .i32⟩
  | 45 => ⟨S512, .i32⟩
  | 46 => ⟨S512, .i1⟩
  | 47 => ⟨S_, .i32⟩
  | 48 => ⟨S512, .i32⟩
  | 49 => ⟨S512, .i32⟩
  | 50 => ⟨S512, .i32⟩
  | 51 => ⟨S512x1, .i32⟩
  | 52 => ⟨S512x300, .f32⟩
  | 53 => ⟨S1x300x300, .f32⟩
  | 54 => ⟨S300x300, .f32⟩
  | 55 => ⟨S1x300, .f32⟩
  | 56 => ⟨S300, .f32⟩
  | 57 => ⟨S1x300x300, .f32⟩
  | 58 => ⟨S300x300, .f32⟩
  | 59 => ⟨S1x300, .f32⟩
  | 60 => ⟨S300, .f32⟩
  | 61 => ⟨S1x300, .f32⟩
  | 62 => ⟨S512x300, .f32⟩
  | 63 => ⟨S1x300, .f32⟩
  | 64 => ⟨S512x300, .f32⟩
  | 65 => ⟨S512x300, .f32⟩
  | 66 => ⟨S512x300, .f32⟩
  | 67 => ⟨S_, .f32⟩
  | 68 => ⟨S512, .f32⟩
  | 69 => ⟨S512x1, .f32⟩
  | 70 => ⟨S512x1, .f32⟩
  | 71 => ⟨S512x300, .f32⟩
  | 72 => ⟨S512x300, .f32⟩
  | 73 => ⟨S_, .f32⟩
  | 74 => ⟨S512x300, .f32⟩
  | 75 => ⟨S10000x1, .i32⟩
  | 76 => ⟨S512x300, .f32⟩
  | 77 => ⟨S_, .f32⟩
  | 78 => ⟨S10000x1, .f32⟩
  | 79 => ⟨S_, .f32⟩
  | 80 => ⟨S512x1, .f32⟩
  | 81 => ⟨S10000x1, .i32⟩
  | 82 => ⟨S512x1, .f32⟩
  | 83 => ⟨S_, .f32⟩
  | 84 => ⟨S_, .f32⟩
  | 85 => ⟨S512x1, .f32⟩
  | 86 => ⟨S512x1, .f32⟩
  | 87 => ⟨S512x300, .f32⟩
  | 88 => ⟨S512x300, .f32⟩
  | 89 => ⟨S1x300x300, .f32⟩
  | 90 => ⟨S300x300, .f32⟩
  | 91 => ⟨S1x300, .f32⟩
  | 92 => ⟨S300, .f32⟩
  | 93 => ⟨S1x300x300, .f32⟩
  | 94 => ⟨S300x300, .f32⟩
  | 95 => ⟨S1x300, .f32⟩
  | 96 => ⟨S300, .f32⟩
  | 97 => ⟨S1x300, .f32⟩
  | 98 => ⟨S512x300, .f32⟩
  | 99 => ⟨S1x300, .f32⟩
  | 100 => ⟨S512x300, .f32⟩
  | 101 => ⟨S_, .i32⟩
  | 102 => ⟨S512, .i32⟩
  | 103 => ⟨S512, .i1⟩
  | 104 => ⟨S_, .i32⟩
  | 105 => ⟨S512, .i32⟩
  | 106 => ⟨S512, .i32⟩
  | 107 => ⟨S512, .i32⟩
  | 108 => ⟨S512x1, .i32⟩
  | 109 => ⟨S512x300, .f32⟩
  | 110 => ⟨S1x300x300, .f32⟩
  | 111 => ⟨S300x300, .f32⟩
  | 112 => ⟨S1x300, .f32⟩
  | 113 => ⟨S300, .f32⟩
  | 114 => ⟨S1x300x300, .f32⟩
  | 115 => ⟨S300x300, .f32⟩
  | 116 => ⟨S1x300, .f32⟩
  | 117 => ⟨S300, .f32⟩
  | 118 => ⟨S1x300, .f32⟩
  | 119 => ⟨S512x300, .f32⟩
  | 120 => ⟨S1x300, .f32⟩
  | 121 => ⟨S512x300, .f32⟩
  | 122 => ⟨S512x300, .f32⟩
  | 123 => ⟨S512x300, .f32⟩
  | 124 => ⟨S_, .f32⟩
  | 125 => ⟨S512, .f32⟩
  | 126 => ⟨S512x1, .f32⟩
  | 127 => ⟨S512x1, .f32⟩
  | _ => ⟨S10000x2, .i32⟩

abbrev hbmTy0_10 (i : Nat) : BufTy := match i % 128 with
  | 0 => ⟨S512x300, .f32⟩
  | 1 => ⟨S512x300, .f32⟩
  | 2 => ⟨S512x512, .f32⟩
  | 3 => ⟨S_, .f32⟩
  | 4 => ⟨S512x512, .f32⟩
  | 5 => ⟨S512x512, .f32⟩
  | 6 => ⟨S512, .i32⟩
  | _ => ⟨S10000x2, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S10000x2, .i32⟩

abbrev bufTy : (tb : Table) → Fin (tcTables nBuf tb) → BufTy
  | .hbm, ⟨i, _⟩ => hbmTy i
  | .local _ .vmem, ⟨0, _⟩ => ⟨S512x300, .f32⟩
  | .local _ .vmem, ⟨1, _⟩ => ⟨S300x300, .f32⟩
  | .local _ .vmem, ⟨2, _⟩ => ⟨S1x300, .f32⟩
  | .local _ .vmem, ⟨3, _⟩ => ⟨S512x300, .f32⟩
  | .local _ .vmem, ⟨4, _⟩ => ⟨S512x300, .f32⟩
  | .local _ .vmem, ⟨5, _⟩ => ⟨S300x300, .f32⟩
  | .local _ .vmem, ⟨6, _⟩ => ⟨S1x300, .f32⟩
  | .local _ .vmem, ⟨7, _⟩ => ⟨S512x300, .f32⟩
  | .local _ .vmem, ⟨8, _⟩ => ⟨S512x300, .f32⟩
  | .local _ .vmem, ⟨9, _⟩ => ⟨S300x300, .f32⟩
  | .local _ .vmem, ⟨10, _⟩ => ⟨S1x300, .f32⟩
  | .local _ .vmem, ⟨11, _⟩ => ⟨S512x300, .f32⟩
  | .local _ .vmem, ⟨12, _⟩ => ⟨S512x300, .f32⟩
  | .local _ .vmem, ⟨13, _⟩ => ⟨S300x300, .f32⟩
  | .local _ .vmem, ⟨14, _⟩ => ⟨S1x300, .f32⟩
  | .local _ .vmem, ⟨15, _⟩ => ⟨S512x300, .f32⟩
  | .local _ .vmem, ⟨16, _⟩ => ⟨S512x300, .f32⟩
  | .local _ .vmem, ⟨17, _⟩ => ⟨S300x300, .f32⟩
  | .local _ .vmem, ⟨18, _⟩ => ⟨S1x300, .f32⟩
  | .local _ .vmem, ⟨19, _⟩ => ⟨S512x300, .f32⟩
  | .local _ .vmem, ⟨20, _⟩ => ⟨S512x300, .f32⟩
  | .local _ .vmem, ⟨21, _⟩ => ⟨S300x300, .f32⟩
  | .local _ .vmem, ⟨22, _⟩ => ⟨S1x300, .f32⟩
  | .local _ .vmem, ⟨23, _⟩ => ⟨S512x300, .f32⟩
  | .local _ .vmem, ⟨24, _⟩ => ⟨S512x300, .f32⟩
  | .local _ .vmem, ⟨25, _⟩ => ⟨S300x300, .f32⟩
  | .local _ .vmem, ⟨26, _⟩ => ⟨S1x300, .f32⟩
  | .local _ .vmem, ⟨27, _⟩ => ⟨S512x300, .f32⟩
  | .local _ .vmem, ⟨28, _⟩ => ⟨S512x300, .f32⟩
  | .local _ .vmem, ⟨29, _⟩ => ⟨S300x300, .f32⟩
  | .local _ .vmem, ⟨30, _⟩ => ⟨S1x300, .f32⟩
  | .local _ .vmem, ⟨31, _⟩ => ⟨S512x300, .f32⟩
  | .local _ .vmem, ⟨32, _⟩ => ⟨S512x300, .f32⟩
  | .local _ .vmem, ⟨33, _⟩ => ⟨S512x300, .f32⟩
  | .local _ .vmem, ⟨34, _⟩ => ⟨S512x512, .f32⟩
  | _, _ => ⟨S10000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_3 : Ref sig .tc := ⟨.hbm, 58, rfl⟩
abbrev main_v30 : Ref sig .tc := ⟨.hbm, 59, rfl⟩
abbrev main_v31 : Ref sig .tc := ⟨.hbm, 60, rfl⟩
abbrev main_c_4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_c_6 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_7 : Ref sig .tc := ⟨.hbm, 77, rfl⟩
abbrev main_v45 : Ref sig .tc := ⟨.hbm, 78, rfl⟩
abbrev main_v46 : Ref sig .tc := ⟨.hbm, 79, rfl⟩
abbrev main_c_8 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_9 : Ref sig .tc := ⟨.hbm, 87, rfl⟩
abbrev main_v53 : Ref sig .tc := ⟨.hbm, 88, rfl⟩
abbrev main_v54 : Ref sig .tc := ⟨.hbm, 89, rfl⟩
abbrev main_c_10 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call0_cst : Ref sig .tc := ⟨.hbm, 113, rfl⟩
abbrev main_call0_v0 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_11 : Ref sig .tc := ⟨.hbm, 120, rfl⟩
abbrev main_v81 : Ref sig .tc := ⟨.hbm, 121, rfl⟩
abbrev main_cst_12 : Ref sig .tc := ⟨.hbm, 122, rfl⟩
abbrev main_v82 : Ref sig .tc := ⟨.hbm, 123, rfl⟩
abbrev main_v83 : Ref sig .tc := ⟨.hbm, 124, rfl⟩
abbrev main_c_13 : Ref sig .tc := ⟨.hbm, 125, rfl⟩
abbrev main_call1_cst : Ref sig .tc := ⟨.hbm, 126, rfl⟩
abbrev main_call1_v0 : Ref sig .tc := ⟨.hbm, 127, rfl⟩
abbrev main_call1_v1 : Ref sig .tc := ⟨.hbm, 128, rfl⟩
abbrev main_call1_cst_0 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_call1_v5 : Ref sig .tc := ⟨.hbm, 133, rfl⟩
abbrev main_call1_v6 : Ref sig .tc := ⟨.hbm, 134, rfl⟩
abbrev main_call1_v7 : Ref sig .tc := ⟨.hbm, 135, rfl⟩
abbrev main_call1_cst_1 : Ref sig .tc := ⟨.hbm, 136, rfl⟩
abbrev main_call1_v8 : Ref sig .tc := ⟨.hbm, 137, rfl⟩
abbrev main_call1_cst_2 : Ref sig .tc := ⟨.hbm, 138, rfl⟩
abbrev main_call1_v9 : Ref sig .tc := ⟨.hbm, 139, rfl⟩
abbrev main_call1_v10 : Ref sig .tc := ⟨.hbm, 140, rfl⟩
abbrev main_call1_v11 : Ref sig .tc := ⟨.hbm, 141, rfl⟩
abbrev main_call1_cst_3 : Ref sig .tc := ⟨.hbm, 142, rfl⟩
abbrev main_call1_v12 : Ref sig .tc := ⟨.hbm, 143, rfl⟩
abbrev main_call1_cst_4 : Ref sig .tc := ⟨.hbm, 144, rfl⟩
abbrev main_call1_call0_v0 : Ref sig .tc := ⟨.hbm, 145, rfl⟩
abbrev main_call1_call0_v1 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_cst_14 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_call2_cst : Ref sig .tc := ⟨.hbm, 168, rfl⟩
abbrev main_call2_v0 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_c_15 : Ref sig .tc := ⟨.hbm, 173, rfl⟩
abbrev main_v107 : Ref sig .tc := ⟨.hbm, 174, rfl⟩
abbrev main_v108 : Ref sig .tc := ⟨.hbm, 175, rfl⟩
abbrev main_c_16 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_c_17 : Ref sig .tc := ⟨.hbm, 184, rfl⟩
abbrev main_v116 : Ref sig .tc := ⟨.hbm, 185, rfl⟩
abbrev main_v117 : Ref sig .tc := ⟨.hbm, 186, rfl⟩
abbrev main_c_18 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_c_19 : Ref sig .tc := ⟨.hbm, 194, rfl⟩
abbrev main_v124 : Ref sig .tc := ⟨.hbm, 195, rfl⟩
abbrev main_v125 : Ref sig .tc := ⟨.hbm, 196, rfl⟩
abbrev main_c_20 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_cst_21 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_call3_cst : Ref sig .tc := ⟨.hbm, 220, rfl⟩
abbrev main_call3_v0 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_cst_22 : Ref sig .tc := ⟨.hbm, 227, rfl⟩
abbrev main_v152 : Ref sig .tc := ⟨.hbm, 228, rfl⟩
abbrev main_cst_23 : Ref sig .tc := ⟨.hbm, 229, rfl⟩
abbrev main_v153 : Ref sig .tc := ⟨.hbm, 230, rfl⟩
abbrev main_v154 : Ref sig .tc := ⟨.hbm, 231, rfl⟩
abbrev main_c_24 : Ref sig .tc := ⟨.hbm, 232, rfl⟩
abbrev main_call4_cst : Ref sig .tc := ⟨.hbm, 233, rfl⟩
abbrev main_call4_v0 : Ref sig .tc := ⟨.hbm, 234, rfl⟩
abbrev main_call4_v1 : Ref sig .tc := ⟨.hbm, 235, rfl⟩
abbrev main_call4_cst_0 : Ref sig .tc := ⟨.hbm, 236, rfl⟩
abbrev main_call4_v2 : Ref sig .tc := ⟨.hbm, 237, rfl⟩
abbrev main_call4_v3 : Ref sig .tc := ⟨.hbm, 238, rfl⟩
abbrev main_call4_v4 : Ref sig .tc := ⟨.hbm, 239, rfl⟩
abbrev main_call4_v5 : Ref sig .tc := ⟨.hbm, 240, rfl⟩
abbrev main_call4_v6 : Ref sig .tc := ⟨.hbm, 241, rfl⟩
abbrev main_call4_v7 : Ref sig .tc := ⟨.hbm, 242, rfl⟩
abbrev main_call4_cst_1 : Ref sig .tc := ⟨.hbm, 243, rfl⟩
abbrev main_call4_v8 : Ref sig .tc := ⟨.hbm, 244, rfl⟩
abbrev main_call4_cst_2 : Ref sig .tc := ⟨.hbm, 245, rfl⟩
abbrev main_call4_v9 : Ref sig .tc := ⟨.hbm, 246, rfl⟩
abbrev main_call4_v10 : Ref sig .tc := ⟨.hbm, 247, rfl⟩
abbrev main_call4_v11 : Ref sig .tc := ⟨.hbm, 248, rfl⟩
abbrev main_call4_cst_3 : Ref sig .tc := ⟨.hbm, 249, rfl⟩
abbrev main_call4_v12 : Ref sig .tc := ⟨.hbm, 250, rfl⟩
abbrev main_call4_cst_4 : Ref sig .tc := ⟨.hbm, 251, rfl⟩
abbrev main_call4_call0_v0 : Ref sig .tc := ⟨.hbm, 252, rfl⟩
abbrev main_call4_call0_v1 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_cst_25 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_call5_cst : Ref sig .tc := ⟨.hbm, 275, rfl⟩
abbrev main_call5_v0 : Ref sig .tc := ⟨.hbm, 276, rfl⟩
abbrev main_v175 : Ref sig .tc := ⟨.hbm, 277, rfl⟩
abbrev main_v176 : Ref sig .tc := ⟨.hbm, 278, rfl⟩
abbrev main_v177 : Ref sig .tc := ⟨.hbm, 279, rfl⟩
abbrev main_c_26 : Ref sig .tc := ⟨.hbm, 280, rfl⟩
abbrev main_v178 : Ref sig .tc := ⟨.hbm, 281, rfl⟩
abbrev main_v179 : Ref sig .tc := ⟨.hbm, 282, rfl⟩
abbrev main_c_27 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_c_28 : Ref sig .tc := ⟨.hbm, 291, rfl⟩
abbrev main_v187 : Ref sig .tc := ⟨.hbm, 292, rfl⟩
abbrev main_v188 : Ref sig .tc := ⟨.hbm, 293, rfl⟩
abbrev main_c_29 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_c_30 : Ref sig .tc := ⟨.hbm, 301, rfl⟩
abbrev main_v195 : Ref sig .tc := ⟨.hbm, 302, rfl⟩
abbrev main_v196 : Ref sig .tc := ⟨.hbm, 303, rfl⟩
abbrev main_c_31 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_cst_32 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_call6_cst : Ref sig .tc := ⟨.hbm, 327, rfl⟩
abbrev main_call6_v0 : Ref sig .tc := ⟨.hbm, 328, rfl⟩
abbrev main_v218 : Ref sig .tc := ⟨.hbm, 329, rfl⟩
abbrev main_v219 : Ref sig .tc := ⟨.hbm, 330, rfl⟩
abbrev main_v220 : Ref sig .tc := ⟨.hbm, 331, rfl⟩
abbrev main_v221 : Ref sig .tc := ⟨.hbm, 332, rfl⟩
abbrev main_v222 : Ref sig .tc := ⟨.hbm, 333, rfl⟩
abbrev main_cst_33 : Ref sig .tc := ⟨.hbm, 334, rfl⟩
abbrev main_v223 : Ref sig .tc := ⟨.hbm, 335, rfl⟩
abbrev main_cst_34 : Ref sig .tc := ⟨.hbm, 336, rfl⟩
abbrev main_v224 : Ref sig .tc := ⟨.hbm, 337, rfl⟩
abbrev main_v225 : Ref sig .tc := ⟨.hbm, 338, rfl⟩
abbrev main_c_35 : Ref sig .tc := ⟨.hbm, 339, rfl⟩
abbrev main_call7_cst : Ref sig .tc := ⟨.hbm, 340, rfl⟩
abbrev main_call7_v0 : Ref sig .tc := ⟨.hbm, 341, rfl⟩
abbrev main_call7_v1 : Ref sig .tc := ⟨.hbm, 342, rfl⟩
abbrev main_call7_cst_0 : Ref sig .tc := ⟨.hbm, 343, rfl⟩
abbrev main_call7_v2 : Ref sig .tc := ⟨.hbm, 344, rfl⟩
abbrev main_call7_v3 : Ref sig .tc := ⟨.hbm, 345, rfl⟩
abbrev main_call7_v4 : Ref sig .tc := ⟨.hbm, 346, rfl⟩
abbrev main_call7_v5 : Ref sig .tc := ⟨.hbm, 347, rfl⟩
abbrev main_call7_v6 : Ref sig .tc := ⟨.hbm, 348, rfl⟩
abbrev main_call7_v7 : Ref sig .tc := ⟨.hbm, 349, rfl⟩
abbrev main_call7_cst_1 : Ref sig .tc := ⟨.hbm, 350, rfl⟩
abbrev main_call7_v8 : Ref sig .tc := ⟨.hbm, 351, rfl⟩
abbrev main_call7_cst_2 : Ref sig .tc := ⟨.hbm, 352, rfl⟩
abbrev main_call7_v9 : Ref sig .tc := ⟨.hbm, 353, rfl⟩
abbrev main_call7_v10 : Ref sig .tc := ⟨.hbm, 354, rfl⟩
abbrev main_call7_v11 : Ref sig .tc := ⟨.hbm, 355, rfl⟩
abbrev main_call7_cst_3 : Ref sig .tc := ⟨.hbm, 356, rfl⟩
abbrev main_call7_v12 : Ref sig .tc := ⟨.hbm, 357, rfl⟩
abbrev main_call7_cst_4 : Ref sig .tc := ⟨.hbm, 358, rfl⟩
abbrev main_call7_call0_v0 : Ref sig .tc := ⟨.hbm, 359, rfl⟩
abbrev main_call7_call0_v1 : Ref sig .tc := ⟨.hbm, 360, rfl⟩
abbrev main_v226 : Ref sig .tc := ⟨.hbm, 361, rfl⟩
abbrev main_v227 : Ref sig .tc := ⟨.hbm, 362, rfl⟩
abbrev main_v228 : Ref sig .tc := ⟨.hbm, 363, rfl⟩
abbrev main_v229 : Ref sig .tc := ⟨.hbm, 364, rfl⟩
abbrev main_cst_36 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_v245 : Ref sig .tc := ⟨.hbm, 381, rfl⟩
abbrev main_call8_cst : Ref sig .tc := ⟨.hbm, 382, rfl⟩
abbrev main_call8_v0 : Ref sig .tc := ⟨.hbm, 383, rfl⟩
abbrev main_v246 : Ref sig .tc := ⟨.hbm, 384, rfl⟩
abbrev main_v247 : Ref sig .tc := ⟨.hbm, 385, rfl⟩
abbrev main_v248 : Ref sig .tc := ⟨.hbm, 386, rfl⟩
abbrev main_c_37 : Ref sig .tc := ⟨.hbm, 387, rfl⟩
abbrev main_v249 : Ref sig .tc := ⟨.hbm, 388, rfl⟩
abbrev main_v250 : Ref sig .tc := ⟨.hbm, 389, rfl⟩
abbrev main_c_38 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_v256 : Ref sig .tc := ⟨.hbm, 396, rfl⟩
abbrev main_v257 : Ref sig .tc := ⟨.hbm, 397, rfl⟩
abbrev main_c_39 : Ref sig .tc := ⟨.hbm, 398, rfl⟩
abbrev main_v258 : Ref sig .tc := ⟨.hbm, 399, rfl⟩
abbrev main_v259 : Ref sig .tc := ⟨.hbm, 400, rfl⟩
abbrev main_c_40 : Ref sig .tc := ⟨.hbm, 401, rfl⟩
abbrev main_v260 : Ref sig .tc := ⟨.hbm, 402, rfl⟩
abbrev main_v261 : Ref sig .tc := ⟨.hbm, 403, rfl⟩
abbrev main_v262 : Ref sig .tc := ⟨.hbm, 404, rfl⟩
abbrev main_v263 : Ref sig .tc := ⟨.hbm, 405, rfl⟩
abbrev main_v264 : Ref sig .tc := ⟨.hbm, 406, rfl⟩
abbrev main_v265 : Ref sig .tc := ⟨.hbm, 407, rfl⟩
abbrev main_c_41 : Ref sig .tc := ⟨.hbm, 408, rfl⟩
abbrev main_v266 : Ref sig .tc := ⟨.hbm, 409, rfl⟩
abbrev main_v267 : Ref sig .tc := ⟨.hbm, 410, rfl⟩
abbrev main_c_42 : Ref sig .tc := ⟨.hbm, 411, rfl⟩
abbrev main_v268 : Ref sig .tc := ⟨.hbm, 412, rfl⟩
abbrev main_v269 : Ref sig .tc := ⟨.hbm, 413, rfl⟩
abbrev main_v270 : Ref sig .tc := ⟨.hbm, 414, rfl⟩
abbrev main_v271 : Ref sig .tc := ⟨.hbm, 415, rfl⟩
abbrev main_v272 : Ref sig .tc := ⟨.hbm, 416, rfl⟩
abbrev main_v273 : Ref sig .tc := ⟨.hbm, 417, rfl⟩
abbrev main_cst_43 : Ref sig .tc := ⟨.hbm, 418, rfl⟩
abbrev main_v274 : Ref sig .tc := ⟨.hbm, 419, rfl⟩
abbrev main_v275 : Ref sig .tc := ⟨.hbm, 420, rfl⟩
abbrev main_v276 : Ref sig .tc := ⟨.hbm, 421, rfl⟩
abbrev main_v277 : Ref sig .tc := ⟨.hbm, 422, rfl⟩
abbrev main_v278 : Ref sig .tc := ⟨.hbm, 423, rfl⟩
abbrev main_v279 : Ref sig .tc := ⟨.hbm, 424, rfl⟩
abbrev main_v280 : Ref sig .tc := ⟨.hbm, 425, rfl⟩
abbrev main_v281 : Ref sig .tc := ⟨.hbm, 426, rfl⟩
abbrev main_v282 : Ref sig .tc := ⟨.hbm, 427, rfl⟩
abbrev main_v283 : Ref sig .tc := ⟨.hbm, 428, rfl⟩
abbrev main_v284 : Ref sig .tc := ⟨.hbm, 429, rfl⟩
abbrev main_v285 : Ref sig .tc := ⟨.hbm, 430, rfl⟩
abbrev main_v286 : Ref sig .tc := ⟨.hbm, 431, rfl⟩
abbrev main_v287 : Ref sig .tc := ⟨.hbm, 432, rfl⟩
abbrev main_v288 : Ref sig .tc := ⟨.hbm, 433, rfl⟩
abbrev main_call9_cst : Ref sig .tc := ⟨.hbm, 434, rfl⟩
abbrev main_call9_v0 : Ref sig .tc := ⟨.hbm, 435, rfl⟩
abbrev main_v289 : Ref sig .tc := ⟨.hbm, 436, rfl⟩
abbrev main_v290 : Ref sig .tc := ⟨.hbm, 437, rfl⟩
abbrev main_v291 : Ref sig .tc := ⟨.hbm, 438, rfl⟩
abbrev main_v292 : Ref sig .tc := ⟨.hbm, 439, rfl⟩
abbrev main_v293 : Ref sig .tc := ⟨.hbm, 440, rfl⟩
abbrev main_cst_44 : Ref sig .tc := ⟨.hbm, 441, rfl⟩
abbrev main_v294 : Ref sig .tc := ⟨.hbm, 442, rfl⟩
abbrev main_cst_45 : Ref sig .tc := ⟨.hbm, 443, rfl⟩
abbrev main_v295 : Ref sig .tc := ⟨.hbm, 444, rfl⟩
abbrev main_v296 : Ref sig .tc := ⟨.hbm, 445, rfl⟩
abbrev main_c_46 : Ref sig .tc := ⟨.hbm, 446, rfl⟩
abbrev main_call10_cst : Ref sig .tc := ⟨.hbm, 447, rfl⟩
abbrev main_call10_v0 : Ref sig .tc := ⟨.hbm, 448, rfl⟩
abbrev main_call10_v1 : Ref sig .tc := ⟨.hbm, 449, rfl⟩
abbrev main_call10_cst_0 : Ref sig .tc := ⟨.hbm, 450, rfl⟩
abbrev main_call10_v2 : Ref sig .tc := ⟨.hbm, 451, rfl⟩
abbrev main_call10_v3 : Ref sig .tc := ⟨.hbm, 452, rfl⟩
abbrev main_call10_v4 : Ref sig .tc := ⟨.hbm, 453, rfl⟩
abbrev main_call10_v5 : Ref sig .tc := ⟨.hbm, 454, rfl⟩
abbrev main_call10_v6 : Ref sig .tc := ⟨.hbm, 455, rfl⟩
abbrev main_call10_v7 : Ref sig .tc := ⟨.hbm, 456, rfl⟩
abbrev main_call10_cst_1 : Ref sig .tc := ⟨.hbm, 457, rfl⟩
abbrev main_call10_v8 : Ref sig .tc := ⟨.hbm, 458, rfl⟩
abbrev main_call10_cst_2 : Ref sig .tc := ⟨.hbm, 459, rfl⟩
abbrev main_call10_v9 : Ref sig .tc := ⟨.hbm, 460, rfl⟩
abbrev main_call10_v10 : Ref sig .tc := ⟨.hbm, 461, rfl⟩
abbrev main_call10_v11 : Ref sig .tc := ⟨.hbm, 462, rfl⟩
abbrev main_call10_cst_3 : Ref sig .tc := ⟨.hbm, 463, rfl⟩
abbrev main_call10_v12 : Ref sig .tc := ⟨.hbm, 464, rfl⟩
abbrev main_call10_cst_4 : Ref sig .tc := ⟨.hbm, 465, rfl⟩
abbrev main_call10_call0_v0 : Ref sig .tc := ⟨.hbm, 466, rfl⟩
abbrev main_call10_call0_v1 : Ref sig .tc := ⟨.hbm, 467, rfl⟩
abbrev main_v297 : Ref sig .tc := ⟨.hbm, 468, rfl⟩
abbrev main_v298 : Ref sig .tc := ⟨.hbm, 469, rfl⟩
abbrev main_v299 : Ref sig .tc := ⟨.hbm, 470, rfl⟩
abbrev main_v300 : Ref sig .tc := ⟨.hbm, 471, rfl⟩
abbrev main_cst_47 : Ref sig .tc := ⟨.hbm, 472, rfl⟩
abbrev main_v301 : Ref sig .tc := ⟨.hbm, 473, rfl⟩
abbrev main_v302 : Ref sig .tc := ⟨.hbm, 474, rfl⟩
abbrev main_v303 : Ref sig .tc := ⟨.hbm, 475, rfl⟩
abbrev main_v304 : Ref sig .tc := ⟨.hbm, 476, rfl⟩
abbrev main_v305 : Ref sig .tc := ⟨.hbm, 477, rfl⟩
abbrev main_v306 : Ref sig .tc := ⟨.hbm, 478, rfl⟩
abbrev main_v307 : Ref sig .tc := ⟨.hbm, 479, rfl⟩
abbrev main_v308 : Ref sig .tc := ⟨.hbm, 480, rfl⟩
abbrev main_v309 : Ref sig .tc := ⟨.hbm, 481, rfl⟩
abbrev main_v310 : Ref sig .tc := ⟨.hbm, 482, rfl⟩
abbrev main_v311 : Ref sig .tc := ⟨.hbm, 483, rfl⟩
abbrev main_v312 : Ref sig .tc := ⟨.hbm, 484, rfl⟩
abbrev main_v313 : Ref sig .tc := ⟨.hbm, 485, rfl⟩
abbrev main_v314 : Ref sig .tc := ⟨.hbm, 486, rfl⟩
abbrev main_v315 : Ref sig .tc := ⟨.hbm, 487, rfl⟩
abbrev main_v316 : Ref sig .tc := ⟨.hbm, 488, rfl⟩
abbrev main_call11_cst : Ref sig .tc := ⟨.hbm, 489, rfl⟩
abbrev main_call11_v0 : Ref sig .tc := ⟨.hbm, 490, rfl⟩
abbrev main_v317 : Ref sig .tc := ⟨.hbm, 491, rfl⟩
abbrev main_v318 : Ref sig .tc := ⟨.hbm, 492, rfl⟩
abbrev main_v319 : Ref sig .tc := ⟨.hbm, 493, rfl⟩
abbrev main_c_48 : Ref sig .tc := ⟨.hbm, 494, rfl⟩
abbrev main_v320 : Ref sig .tc := ⟨.hbm, 495, rfl⟩
abbrev main_v321 : Ref sig .tc := ⟨.hbm, 496, rfl⟩
abbrev main_c_49 : Ref sig .tc := ⟨.hbm, 497, rfl⟩
abbrev main_v322 : Ref sig .tc := ⟨.hbm, 498, rfl⟩
abbrev main_v323 : Ref sig .tc := ⟨.hbm, 499, rfl⟩
abbrev main_v324 : Ref sig .tc := ⟨.hbm, 500, rfl⟩
abbrev main_v325 : Ref sig .tc := ⟨.hbm, 501, rfl⟩
abbrev main_v326 : Ref sig .tc := ⟨.hbm, 502, rfl⟩
abbrev main_v327 : Ref sig .tc := ⟨.hbm, 503, rfl⟩
abbrev main_v328 : Ref sig .tc := ⟨.hbm, 504, rfl⟩
abbrev main_c_50 : Ref sig .tc := ⟨.hbm, 505, rfl⟩
abbrev main_v329 : Ref sig .tc := ⟨.hbm, 506, rfl⟩
abbrev main_v330 : Ref sig .tc := ⟨.hbm, 507, rfl⟩
abbrev main_c_51 : Ref sig .tc := ⟨.hbm, 508, rfl⟩
abbrev main_v331 : Ref sig .tc := ⟨.hbm, 509, rfl⟩
abbrev main_v332 : Ref sig .tc := ⟨.hbm, 510, rfl⟩
abbrev main_v333 : Ref sig .tc := ⟨.hbm, 511, rfl⟩
abbrev main_v334 : Ref sig .tc := ⟨.hbm, 512, rfl⟩
abbrev main_v335 : Ref sig .tc := ⟨.hbm, 513, rfl⟩
abbrev main_v336 : Ref sig .tc := ⟨.hbm, 514, rfl⟩
abbrev main_c_52 : Ref sig .tc := ⟨.hbm, 515, rfl⟩
abbrev main_v337 : Ref sig .tc := ⟨.hbm, 516, rfl⟩
abbrev main_v338 : Ref sig .tc := ⟨.hbm, 517, rfl⟩
abbrev main_c_53 : Ref sig .tc := ⟨.hbm, 518, rfl⟩
abbrev main_v339 : Ref sig .tc := ⟨.hbm, 519, rfl⟩
abbrev main_v340 : Ref sig .tc := ⟨.hbm, 520, rfl⟩
abbrev main_v341 : Ref sig .tc := ⟨.hbm, 521, rfl⟩
abbrev main_v342 : Ref sig .tc := ⟨.hbm, 522, rfl⟩
abbrev main_v343 : Ref sig .tc := ⟨.hbm, 523, rfl⟩
abbrev main_v344 : Ref sig .tc := ⟨.hbm, 524, rfl⟩
abbrev main_cst_54 : Ref sig .tc := ⟨.hbm, 525, rfl⟩
abbrev main_v345 : Ref sig .tc := ⟨.hbm, 526, rfl⟩
abbrev main_v346 : Ref sig .tc := ⟨.hbm, 527, rfl⟩
abbrev main_v347 : Ref sig .tc := ⟨.hbm, 528, rfl⟩
abbrev main_v348 : Ref sig .tc := ⟨.hbm, 529, rfl⟩
abbrev main_v349 : Ref sig .tc := ⟨.hbm, 530, rfl⟩
abbrev main_v350 : Ref sig .tc := ⟨.hbm, 531, rfl⟩
abbrev main_v351 : Ref sig .tc := ⟨.hbm, 532, rfl⟩
abbrev main_v352 : Ref sig .tc := ⟨.hbm, 533, rfl⟩
abbrev main_v353 : Ref sig .tc := ⟨.hbm, 534, rfl⟩
abbrev main_v354 : Ref sig .tc := ⟨.hbm, 535, rfl⟩
abbrev main_v355 : Ref sig .tc := ⟨.hbm, 536, rfl⟩
abbrev main_v356 : Ref sig .tc := ⟨.hbm, 537, rfl⟩
abbrev main_v357 : Ref sig .tc := ⟨.hbm, 538, rfl⟩
abbrev main_v358 : Ref sig .tc := ⟨.hbm, 539, rfl⟩
abbrev main_v359 : Ref sig .tc := ⟨.hbm, 540, rfl⟩
abbrev main_call12_cst : Ref sig .tc := ⟨.hbm, 541, rfl⟩
abbrev main_call12_v0 : Ref sig .tc := ⟨.hbm, 542, rfl⟩
abbrev main_v360 : Ref sig .tc := ⟨.hbm, 543, rfl⟩
abbrev main_v361 : Ref sig .tc := ⟨.hbm, 544, rfl⟩
abbrev main_v362 : Ref sig .tc := ⟨.hbm, 545, rfl⟩
abbrev main_v363 : Ref sig .tc := ⟨.hbm, 546, rfl⟩
abbrev main_v364 : Ref sig .tc := ⟨.hbm, 547, rfl⟩
abbrev main_cst_55 : Ref sig .tc := ⟨.hbm, 548, rfl⟩
abbrev main_v365 : Ref sig .tc := ⟨.hbm, 549, rfl⟩
abbrev main_cst_56 : Ref sig .tc := ⟨.hbm, 550, rfl⟩
abbrev main_v366 : Ref sig .tc := ⟨.hbm, 551, rfl⟩
abbrev main_v367 : Ref sig .tc := ⟨.hbm, 552, rfl⟩
abbrev main_c_57 : Ref sig .tc := ⟨.hbm, 553, rfl⟩
abbrev main_call13_cst : Ref sig .tc := ⟨.hbm, 554, rfl⟩
abbrev main_call13_v0 : Ref sig .tc := ⟨.hbm, 555, rfl⟩
abbrev main_call13_v1 : Ref sig .tc := ⟨.hbm, 556, rfl⟩
abbrev main_call13_cst_0 : Ref sig .tc := ⟨.hbm, 557, rfl⟩
abbrev main_call13_v2 : Ref sig .tc := ⟨.hbm, 558, rfl⟩
abbrev main_call13_v3 : Ref sig .tc := ⟨.hbm, 559, rfl⟩
abbrev main_call13_v4 : Ref sig .tc := ⟨.hbm, 560, rfl⟩
abbrev main_call13_v5 : Ref sig .tc := ⟨.hbm, 561, rfl⟩
abbrev main_call13_v6 : Ref sig .tc := ⟨.hbm, 562, rfl⟩
abbrev main_call13_v7 : Ref sig .tc := ⟨.hbm, 563, rfl⟩
abbrev main_call13_cst_1 : Ref sig .tc := ⟨.hbm, 564, rfl⟩
abbrev main_call13_v8 : Ref sig .tc := ⟨.hbm, 565, rfl⟩
abbrev main_call13_cst_2 : Ref sig .tc := ⟨.hbm, 566, rfl⟩
abbrev main_call13_v9 : Ref sig .tc := ⟨.hbm, 567, rfl⟩
abbrev main_call13_v10 : Ref sig .tc := ⟨.hbm, 568, rfl⟩
abbrev main_call13_v11 : Ref sig .tc := ⟨.hbm, 569, rfl⟩
abbrev main_call13_cst_3 : Ref sig .tc := ⟨.hbm, 570, rfl⟩
abbrev main_call13_v12 : Ref sig .tc := ⟨.hbm, 571, rfl⟩
abbrev main_call13_cst_4 : Ref sig .tc := ⟨.hbm, 572, rfl⟩
abbrev main_call13_call0_v0 : Ref sig .tc := ⟨.hbm, 573, rfl⟩
abbrev main_call13_call0_v1 : Ref sig .tc := ⟨.hbm, 574, rfl⟩
abbrev main_v368 : Ref sig .tc := ⟨.hbm, 575, rfl⟩
abbrev main_v369 : Ref sig .tc := ⟨.hbm, 576, rfl⟩
abbrev main_v370 : Ref sig .tc := ⟨.hbm, 577, rfl⟩
abbrev main_v371 : Ref sig .tc := ⟨.hbm, 578, rfl⟩
abbrev main_cst_58 : Ref sig .tc := ⟨.hbm, 579, rfl⟩
abbrev main_v372 : Ref sig .tc := ⟨.hbm, 580, rfl⟩
abbrev main_v373 : Ref sig .tc := ⟨.hbm, 581, rfl⟩
abbrev main_v374 : Ref sig .tc := ⟨.hbm, 582, rfl⟩
abbrev main_v375 : Ref sig .tc := ⟨.hbm, 583, rfl⟩
abbrev main_v376 : Ref sig .tc := ⟨.hbm, 584, rfl⟩
abbrev main_v377 : Ref sig .tc := ⟨.hbm, 585, rfl⟩
abbrev main_v378 : Ref sig .tc := ⟨.hbm, 586, rfl⟩
abbrev main_v379 : Ref sig .tc := ⟨.hbm, 587, rfl⟩
abbrev main_v380 : Ref sig .tc := ⟨.hbm, 588, rfl⟩
abbrev main_v381 : Ref sig .tc := ⟨.hbm, 589, rfl⟩
abbrev main_v382 : Ref sig .tc := ⟨.hbm, 590, rfl⟩
abbrev main_v383 : Ref sig .tc := ⟨.hbm, 591, rfl⟩
abbrev main_v384 : Ref sig .tc := ⟨.hbm, 592, rfl⟩
abbrev main_v385 : Ref sig .tc := ⟨.hbm, 593, rfl⟩
abbrev main_v386 : Ref sig .tc := ⟨.hbm, 594, rfl⟩
abbrev main_v387 : Ref sig .tc := ⟨.hbm, 595, rfl⟩
abbrev main_v388 : Ref sig .tc := ⟨.hbm, 596, rfl⟩
abbrev main_v389 : Ref sig .tc := ⟨.hbm, 597, rfl⟩
abbrev main_v390 : Ref sig .tc := ⟨.hbm, 598, rfl⟩
abbrev main_v391 : Ref sig .tc := ⟨.hbm, 599, rfl⟩
abbrev main_v392 : Ref sig .tc := ⟨.hbm, 600, rfl⟩
abbrev main_v393 : Ref sig .tc := ⟨.hbm, 601, rfl⟩
abbrev main_v394 : Ref sig .tc := ⟨.hbm, 602, rfl⟩
abbrev main_v395 : Ref sig .tc := ⟨.hbm, 603, rfl⟩
abbrev main_v396 : Ref sig .tc := ⟨.hbm, 604, rfl⟩
abbrev main_v397 : Ref sig .tc := ⟨.hbm, 605, rfl⟩
abbrev main_c_59 : Ref sig .tc := ⟨.hbm, 606, rfl⟩
abbrev main_v398 : Ref sig .tc := ⟨.hbm, 607, rfl⟩
abbrev main_v399 : Ref sig .tc := ⟨.hbm, 608, rfl⟩
abbrev main_c_60 : Ref sig .tc := ⟨.hbm, 609, rfl⟩
abbrev main_v400 : Ref sig .tc := ⟨.hbm, 610, rfl⟩
abbrev main_v401 : Ref sig .tc := ⟨.hbm, 611, rfl⟩
abbrev main_v402 : Ref sig .tc := ⟨.hbm, 612, rfl⟩
abbrev main_v403 : Ref sig .tc := ⟨.hbm, 613, rfl⟩
abbrev main_v404 : Ref sig .tc := ⟨.hbm, 614, rfl⟩
abbrev main_v405 : Ref sig .tc := ⟨.hbm, 615, rfl⟩
abbrev main_v406 : Ref sig .tc := ⟨.hbm, 616, rfl⟩
abbrev main_c_61 : Ref sig .tc := ⟨.hbm, 617, rfl⟩
abbrev main_v407 : Ref sig .tc := ⟨.hbm, 618, rfl⟩
abbrev main_v408 : Ref sig .tc := ⟨.hbm, 619, rfl⟩
abbrev main_c_62 : Ref sig .tc := ⟨.hbm, 620, rfl⟩
abbrev main_v409 : Ref sig .tc := ⟨.hbm, 621, rfl⟩
abbrev main_v410 : Ref sig .tc := ⟨.hbm, 622, rfl⟩
abbrev main_v411 : Ref sig .tc := ⟨.hbm, 623, rfl⟩
abbrev main_v412 : Ref sig .tc := ⟨.hbm, 624, rfl⟩
abbrev main_v413 : Ref sig .tc := ⟨.hbm, 625, rfl⟩
abbrev main_v414 : Ref sig .tc := ⟨.hbm, 626, rfl⟩
abbrev main_v415 : Ref sig .tc := ⟨.hbm, 627, rfl⟩
abbrev main_v416 : Ref sig .tc := ⟨.hbm, 628, rfl⟩
abbrev main_v417 : Ref sig .tc := ⟨.hbm, 629, rfl⟩
abbrev main_c_63 : Ref sig .tc := ⟨.hbm, 630, rfl⟩
abbrev main_v418 : Ref sig .tc := ⟨.hbm, 631, rfl⟩
abbrev main_v419 : Ref sig .tc := ⟨.hbm, 632, rfl⟩
abbrev main_c_64 : Ref sig .tc := ⟨.hbm, 633, rfl⟩
abbrev main_v420 : Ref sig .tc := ⟨.hbm, 634, rfl⟩
abbrev main_v421 : Ref sig .tc := ⟨.hbm, 635, rfl⟩
abbrev main_v422 : Ref sig .tc := ⟨.hbm, 636, rfl⟩
abbrev main_v423 : Ref sig .tc := ⟨.hbm, 637, rfl⟩
abbrev main_c_65 : Ref sig .tc := ⟨.hbm, 638, rfl⟩
abbrev main_v424 : Ref sig .tc := ⟨.hbm, 639, rfl⟩
abbrev main_v425 : Ref sig .tc := ⟨.hbm, 640, rfl⟩
abbrev main_c_66 : Ref sig .tc := ⟨.hbm, 641, rfl⟩
abbrev main_v426 : Ref sig .tc := ⟨.hbm, 642, rfl⟩
abbrev main_v427 : Ref sig .tc := ⟨.hbm, 643, rfl⟩
abbrev main_v428 : Ref sig .tc := ⟨.hbm, 644, rfl⟩
abbrev main_v429 : Ref sig .tc := ⟨.hbm, 645, rfl⟩
abbrev main_v430 : Ref sig .tc := ⟨.hbm, 646, rfl⟩
abbrev main_v431 : Ref sig .tc := ⟨.hbm, 647, rfl⟩
abbrev main_v432 : Ref sig .tc := ⟨.hbm, 648, rfl⟩
abbrev main_c_67 : Ref sig .tc := ⟨.hbm, 649, rfl⟩
abbrev main_v433 : Ref sig .tc := ⟨.hbm, 650, rfl⟩
abbrev main_v434 : Ref sig .tc := ⟨.hbm, 651, rfl⟩
abbrev main_c_68 : Ref sig .tc := ⟨.hbm, 652, rfl⟩
abbrev main_v435 : Ref sig .tc := ⟨.hbm, 653, rfl⟩
abbrev main_v436 : Ref sig .tc := ⟨.hbm, 654, rfl⟩
abbrev main_v437 : Ref sig .tc := ⟨.hbm, 655, rfl⟩
abbrev main_v438 : Ref sig .tc := ⟨.hbm, 656, rfl⟩
abbrev main_v439 : Ref sig .tc := ⟨.hbm, 657, rfl⟩
abbrev main_v440 : Ref sig .tc := ⟨.hbm, 658, rfl⟩
abbrev main_c_69 : Ref sig .tc := ⟨.hbm, 659, rfl⟩
abbrev main_v441 : Ref sig .tc := ⟨.hbm, 660, rfl⟩
abbrev main_v442 : Ref sig .tc := ⟨.hbm, 661, rfl⟩
abbrev main_c_70 : Ref sig .tc := ⟨.hbm, 662, rfl⟩
abbrev main_v443 : Ref sig .tc := ⟨.hbm, 663, rfl⟩
abbrev main_v444 : Ref sig .tc := ⟨.hbm, 664, rfl⟩
abbrev main_v445 : Ref sig .tc := ⟨.hbm, 665, rfl⟩
abbrev main_v446 : Ref sig .tc := ⟨.hbm, 666, rfl⟩
abbrev main_v447 : Ref sig .tc := ⟨.hbm, 667, rfl⟩
abbrev main_v448 : Ref sig .tc := ⟨.hbm, 668, rfl⟩
abbrev main_cst_71 : Ref sig .tc := ⟨.hbm, 669, rfl⟩
abbrev main_v449 : Ref sig .tc := ⟨.hbm, 670, rfl⟩
abbrev main_v450 : Ref sig .tc := ⟨.hbm, 671, rfl⟩
abbrev main_v451 : Ref sig .tc := ⟨.hbm, 672, rfl⟩
abbrev main_v452 : Ref sig .tc := ⟨.hbm, 673, rfl⟩
abbrev main_v453 : Ref sig .tc := ⟨.hbm, 674, rfl⟩
abbrev main_v454 : Ref sig .tc := ⟨.hbm, 675, rfl⟩
abbrev main_v455 : Ref sig .tc := ⟨.hbm, 676, rfl⟩
abbrev main_v456 : Ref sig .tc := ⟨.hbm, 677, rfl⟩
abbrev main_v457 : Ref sig .tc := ⟨.hbm, 678, rfl⟩
abbrev main_v458 : Ref sig .tc := ⟨.hbm, 679, rfl⟩
abbrev main_v459 : Ref sig .tc := ⟨.hbm, 680, rfl⟩
abbrev main_v460 : Ref sig .tc := ⟨.hbm, 681, rfl⟩
abbrev main_v461 : Ref sig .tc := ⟨.hbm, 682, rfl⟩
abbrev main_v462 : Ref sig .tc := ⟨.hbm, 683, rfl⟩
abbrev main_v463 : Ref sig .tc := ⟨.hbm, 684, rfl⟩
abbrev main_call14_cst : Ref sig .tc := ⟨.hbm, 685, rfl⟩
abbrev main_call14_v0 : Ref sig .tc := ⟨.hbm, 686, rfl⟩
abbrev main_v464 : Ref sig .tc := ⟨.hbm, 687, rfl⟩
abbrev main_v465 : Ref sig .tc := ⟨.hbm, 688, rfl⟩
abbrev main_v466 : Ref sig .tc := ⟨.hbm, 689, rfl⟩
abbrev main_v467 : Ref sig .tc := ⟨.hbm, 690, rfl⟩
abbrev main_v468 : Ref sig .tc := ⟨.hbm, 691, rfl⟩
abbrev main_cst_72 : Ref sig .tc := ⟨.hbm, 692, rfl⟩
abbrev main_v469 : Ref sig .tc := ⟨.hbm, 693, rfl⟩
abbrev main_cst_73 : Ref sig .tc := ⟨.hbm, 694, rfl⟩
abbrev main_v470 : Ref sig .tc := ⟨.hbm, 695, rfl⟩
abbrev main_v471 : Ref sig .tc := ⟨.hbm, 696, rfl⟩
abbrev main_c_74 : Ref sig .tc := ⟨.hbm, 697, rfl⟩
abbrev main_call15_cst : Ref sig .tc := ⟨.hbm, 698, rfl⟩
abbrev main_call15_v0 : Ref sig .tc := ⟨.hbm, 699, rfl⟩
abbrev main_call15_v1 : Ref sig .tc := ⟨.hbm, 700, rfl⟩
abbrev main_call15_cst_0 : Ref sig .tc := ⟨.hbm, 701, rfl⟩
abbrev main_call15_v2 : Ref sig .tc := ⟨.hbm, 702, rfl⟩
abbrev main_call15_v3 : Ref sig .tc := ⟨.hbm, 703, rfl⟩
abbrev main_call15_v4 : Ref sig .tc := ⟨.hbm, 704, rfl⟩
abbrev main_call15_v5 : Ref sig .tc := ⟨.hbm, 705, rfl⟩
abbrev main_call15_v6 : Ref sig .tc := ⟨.hbm, 706, rfl⟩
abbrev main_call15_v7 : Ref sig .tc := ⟨.hbm, 707, rfl⟩
abbrev main_call15_cst_1 : Ref sig .tc := ⟨.hbm, 708, rfl⟩
abbrev main_call15_v8 : Ref sig .tc := ⟨.hbm, 709, rfl⟩
abbrev main_call15_cst_2 : Ref sig .tc := ⟨.hbm, 710, rfl⟩
abbrev main_call15_v9 : Ref sig .tc := ⟨.hbm, 711, rfl⟩
abbrev main_call15_v10 : Ref sig .tc := ⟨.hbm, 712, rfl⟩
abbrev main_call15_v11 : Ref sig .tc := ⟨.hbm, 713, rfl⟩
abbrev main_call15_cst_3 : Ref sig .tc := ⟨.hbm, 714, rfl⟩
abbrev main_call15_v12 : Ref sig .tc := ⟨.hbm, 715, rfl⟩
abbrev main_call15_cst_4 : Ref sig .tc := ⟨.hbm, 716, rfl⟩
abbrev main_call15_call0_v0 : Ref sig .tc := ⟨.hbm, 717, rfl⟩
abbrev main_call15_call0_v1 : Ref sig .tc := ⟨.hbm, 718, rfl⟩
abbrev main_v472 : Ref sig .tc := ⟨.hbm, 719, rfl⟩
abbrev main_v473 : Ref sig .tc := ⟨.hbm, 720, rfl⟩
abbrev main_v474 : Ref sig .tc := ⟨.hbm, 721, rfl⟩
abbrev main_v475 : Ref sig .tc := ⟨.hbm, 722, rfl⟩
abbrev main_cst_75 : Ref sig .tc := ⟨.hbm, 723, rfl⟩
abbrev main_v476 : Ref sig .tc := ⟨.hbm, 724, rfl⟩
abbrev main_v477 : Ref sig .tc := ⟨.hbm, 725, rfl⟩
abbrev main_v478 : Ref sig .tc := ⟨.hbm, 726, rfl⟩
abbrev main_v479 : Ref sig .tc := ⟨.hbm, 727, rfl⟩
abbrev main_v480 : Ref sig .tc := ⟨.hbm, 728, rfl⟩
abbrev main_v481 : Ref sig .tc := ⟨.hbm, 729, rfl⟩
abbrev main_v482 : Ref sig .tc := ⟨.hbm, 730, rfl⟩
abbrev main_v483 : Ref sig .tc := ⟨.hbm, 731, rfl⟩
abbrev main_v484 : Ref sig .tc := ⟨.hbm, 732, rfl⟩
abbrev main_v485 : Ref sig .tc := ⟨.hbm, 733, rfl⟩
abbrev main_v486 : Ref sig .tc := ⟨.hbm, 734, rfl⟩
abbrev main_v487 : Ref sig .tc := ⟨.hbm, 735, rfl⟩
abbrev main_v488 : Ref sig .tc := ⟨.hbm, 736, rfl⟩
abbrev main_v489 : Ref sig .tc := ⟨.hbm, 737, rfl⟩
abbrev main_v490 : Ref sig .tc := ⟨.hbm, 738, rfl⟩
abbrev main_v491 : Ref sig .tc := ⟨.hbm, 739, rfl⟩
abbrev main_call16_cst : Ref sig .tc := ⟨.hbm, 740, rfl⟩
abbrev main_call16_v0 : Ref sig .tc := ⟨.hbm, 741, rfl⟩
abbrev main_v492 : Ref sig .tc := ⟨.hbm, 742, rfl⟩
abbrev main_v493 : Ref sig .tc := ⟨.hbm, 743, rfl⟩
abbrev main_v494 : Ref sig .tc := ⟨.hbm, 744, rfl⟩
abbrev main_c_76 : Ref sig .tc := ⟨.hbm, 745, rfl⟩
abbrev main_v495 : Ref sig .tc := ⟨.hbm, 746, rfl⟩
abbrev main_v496 : Ref sig .tc := ⟨.hbm, 747, rfl⟩
abbrev main_c_77 : Ref sig .tc := ⟨.hbm, 748, rfl⟩
abbrev main_v497 : Ref sig .tc := ⟨.hbm, 749, rfl⟩
abbrev main_v498 : Ref sig .tc := ⟨.hbm, 750, rfl⟩
abbrev main_v499 : Ref sig .tc := ⟨.hbm, 751, rfl⟩
abbrev main_v500 : Ref sig .tc := ⟨.hbm, 752, rfl⟩
abbrev main_v501 : Ref sig .tc := ⟨.hbm, 753, rfl⟩
abbrev main_v502 : Ref sig .tc := ⟨.hbm, 754, rfl⟩
abbrev main_v503 : Ref sig .tc := ⟨.hbm, 755, rfl⟩
abbrev main_c_78 : Ref sig .tc := ⟨.hbm, 756, rfl⟩
abbrev main_v504 : Ref sig .tc := ⟨.hbm, 757, rfl⟩
abbrev main_v505 : Ref sig .tc := ⟨.hbm, 758, rfl⟩
abbrev main_c_79 : Ref sig .tc := ⟨.hbm, 759, rfl⟩
abbrev main_v506 : Ref sig .tc := ⟨.hbm, 760, rfl⟩
abbrev main_v507 : Ref sig .tc := ⟨.hbm, 761, rfl⟩
abbrev main_v508 : Ref sig .tc := ⟨.hbm, 762, rfl⟩
abbrev main_v509 : Ref sig .tc := ⟨.hbm, 763, rfl⟩
abbrev main_v510 : Ref sig .tc := ⟨.hbm, 764, rfl⟩
abbrev main_v511 : Ref sig .tc := ⟨.hbm, 765, rfl⟩
abbrev main_c_80 : Ref sig .tc := ⟨.hbm, 766, rfl⟩
abbrev main_v512 : Ref sig .tc := ⟨.hbm, 767, rfl⟩
abbrev main_v513 : Ref sig .tc := ⟨.hbm, 768, rfl⟩
abbrev main_c_81 : Ref sig .tc := ⟨.hbm, 769, rfl⟩
abbrev main_v514 : Ref sig .tc := ⟨.hbm, 770, rfl⟩
abbrev main_v515 : Ref sig .tc := ⟨.hbm, 771, rfl⟩
abbrev main_v516 : Ref sig .tc := ⟨.hbm, 772, rfl⟩
abbrev main_v517 : Ref sig .tc := ⟨.hbm, 773, rfl⟩
abbrev main_v518 : Ref sig .tc := ⟨.hbm, 774, rfl⟩
abbrev main_v519 : Ref sig .tc := ⟨.hbm, 775, rfl⟩
abbrev main_cst_82 : Ref sig .tc := ⟨.hbm, 776, rfl⟩
abbrev main_v520 : Ref sig .tc := ⟨.hbm, 777, rfl⟩
abbrev main_v521 : Ref sig .tc := ⟨.hbm, 778, rfl⟩
abbrev main_v522 : Ref sig .tc := ⟨.hbm, 779, rfl⟩
abbrev main_v523 : Ref sig .tc := ⟨.hbm, 780, rfl⟩
abbrev main_v524 : Ref sig .tc := ⟨.hbm, 781, rfl⟩
abbrev main_v525 : Ref sig .tc := ⟨.hbm, 782, rfl⟩
abbrev main_v526 : Ref sig .tc := ⟨.hbm, 783, rfl⟩
abbrev main_v527 : Ref sig .tc := ⟨.hbm, 784, rfl⟩
abbrev main_v528 : Ref sig .tc := ⟨.hbm, 785, rfl⟩
abbrev main_v529 : Ref sig .tc := ⟨.hbm, 786, rfl⟩
abbrev main_v530 : Ref sig .tc := ⟨.hbm, 787, rfl⟩
abbrev main_v531 : Ref sig .tc := ⟨.hbm, 788, rfl⟩
abbrev main_v532 : Ref sig .tc := ⟨.hbm, 789, rfl⟩
abbrev main_v533 : Ref sig .tc := ⟨.hbm, 790, rfl⟩
abbrev main_v534 : Ref sig .tc := ⟨.hbm, 791, rfl⟩
abbrev main_call17_cst : Ref sig .tc := ⟨.hbm, 792, rfl⟩
abbrev main_call17_v0 : Ref sig .tc := ⟨.hbm, 793, rfl⟩
abbrev main_v535 : Ref sig .tc := ⟨.hbm, 794, rfl⟩
abbrev main_v536 : Ref sig .tc := ⟨.hbm, 795, rfl⟩
abbrev main_v537 : Ref sig .tc := ⟨.hbm, 796, rfl⟩
abbrev main_v538 : Ref sig .tc := ⟨.hbm, 797, rfl⟩
abbrev main_v539 : Ref sig .tc := ⟨.hbm, 798, rfl⟩
abbrev main_cst_83 : Ref sig .tc := ⟨.hbm, 799, rfl⟩
abbrev main_v540 : Ref sig .tc := ⟨.hbm, 800, rfl⟩
abbrev main_cst_84 : Ref sig .tc := ⟨.hbm, 801, rfl⟩
abbrev main_v541 : Ref sig .tc := ⟨.hbm, 802, rfl⟩
abbrev main_v542 : Ref sig .tc := ⟨.hbm, 803, rfl⟩
abbrev main_c_85 : Ref sig .tc := ⟨.hbm, 804, rfl⟩
abbrev main_call18_cst : Ref sig .tc := ⟨.hbm, 805, rfl⟩
abbrev main_call18_v0 : Ref sig .tc := ⟨.hbm, 806, rfl⟩
abbrev main_call18_v1 : Ref sig .tc := ⟨.hbm, 807, rfl⟩
abbrev main_call18_cst_0 : Ref sig .tc := ⟨.hbm, 808, rfl⟩
abbrev main_call18_v2 : Ref sig .tc := ⟨.hbm, 809, rfl⟩
abbrev main_call18_v3 : Ref sig .tc := ⟨.hbm, 810, rfl⟩
abbrev main_call18_v4 : Ref sig .tc := ⟨.hbm, 811, rfl⟩
abbrev main_call18_v5 : Ref sig .tc := ⟨.hbm, 812, rfl⟩
abbrev main_call18_v6 : Ref sig .tc := ⟨.hbm, 813, rfl⟩
abbrev main_call18_v7 : Ref sig .tc := ⟨.hbm, 814, rfl⟩
abbrev main_call18_cst_1 : Ref sig .tc := ⟨.hbm, 815, rfl⟩
abbrev main_call18_v8 : Ref sig .tc := ⟨.hbm, 816, rfl⟩
abbrev main_call18_cst_2 : Ref sig .tc := ⟨.hbm, 817, rfl⟩
abbrev main_call18_v9 : Ref sig .tc := ⟨.hbm, 818, rfl⟩
abbrev main_call18_v10 : Ref sig .tc := ⟨.hbm, 819, rfl⟩
abbrev main_call18_v11 : Ref sig .tc := ⟨.hbm, 820, rfl⟩
abbrev main_call18_cst_3 : Ref sig .tc := ⟨.hbm, 821, rfl⟩
abbrev main_call18_v12 : Ref sig .tc := ⟨.hbm, 822, rfl⟩
abbrev main_call18_cst_4 : Ref sig .tc := ⟨.hbm, 823, rfl⟩
abbrev main_call18_call0_v0 : Ref sig .tc := ⟨.hbm, 824, rfl⟩
abbrev main_call18_call0_v1 : Ref sig .tc := ⟨.hbm, 825, rfl⟩
abbrev main_v543 : Ref sig .tc := ⟨.hbm, 826, rfl⟩
abbrev main_v544 : Ref sig .tc := ⟨.hbm, 827, rfl⟩
abbrev main_v545 : Ref sig .tc := ⟨.hbm, 828, rfl⟩
abbrev main_v546 : Ref sig .tc := ⟨.hbm, 829, rfl⟩
abbrev main_cst_86 : Ref sig .tc := ⟨.hbm, 830, rfl⟩
abbrev main_v547 : Ref sig .tc := ⟨.hbm, 831, rfl⟩
abbrev main_v548 : Ref sig .tc := ⟨.hbm, 832, rfl⟩
abbrev main_v549 : Ref sig .tc := ⟨.hbm, 833, rfl⟩
abbrev main_v550 : Ref sig .tc := ⟨.hbm, 834, rfl⟩
abbrev main_v551 : Ref sig .tc := ⟨.hbm, 835, rfl⟩
abbrev main_v552 : Ref sig .tc := ⟨.hbm, 836, rfl⟩
abbrev main_v553 : Ref sig .tc := ⟨.hbm, 837, rfl⟩
abbrev main_v554 : Ref sig .tc := ⟨.hbm, 838, rfl⟩
abbrev main_v555 : Ref sig .tc := ⟨.hbm, 839, rfl⟩
abbrev main_v556 : Ref sig .tc := ⟨.hbm, 840, rfl⟩
abbrev main_v557 : Ref sig .tc := ⟨.hbm, 841, rfl⟩
abbrev main_v558 : Ref sig .tc := ⟨.hbm, 842, rfl⟩
abbrev main_v559 : Ref sig .tc := ⟨.hbm, 843, rfl⟩
abbrev main_v560 : Ref sig .tc := ⟨.hbm, 844, rfl⟩
abbrev main_v561 : Ref sig .tc := ⟨.hbm, 845, rfl⟩
abbrev main_v562 : Ref sig .tc := ⟨.hbm, 846, rfl⟩
abbrev main_call19_cst : Ref sig .tc := ⟨.hbm, 847, rfl⟩
abbrev main_call19_v0 : Ref sig .tc := ⟨.hbm, 848, rfl⟩
abbrev main_v563 : Ref sig .tc := ⟨.hbm, 849, rfl⟩
abbrev main_v564 : Ref sig .tc := ⟨.hbm, 850, rfl⟩
abbrev main_v565 : Ref sig .tc := ⟨.hbm, 851, rfl⟩
abbrev main_c_87 : Ref sig .tc := ⟨.hbm, 852, rfl⟩
abbrev main_v566 : Ref sig .tc := ⟨.hbm, 853, rfl⟩
abbrev main_v567 : Ref sig .tc := ⟨.hbm, 854, rfl⟩
abbrev main_c_88 : Ref sig .tc := ⟨.hbm, 855, rfl⟩
abbrev main_v568 : Ref sig .tc := ⟨.hbm, 856, rfl⟩
abbrev main_v569 : Ref sig .tc := ⟨.hbm, 857, rfl⟩
abbrev main_v570 : Ref sig .tc := ⟨.hbm, 858, rfl⟩
abbrev main_v571 : Ref sig .tc := ⟨.hbm, 859, rfl⟩
abbrev main_v572 : Ref sig .tc := ⟨.hbm, 860, rfl⟩
abbrev main_v573 : Ref sig .tc := ⟨.hbm, 861, rfl⟩
abbrev main_v574 : Ref sig .tc := ⟨.hbm, 862, rfl⟩
abbrev main_c_89 : Ref sig .tc := ⟨.hbm, 863, rfl⟩
abbrev main_v575 : Ref sig .tc := ⟨.hbm, 864, rfl⟩
abbrev main_v576 : Ref sig .tc := ⟨.hbm, 865, rfl⟩
abbrev main_c_90 : Ref sig .tc := ⟨.hbm, 866, rfl⟩
abbrev main_v577 : Ref sig .tc := ⟨.hbm, 867, rfl⟩
abbrev main_v578 : Ref sig .tc := ⟨.hbm, 868, rfl⟩
abbrev main_v579 : Ref sig .tc := ⟨.hbm, 869, rfl⟩
abbrev main_v580 : Ref sig .tc := ⟨.hbm, 870, rfl⟩
abbrev main_v581 : Ref sig .tc := ⟨.hbm, 871, rfl⟩
abbrev main_v582 : Ref sig .tc := ⟨.hbm, 872, rfl⟩
abbrev main_c_91 : Ref sig .tc := ⟨.hbm, 873, rfl⟩
abbrev main_v583 : Ref sig .tc := ⟨.hbm, 874, rfl⟩
abbrev main_v584 : Ref sig .tc := ⟨.hbm, 875, rfl⟩
abbrev main_c_92 : Ref sig .tc := ⟨.hbm, 876, rfl⟩
abbrev main_v585 : Ref sig .tc := ⟨.hbm, 877, rfl⟩
abbrev main_v586 : Ref sig .tc := ⟨.hbm, 878, rfl⟩
abbrev main_v587 : Ref sig .tc := ⟨.hbm, 879, rfl⟩
abbrev main_v588 : Ref sig .tc := ⟨.hbm, 880, rfl⟩
abbrev main_v589 : Ref sig .tc := ⟨.hbm, 881, rfl⟩
abbrev main_v590 : Ref sig .tc := ⟨.hbm, 882, rfl⟩
abbrev main_cst_93 : Ref sig .tc := ⟨.hbm, 883, rfl⟩
abbrev main_v591 : Ref sig .tc := ⟨.hbm, 884, rfl⟩
abbrev main_v592 : Ref sig .tc := ⟨.hbm, 885, rfl⟩
abbrev main_v593 : Ref sig .tc := ⟨.hbm, 886, rfl⟩
abbrev main_v594 : Ref sig .tc := ⟨.hbm, 887, rfl⟩
abbrev main_v595 : Ref sig .tc := ⟨.hbm, 888, rfl⟩
abbrev main_v596 : Ref sig .tc := ⟨.hbm, 889, rfl⟩
abbrev main_v597 : Ref sig .tc := ⟨.hbm, 890, rfl⟩
abbrev main_v598 : Ref sig .tc := ⟨.hbm, 891, rfl⟩
abbrev main_v599 : Ref sig .tc := ⟨.hbm, 892, rfl⟩
abbrev main_v600 : Ref sig .tc := ⟨.hbm, 893, rfl⟩
abbrev main_v601 : Ref sig .tc := ⟨.hbm, 894, rfl⟩
abbrev main_v602 : Ref sig .tc := ⟨.hbm, 895, rfl⟩
abbrev main_v603 : Ref sig .tc := ⟨.hbm, 896, rfl⟩
abbrev main_v604 : Ref sig .tc := ⟨.hbm, 897, rfl⟩
abbrev main_v605 : Ref sig .tc := ⟨.hbm, 898, rfl⟩
abbrev main_call20_cst : Ref sig .tc := ⟨.hbm, 899, rfl⟩
abbrev main_call20_v0 : Ref sig .tc := ⟨.hbm, 900, rfl⟩
abbrev main_v606 : Ref sig .tc := ⟨.hbm, 901, rfl⟩
abbrev main_v607 : Ref sig .tc := ⟨.hbm, 902, rfl⟩
abbrev main_v608 : Ref sig .tc := ⟨.hbm, 903, rfl⟩
abbrev main_v609 : Ref sig .tc := ⟨.hbm, 904, rfl⟩
abbrev main_v610 : Ref sig .tc := ⟨.hbm, 905, rfl⟩
abbrev main_cst_94 : Ref sig .tc := ⟨.hbm, 906, rfl⟩
abbrev main_v611 : Ref sig .tc := ⟨.hbm, 907, rfl⟩
abbrev main_cst_95 : Ref sig .tc := ⟨.hbm, 908, rfl⟩
abbrev main_v612 : Ref sig .tc := ⟨.hbm, 909, rfl⟩
abbrev main_v613 : Ref sig .tc := ⟨.hbm, 910, rfl⟩
abbrev main_c_96 : Ref sig .tc := ⟨.hbm, 911, rfl⟩
abbrev main_call21_cst : Ref sig .tc := ⟨.hbm, 912, rfl⟩
abbrev main_call21_v0 : Ref sig .tc := ⟨.hbm, 913, rfl⟩
abbrev main_call21_v1 : Ref sig .tc := ⟨.hbm, 914, rfl⟩
abbrev main_call21_cst_0 : Ref sig .tc := ⟨.hbm, 915, rfl⟩
abbrev main_call21_v2 : Ref sig .tc := ⟨.hbm, 916, rfl⟩
abbrev main_call21_v3 : Ref sig .tc := ⟨.hbm, 917, rfl⟩
abbrev main_call21_v4 : Ref sig .tc := ⟨.hbm, 918, rfl⟩
abbrev main_call21_v5 : Ref sig .tc := ⟨.hbm, 919, rfl⟩
abbrev main_call21_v6 : Ref sig .tc := ⟨.hbm, 920, rfl⟩
abbrev main_call21_v7 : Ref sig .tc := ⟨.hbm, 921, rfl⟩
abbrev main_call21_cst_1 : Ref sig .tc := ⟨.hbm, 922, rfl⟩
abbrev main_call21_v8 : Ref sig .tc := ⟨.hbm, 923, rfl⟩
abbrev main_call21_cst_2 : Ref sig .tc := ⟨.hbm, 924, rfl⟩
abbrev main_call21_v9 : Ref sig .tc := ⟨.hbm, 925, rfl⟩
abbrev main_call21_v10 : Ref sig .tc := ⟨.hbm, 926, rfl⟩
abbrev main_call21_v11 : Ref sig .tc := ⟨.hbm, 927, rfl⟩
abbrev main_call21_cst_3 : Ref sig .tc := ⟨.hbm, 928, rfl⟩
abbrev main_call21_v12 : Ref sig .tc := ⟨.hbm, 929, rfl⟩
abbrev main_call21_cst_4 : Ref sig .tc := ⟨.hbm, 930, rfl⟩
abbrev main_call21_call0_v0 : Ref sig .tc := ⟨.hbm, 931, rfl⟩
abbrev main_call21_call0_v1 : Ref sig .tc := ⟨.hbm, 932, rfl⟩
abbrev main_v614 : Ref sig .tc := ⟨.hbm, 933, rfl⟩
abbrev main_v615 : Ref sig .tc := ⟨.hbm, 934, rfl⟩
abbrev main_v616 : Ref sig .tc := ⟨.hbm, 935, rfl⟩
abbrev main_v617 : Ref sig .tc := ⟨.hbm, 936, rfl⟩
abbrev main_cst_97 : Ref sig .tc := ⟨.hbm, 937, rfl⟩
abbrev main_v618 : Ref sig .tc := ⟨.hbm, 938, rfl⟩
abbrev main_v619 : Ref sig .tc := ⟨.hbm, 939, rfl⟩
abbrev main_v620 : Ref sig .tc := ⟨.hbm, 940, rfl⟩
abbrev main_v621 : Ref sig .tc := ⟨.hbm, 941, rfl⟩
abbrev main_v622 : Ref sig .tc := ⟨.hbm, 942, rfl⟩
abbrev main_v623 : Ref sig .tc := ⟨.hbm, 943, rfl⟩
abbrev main_v624 : Ref sig .tc := ⟨.hbm, 944, rfl⟩
abbrev main_v625 : Ref sig .tc := ⟨.hbm, 945, rfl⟩
abbrev main_v626 : Ref sig .tc := ⟨.hbm, 946, rfl⟩
abbrev main_v627 : Ref sig .tc := ⟨.hbm, 947, rfl⟩
abbrev main_v628 : Ref sig .tc := ⟨.hbm, 948, rfl⟩
abbrev main_v629 : Ref sig .tc := ⟨.hbm, 949, rfl⟩
abbrev main_v630 : Ref sig .tc := ⟨.hbm, 950, rfl⟩
abbrev main_v631 : Ref sig .tc := ⟨.hbm, 951, rfl⟩
abbrev main_v632 : Ref sig .tc := ⟨.hbm, 952, rfl⟩
abbrev main_v633 : Ref sig .tc := ⟨.hbm, 953, rfl⟩
abbrev main_call22_cst : Ref sig .tc := ⟨.hbm, 954, rfl⟩
abbrev main_call22_v0 : Ref sig .tc := ⟨.hbm, 955, rfl⟩
abbrev main_v634 : Ref sig .tc := ⟨.hbm, 956, rfl⟩
abbrev main_v635 : Ref sig .tc := ⟨.hbm, 957, rfl⟩
abbrev main_v636 : Ref sig .tc := ⟨.hbm, 958, rfl⟩
abbrev main_c_98 : Ref sig .tc := ⟨.hbm, 959, rfl⟩
abbrev main_v637 : Ref sig .tc := ⟨.hbm, 960, rfl⟩
abbrev main_v638 : Ref sig .tc := ⟨.hbm, 961, rfl⟩
abbrev main_c_99 : Ref sig .tc := ⟨.hbm, 962, rfl⟩
abbrev main_v639 : Ref sig .tc := ⟨.hbm, 963, rfl⟩
abbrev main_v640 : Ref sig .tc := ⟨.hbm, 964, rfl⟩
abbrev main_v641 : Ref sig .tc := ⟨.hbm, 965, rfl⟩
abbrev main_v642 : Ref sig .tc := ⟨.hbm, 966, rfl⟩
abbrev main_v643 : Ref sig .tc := ⟨.hbm, 967, rfl⟩
abbrev main_v644 : Ref sig .tc := ⟨.hbm, 968, rfl⟩
abbrev main_v645 : Ref sig .tc := ⟨.hbm, 969, rfl⟩
abbrev main_c_100 : Ref sig .tc := ⟨.hbm, 970, rfl⟩
abbrev main_v646 : Ref sig .tc := ⟨.hbm, 971, rfl⟩
abbrev main_v647 : Ref sig .tc := ⟨.hbm, 972, rfl⟩
abbrev main_c_101 : Ref sig .tc := ⟨.hbm, 973, rfl⟩
abbrev main_v648 : Ref sig .tc := ⟨.hbm, 974, rfl⟩
abbrev main_v649 : Ref sig .tc := ⟨.hbm, 975, rfl⟩
abbrev main_v650 : Ref sig .tc := ⟨.hbm, 976, rfl⟩
abbrev main_v651 : Ref sig .tc := ⟨.hbm, 977, rfl⟩
abbrev main_v652 : Ref sig .tc := ⟨.hbm, 978, rfl⟩
abbrev main_v653 : Ref sig .tc := ⟨.hbm, 979, rfl⟩
abbrev main_c_102 : Ref sig .tc := ⟨.hbm, 980, rfl⟩
abbrev main_v654 : Ref sig .tc := ⟨.hbm, 981, rfl⟩
abbrev main_v655 : Ref sig .tc := ⟨.hbm, 982, rfl⟩
abbrev main_c_103 : Ref sig .tc := ⟨.hbm, 983, rfl⟩
abbrev main_v656 : Ref sig .tc := ⟨.hbm, 984, rfl⟩
abbrev main_v657 : Ref sig .tc := ⟨.hbm, 985, rfl⟩
abbrev main_v658 : Ref sig .tc := ⟨.hbm, 986, rfl⟩
abbrev main_v659 : Ref sig .tc := ⟨.hbm, 987, rfl⟩
abbrev main_v660 : Ref sig .tc := ⟨.hbm, 988, rfl⟩
abbrev main_v661 : Ref sig .tc := ⟨.hbm, 989, rfl⟩
abbrev main_cst_104 : Ref sig .tc := ⟨.hbm, 990, rfl⟩
abbrev main_v662 : Ref sig .tc := ⟨.hbm, 991, rfl⟩
abbrev main_v663 : Ref sig .tc := ⟨.hbm, 992, rfl⟩
abbrev main_v664 : Ref sig .tc := ⟨.hbm, 993, rfl⟩
abbrev main_v665 : Ref sig .tc := ⟨.hbm, 994, rfl⟩
abbrev main_v666 : Ref sig .tc := ⟨.hbm, 995, rfl⟩
abbrev main_v667 : Ref sig .tc := ⟨.hbm, 996, rfl⟩
abbrev main_v668 : Ref sig .tc := ⟨.hbm, 997, rfl⟩
abbrev main_v669 : Ref sig .tc := ⟨.hbm, 998, rfl⟩
abbrev main_v670 : Ref sig .tc := ⟨.hbm, 999, rfl⟩
abbrev main_v671 : Ref sig .tc := ⟨.hbm, 1000, rfl⟩
abbrev main_v672 : Ref sig .tc := ⟨.hbm, 1001, rfl⟩
abbrev main_v673 : Ref sig .tc := ⟨.hbm, 1002, rfl⟩
abbrev main_v674 : Ref sig .tc := ⟨.hbm, 1003, rfl⟩
abbrev main_v675 : Ref sig .tc := ⟨.hbm, 1004, rfl⟩
abbrev main_v676 : Ref sig .tc := ⟨.hbm, 1005, rfl⟩
abbrev main_call23_cst : Ref sig .tc := ⟨.hbm, 1006, rfl⟩
abbrev main_call23_v0 : Ref sig .tc := ⟨.hbm, 1007, rfl⟩
abbrev main_v677 : Ref sig .tc := ⟨.hbm, 1008, rfl⟩
abbrev main_v678 : Ref sig .tc := ⟨.hbm, 1009, rfl⟩
abbrev main_v679 : Ref sig .tc := ⟨.hbm, 1010, rfl⟩
abbrev main_v680 : Ref sig .tc := ⟨.hbm, 1011, rfl⟩
abbrev main_v681 : Ref sig .tc := ⟨.hbm, 1012, rfl⟩
abbrev main_cst_105 : Ref sig .tc := ⟨.hbm, 1013, rfl⟩
abbrev main_v682 : Ref sig .tc := ⟨.hbm, 1014, rfl⟩
abbrev main_cst_106 : Ref sig .tc := ⟨.hbm, 1015, rfl⟩
abbrev main_v683 : Ref sig .tc := ⟨.hbm, 1016, rfl⟩
abbrev main_v684 : Ref sig .tc := ⟨.hbm, 1017, rfl⟩
abbrev main_c_107 : Ref sig .tc := ⟨.hbm, 1018, rfl⟩
abbrev main_call24_cst : Ref sig .tc := ⟨.hbm, 1019, rfl⟩
abbrev main_call24_v0 : Ref sig .tc := ⟨.hbm, 1020, rfl⟩
abbrev main_call24_v1 : Ref sig .tc := ⟨.hbm, 1021, rfl⟩
abbrev main_call24_cst_0 : Ref sig .tc := ⟨.hbm, 1022, rfl⟩
abbrev main_call24_v2 : Ref sig .tc := ⟨.hbm, 1023, rfl⟩
abbrev main_call24_v3 : Ref sig .tc := ⟨.hbm, 1024, rfl⟩
abbrev main_call24_v4 : Ref sig .tc := ⟨.hbm, 1025, rfl⟩
abbrev main_call24_v5 : Ref sig .tc := ⟨.hbm, 1026, rfl⟩
abbrev main_call24_v6 : Ref sig .tc := ⟨.hbm, 1027, rfl⟩
abbrev main_call24_v7 : Ref sig .tc := ⟨.hbm, 1028, rfl⟩
abbrev main_call24_cst_1 : Ref sig .tc := ⟨.hbm, 1029, rfl⟩
abbrev main_call24_v8 : Ref sig .tc := ⟨.hbm, 1030, rfl⟩
abbrev main_call24_cst_2 : Ref sig .tc := ⟨.hbm, 1031, rfl⟩
abbrev main_call24_v9 : Ref sig .tc := ⟨.hbm, 1032, rfl⟩
abbrev main_call24_v10 : Ref sig .tc := ⟨.hbm, 1033, rfl⟩
abbrev main_call24_v11 : Ref sig .tc := ⟨.hbm, 1034, rfl⟩
abbrev main_call24_cst_3 : Ref sig .tc := ⟨.hbm, 1035, rfl⟩
abbrev main_call24_v12 : Ref sig .tc := ⟨.hbm, 1036, rfl⟩
abbrev main_call24_cst_4 : Ref sig .tc := ⟨.hbm, 1037, rfl⟩
abbrev main_call24_call0_v0 : Ref sig .tc := ⟨.hbm, 1038, rfl⟩
abbrev main_call24_call0_v1 : Ref sig .tc := ⟨.hbm, 1039, rfl⟩
abbrev main_v685 : Ref sig .tc := ⟨.hbm, 1040, rfl⟩
abbrev main_v686 : Ref sig .tc := ⟨.hbm, 1041, rfl⟩
abbrev main_v687 : Ref sig .tc := ⟨.hbm, 1042, rfl⟩
abbrev main_v688 : Ref sig .tc := ⟨.hbm, 1043, rfl⟩
abbrev main_cst_108 : Ref sig .tc := ⟨.hbm, 1044, rfl⟩
abbrev main_v689 : Ref sig .tc := ⟨.hbm, 1045, rfl⟩
abbrev main_v690 : Ref sig .tc := ⟨.hbm, 1046, rfl⟩
abbrev main_v691 : Ref sig .tc := ⟨.hbm, 1047, rfl⟩
abbrev main_v692 : Ref sig .tc := ⟨.hbm, 1048, rfl⟩
abbrev main_v693 : Ref sig .tc := ⟨.hbm, 1049, rfl⟩
abbrev main_v694 : Ref sig .tc := ⟨.hbm, 1050, rfl⟩
abbrev main_v695 : Ref sig .tc := ⟨.hbm, 1051, rfl⟩
abbrev main_v696 : Ref sig .tc := ⟨.hbm, 1052, rfl⟩
abbrev main_v697 : Ref sig .tc := ⟨.hbm, 1053, rfl⟩
abbrev main_v698 : Ref sig .tc := ⟨.hbm, 1054, rfl⟩
abbrev main_v699 : Ref sig .tc := ⟨.hbm, 1055, rfl⟩
abbrev main_v700 : Ref sig .tc := ⟨.hbm, 1056, rfl⟩
abbrev main_v701 : Ref sig .tc := ⟨.hbm, 1057, rfl⟩
abbrev main_v702 : Ref sig .tc := ⟨.hbm, 1058, rfl⟩
abbrev main_v703 : Ref sig .tc := ⟨.hbm, 1059, rfl⟩
abbrev main_v704 : Ref sig .tc := ⟨.hbm, 1060, rfl⟩
abbrev main_call25_cst : Ref sig .tc := ⟨.hbm, 1061, rfl⟩
abbrev main_call25_v0 : Ref sig .tc := ⟨.hbm, 1062, rfl⟩
abbrev main_v705 : Ref sig .tc := ⟨.hbm, 1063, rfl⟩
abbrev main_v706 : Ref sig .tc := ⟨.hbm, 1064, rfl⟩
abbrev main_v707 : Ref sig .tc := ⟨.hbm, 1065, rfl⟩
abbrev main_c_109 : Ref sig .tc := ⟨.hbm, 1066, rfl⟩
abbrev main_v708 : Ref sig .tc := ⟨.hbm, 1067, rfl⟩
abbrev main_v709 : Ref sig .tc := ⟨.hbm, 1068, rfl⟩
abbrev main_c_110 : Ref sig .tc := ⟨.hbm, 1069, rfl⟩
abbrev main_v710 : Ref sig .tc := ⟨.hbm, 1070, rfl⟩
abbrev main_v711 : Ref sig .tc := ⟨.hbm, 1071, rfl⟩
abbrev main_v712 : Ref sig .tc := ⟨.hbm, 1072, rfl⟩
abbrev main_v713 : Ref sig .tc := ⟨.hbm, 1073, rfl⟩
abbrev main_v714 : Ref sig .tc := ⟨.hbm, 1074, rfl⟩
abbrev main_v715 : Ref sig .tc := ⟨.hbm, 1075, rfl⟩
abbrev main_v716 : Ref sig .tc := ⟨.hbm, 1076, rfl⟩
abbrev main_c_111 : Ref sig .tc := ⟨.hbm, 1077, rfl⟩
abbrev main_v717 : Ref sig .tc := ⟨.hbm, 1078, rfl⟩
abbrev main_v718 : Ref sig .tc := ⟨.hbm, 1079, rfl⟩
abbrev main_c_112 : Ref sig .tc := ⟨.hbm, 1080, rfl⟩
abbrev main_v719 : Ref sig .tc := ⟨.hbm, 1081, rfl⟩
abbrev main_v720 : Ref sig .tc := ⟨.hbm, 1082, rfl⟩
abbrev main_v721 : Ref sig .tc := ⟨.hbm, 1083, rfl⟩
abbrev main_v722 : Ref sig .tc := ⟨.hbm, 1084, rfl⟩
abbrev main_v723 : Ref sig .tc := ⟨.hbm, 1085, rfl⟩
abbrev main_v724 : Ref sig .tc := ⟨.hbm, 1086, rfl⟩
abbrev main_c_113 : Ref sig .tc := ⟨.hbm, 1087, rfl⟩
abbrev main_v725 : Ref sig .tc := ⟨.hbm, 1088, rfl⟩
abbrev main_v726 : Ref sig .tc := ⟨.hbm, 1089, rfl⟩
abbrev main_c_114 : Ref sig .tc := ⟨.hbm, 1090, rfl⟩
abbrev main_v727 : Ref sig .tc := ⟨.hbm, 1091, rfl⟩
abbrev main_v728 : Ref sig .tc := ⟨.hbm, 1092, rfl⟩
abbrev main_v729 : Ref sig .tc := ⟨.hbm, 1093, rfl⟩
abbrev main_v730 : Ref sig .tc := ⟨.hbm, 1094, rfl⟩
abbrev main_v731 : Ref sig .tc := ⟨.hbm, 1095, rfl⟩
abbrev main_v732 : Ref sig .tc := ⟨.hbm, 1096, rfl⟩
abbrev main_cst_115 : Ref sig .tc := ⟨.hbm, 1097, rfl⟩
abbrev main_v733 : Ref sig .tc := ⟨.hbm, 1098, rfl⟩
abbrev main_v734 : Ref sig .tc := ⟨.hbm, 1099, rfl⟩
abbrev main_v735 : Ref sig .tc := ⟨.hbm, 1100, rfl⟩
abbrev main_v736 : Ref sig .tc := ⟨.hbm, 1101, rfl⟩
abbrev main_v737 : Ref sig .tc := ⟨.hbm, 1102, rfl⟩
abbrev main_v738 : Ref sig .tc := ⟨.hbm, 1103, rfl⟩
abbrev main_v739 : Ref sig .tc := ⟨.hbm, 1104, rfl⟩
abbrev main_v740 : Ref sig .tc := ⟨.hbm, 1105, rfl⟩
abbrev main_v741 : Ref sig .tc := ⟨.hbm, 1106, rfl⟩
abbrev main_v742 : Ref sig .tc := ⟨.hbm, 1107, rfl⟩
abbrev main_v743 : Ref sig .tc := ⟨.hbm, 1108, rfl⟩
abbrev main_v744 : Ref sig .tc := ⟨.hbm, 1109, rfl⟩
abbrev main_v745 : Ref sig .tc := ⟨.hbm, 1110, rfl⟩
abbrev main_v746 : Ref sig .tc := ⟨.hbm, 1111, rfl⟩
abbrev main_v747 : Ref sig .tc := ⟨.hbm, 1112, rfl⟩
abbrev main_call26_cst : Ref sig .tc := ⟨.hbm, 1113, rfl⟩
abbrev main_call26_v0 : Ref sig .tc := ⟨.hbm, 1114, rfl⟩
abbrev main_v748 : Ref sig .tc := ⟨.hbm, 1115, rfl⟩
abbrev main_v749 : Ref sig .tc := ⟨.hbm, 1116, rfl⟩
abbrev main_v750 : Ref sig .tc := ⟨.hbm, 1117, rfl⟩
abbrev main_v751 : Ref sig .tc := ⟨.hbm, 1118, rfl⟩
abbrev main_v752 : Ref sig .tc := ⟨.hbm, 1119, rfl⟩
abbrev main_cst_116 : Ref sig .tc := ⟨.hbm, 1120, rfl⟩
abbrev main_v753 : Ref sig .tc := ⟨.hbm, 1121, rfl⟩
abbrev main_cst_117 : Ref sig .tc := ⟨.hbm, 1122, rfl⟩
abbrev main_v754 : Ref sig .tc := ⟨.hbm, 1123, rfl⟩
abbrev main_v755 : Ref sig .tc := ⟨.hbm, 1124, rfl⟩
abbrev main_c_118 : Ref sig .tc := ⟨.hbm, 1125, rfl⟩
abbrev main_call27_cst : Ref sig .tc := ⟨.hbm, 1126, rfl⟩
abbrev main_call27_v0 : Ref sig .tc := ⟨.hbm, 1127, rfl⟩
abbrev main_call27_v1 : Ref sig .tc := ⟨.hbm, 1128, rfl⟩
abbrev main_call27_cst_0 : Ref sig .tc := ⟨.hbm, 1129, rfl⟩
abbrev main_call27_v2 : Ref sig .tc := ⟨.hbm, 1130, rfl⟩
abbrev main_call27_v3 : Ref sig .tc := ⟨.hbm, 1131, rfl⟩
abbrev main_call27_v4 : Ref sig .tc := ⟨.hbm, 1132, rfl⟩
abbrev main_call27_v5 : Ref sig .tc := ⟨.hbm, 1133, rfl⟩
abbrev main_call27_v6 : Ref sig .tc := ⟨.hbm, 1134, rfl⟩
abbrev main_call27_v7 : Ref sig .tc := ⟨.hbm, 1135, rfl⟩
abbrev main_call27_cst_1 : Ref sig .tc := ⟨.hbm, 1136, rfl⟩
abbrev main_call27_v8 : Ref sig .tc := ⟨.hbm, 1137, rfl⟩
abbrev main_call27_cst_2 : Ref sig .tc := ⟨.hbm, 1138, rfl⟩
abbrev main_call27_v9 : Ref sig .tc := ⟨.hbm, 1139, rfl⟩
abbrev main_call27_v10 : Ref sig .tc := ⟨.hbm, 1140, rfl⟩
abbrev main_call27_v11 : Ref sig .tc := ⟨.hbm, 1141, rfl⟩
abbrev main_call27_cst_3 : Ref sig .tc := ⟨.hbm, 1142, rfl⟩
abbrev main_call27_v12 : Ref sig .tc := ⟨.hbm, 1143, rfl⟩
abbrev main_call27_cst_4 : Ref sig .tc := ⟨.hbm, 1144, rfl⟩
abbrev main_call27_call0_v0 : Ref sig .tc := ⟨.hbm, 1145, rfl⟩
abbrev main_call27_call0_v1 : Ref sig .tc := ⟨.hbm, 1146, rfl⟩
abbrev main_v756 : Ref sig .tc := ⟨.hbm, 1147, rfl⟩
abbrev main_v757 : Ref sig .tc := ⟨.hbm, 1148, rfl⟩
abbrev main_v758 : Ref sig .tc := ⟨.hbm, 1149, rfl⟩
abbrev main_v759 : Ref sig .tc := ⟨.hbm, 1150, rfl⟩
abbrev main_cst_119 : Ref sig .tc := ⟨.hbm, 1151, rfl⟩
abbrev main_v760 : Ref sig .tc := ⟨.hbm, 1152, rfl⟩
abbrev main_v761 : Ref sig .tc := ⟨.hbm, 1153, rfl⟩
abbrev main_v762 : Ref sig .tc := ⟨.hbm, 1154, rfl⟩
abbrev main_v763 : Ref sig .tc := ⟨.hbm, 1155, rfl⟩
abbrev main_v764 : Ref sig .tc := ⟨.hbm, 1156, rfl⟩
abbrev main_v765 : Ref sig .tc := ⟨.hbm, 1157, rfl⟩
abbrev main_v766 : Ref sig .tc := ⟨.hbm, 1158, rfl⟩
abbrev main_v767 : Ref sig .tc := ⟨.hbm, 1159, rfl⟩
abbrev main_v768 : Ref sig .tc := ⟨.hbm, 1160, rfl⟩
abbrev main_v769 : Ref sig .tc := ⟨.hbm, 1161, rfl⟩
abbrev main_v770 : Ref sig .tc := ⟨.hbm, 1162, rfl⟩
abbrev main_v771 : Ref sig .tc := ⟨.hbm, 1163, rfl⟩
abbrev main_v772 : Ref sig .tc := ⟨.hbm, 1164, rfl⟩
abbrev main_v773 : Ref sig .tc := ⟨.hbm, 1165, rfl⟩
abbrev main_v774 : Ref sig .tc := ⟨.hbm, 1166, rfl⟩
abbrev main_v775 : Ref sig .tc := ⟨.hbm, 1167, rfl⟩
abbrev main_cst_120 : Ref sig .tc := ⟨.hbm, 1168, rfl⟩
abbrev main_v776 : Ref sig .tc := ⟨.hbm, 1169, rfl⟩
abbrev main_v777 : Ref sig .tc := ⟨.hbm, 1170, rfl⟩
abbrev main_v778 : Ref sig .tc := ⟨.hbm, 1171, rfl⟩
abbrev main_cst_121 : Ref sig .tc := ⟨.hbm, 1172, rfl⟩
abbrev main_v779 : Ref sig .tc := ⟨.hbm, 1173, rfl⟩
abbrev main_cst_122 : Ref sig .tc := ⟨.hbm, 1174, rfl⟩
abbrev main_v780 : Ref sig .tc := ⟨.hbm, 1175, rfl⟩
abbrev main_v781 : Ref sig .tc := ⟨.hbm, 1176, rfl⟩
abbrev main_v782 : Ref sig .tc := ⟨.hbm, 1177, rfl⟩
abbrev main_cst_123 : Ref sig .tc := ⟨.hbm, 1178, rfl⟩
abbrev main_call28_v0 : Ref sig .tc := ⟨.hbm, 1179, rfl⟩
abbrev main_call28_v1 : Ref sig .tc := ⟨.hbm, 1180, rfl⟩
abbrev main_v783 : Ref sig .tc := ⟨.hbm, 1181, rfl⟩
abbrev main_v784 : Ref sig .tc := ⟨.hbm, 1182, rfl⟩
abbrev main_v785 : Ref sig .tc := ⟨.hbm, 1183, rfl⟩
abbrev main_v786 : Ref sig .tc := ⟨.hbm, 1184, rfl⟩
abbrev main_v787 : Ref sig .tc := ⟨.hbm, 1185, rfl⟩
abbrev main_v788 : Ref sig .tc := ⟨.hbm, 1186, rfl⟩
abbrev main_v789 : Ref sig .tc := ⟨.hbm, 1187, rfl⟩
abbrev main_v790 : Ref sig .tc := ⟨.hbm, 1188, rfl⟩
abbrev main_v791 : Ref sig .tc := ⟨.hbm, 1189, rfl⟩
abbrev main_v792 : Ref sig .tc := ⟨.hbm, 1190, rfl⟩
abbrev main_v793 : Ref sig .tc := ⟨.hbm, 1191, rfl⟩
abbrev main_v794 : Ref sig .tc := ⟨.hbm, 1192, rfl⟩
abbrev main_v795 : Ref sig .tc := ⟨.hbm, 1193, rfl⟩
abbrev main_v796 : Ref sig .tc := ⟨.hbm, 1194, rfl⟩
abbrev main_v797 : Ref sig .tc := ⟨.hbm, 1195, rfl⟩
abbrev main_c_124 : Ref sig .tc := ⟨.hbm, 1196, rfl⟩
abbrev main_v798 : Ref sig .tc := ⟨.hbm, 1197, rfl⟩
abbrev main_v799 : Ref sig .tc := ⟨.hbm, 1198, rfl⟩
abbrev main_c_125 : Ref sig .tc := ⟨.hbm, 1199, rfl⟩
abbrev main_v800 : Ref sig .tc := ⟨.hbm, 1200, rfl⟩
abbrev main_v801 : Ref sig .tc := ⟨.hbm, 1201, rfl⟩
abbrev main_v802 : Ref sig .tc := ⟨.hbm, 1202, rfl⟩
abbrev main_v803 : Ref sig .tc := ⟨.hbm, 1203, rfl⟩
abbrev main_v804 : Ref sig .tc := ⟨.hbm, 1204, rfl⟩
abbrev main_v805 : Ref sig .tc := ⟨.hbm, 1205, rfl⟩
abbrev main_v806 : Ref sig .tc := ⟨.hbm, 1206, rfl⟩
abbrev main_v807 : Ref sig .tc := ⟨.hbm, 1207, rfl⟩
abbrev main_v808 : Ref sig .tc := ⟨.hbm, 1208, rfl⟩
abbrev main_v809 : Ref sig .tc := ⟨.hbm, 1209, rfl⟩
abbrev main_v810 : Ref sig .tc := ⟨.hbm, 1210, rfl⟩
abbrev main_v811 : Ref sig .tc := ⟨.hbm, 1211, rfl⟩
abbrev main_v812 : Ref sig .tc := ⟨.hbm, 1212, rfl⟩
abbrev main_v813 : Ref sig .tc := ⟨.hbm, 1213, rfl⟩
abbrev main_v814 : Ref sig .tc := ⟨.hbm, 1214, rfl⟩
abbrev main_v815 : Ref sig .tc := ⟨.hbm, 1215, rfl⟩
abbrev main_v816 : Ref sig .tc := ⟨.hbm, 1216, rfl⟩
abbrev main_v817 : Ref sig .tc := ⟨.hbm, 1217, rfl⟩
abbrev main_call29_v0 : Ref sig .tc := ⟨.hbm, 1218, rfl⟩
abbrev main_call29_cst : Ref sig .tc := ⟨.hbm, 1219, rfl⟩
abbrev main_call29_v1 : Ref sig .tc := ⟨.hbm, 1220, rfl⟩
abbrev main_call29_v2 : Ref sig .tc := ⟨.hbm, 1221, rfl⟩
abbrev main_v818 : Ref sig .tc := ⟨.hbm, 1222, rfl⟩
abbrev main_v819 : Ref sig .tc := ⟨.hbm, 1223, rfl⟩
abbrev main_v820 : Ref sig .tc := ⟨.hbm, 1224, rfl⟩
abbrev main_cst_126 : Ref sig .tc := ⟨.hbm, 1225, rfl⟩
abbrev main_v821 : Ref sig .tc := ⟨.hbm, 1226, rfl⟩
abbrev main_v822 : Ref sig .tc := ⟨.hbm, 1227, rfl⟩
abbrev main_v823 : Ref sig .tc := ⟨.hbm, 1228, rfl⟩
abbrev main_cst_127 : Ref sig .tc := ⟨.hbm, 1229, rfl⟩
abbrev main_v824 : Ref sig .tc := ⟨.hbm, 1230, rfl⟩
abbrev main_cst_128 : Ref sig .tc := ⟨.hbm, 1231, rfl⟩
abbrev main_v825 : Ref sig .tc := ⟨.hbm, 1232, rfl⟩
abbrev main_v826 : Ref sig .tc := ⟨.hbm, 1233, rfl⟩
abbrev main_v827 : Ref sig .tc := ⟨.hbm, 1234, rfl⟩
abbrev main_cst_129 : Ref sig .tc := ⟨.hbm, 1235, rfl⟩
abbrev main_call30_v0 : Ref sig .tc := ⟨.hbm, 1236, rfl⟩
abbrev main_call30_v1 : Ref sig .tc := ⟨.hbm, 1237, rfl⟩
abbrev main_v828 : Ref sig .tc := ⟨.hbm, 1238, rfl⟩
abbrev main_v829 : Ref sig .tc := ⟨.hbm, 1239, rfl⟩
abbrev main_v830 : Ref sig .tc := ⟨.hbm, 1240, rfl⟩
abbrev main_v831 : Ref sig .tc := ⟨.hbm, 1241, rfl⟩
abbrev main_v832 : Ref sig .tc := ⟨.hbm, 1242, rfl⟩
abbrev main_v833 : Ref sig .tc := ⟨.hbm, 1243, rfl⟩
abbrev main_v834 : Ref sig .tc := ⟨.hbm, 1244, rfl⟩
abbrev main_v835 : Ref sig .tc := ⟨.hbm, 1245, rfl⟩
abbrev main_v836 : Ref sig .tc := ⟨.hbm, 1246, rfl⟩
abbrev main_v837 : Ref sig .tc := ⟨.hbm, 1247, rfl⟩
abbrev main_v838 : Ref sig .tc := ⟨.hbm, 1248, rfl⟩
abbrev main_v839 : Ref sig .tc := ⟨.hbm, 1249, rfl⟩
abbrev main_v840 : Ref sig .tc := ⟨.hbm, 1250, rfl⟩
abbrev main_v841 : Ref sig .tc := ⟨.hbm, 1251, rfl⟩
abbrev main_v842 : Ref sig .tc := ⟨.hbm, 1252, rfl⟩
abbrev main_c_130 : Ref sig .tc := ⟨.hbm, 1253, rfl⟩
abbrev main_v843 : Ref sig .tc := ⟨.hbm, 1254, rfl⟩
abbrev main_v844 : Ref sig .tc := ⟨.hbm, 1255, rfl⟩
abbrev main_c_131 : Ref sig .tc := ⟨.hbm, 1256, rfl⟩
abbrev main_v845 : Ref sig .tc := ⟨.hbm, 1257, rfl⟩
abbrev main_v846 : Ref sig .tc := ⟨.hbm, 1258, rfl⟩
abbrev main_v847 : Ref sig .tc := ⟨.hbm, 1259, rfl⟩
abbrev main_v848 : Ref sig .tc := ⟨.hbm, 1260, rfl⟩
abbrev main_v849 : Ref sig .tc := ⟨.hbm, 1261, rfl⟩
abbrev main_v850 : Ref sig .tc := ⟨.hbm, 1262, rfl⟩
abbrev main_v851 : Ref sig .tc := ⟨.hbm, 1263, rfl⟩
abbrev main_v852 : Ref sig .tc := ⟨.hbm, 1264, rfl⟩
abbrev main_v853 : Ref sig .tc := ⟨.hbm, 1265, rfl⟩
abbrev main_v854 : Ref sig .tc := ⟨.hbm, 1266, rfl⟩
abbrev main_v855 : Ref sig .tc := ⟨.hbm, 1267, rfl⟩
abbrev main_v856 : Ref sig .tc := ⟨.hbm, 1268, rfl⟩
abbrev main_v857 : Ref sig .tc := ⟨.hbm, 1269, rfl⟩
abbrev main_v858 : Ref sig .tc := ⟨.hbm, 1270, rfl⟩
abbrev main_v859 : Ref sig .tc := ⟨.hbm, 1271, rfl⟩
abbrev main_v860 : Ref sig .tc := ⟨.hbm, 1272, rfl⟩
abbrev main_v861 : Ref sig .tc := ⟨.hbm, 1273, rfl⟩
abbrev main_v862 : Ref sig .tc := ⟨.hbm, 1274, rfl⟩
abbrev main_call31_v0 : Ref sig .tc := ⟨.hbm, 1275, rfl⟩
abbrev main_call31_cst : Ref sig .tc := ⟨.hbm, 1276, rfl⟩
abbrev main_call31_v1 : Ref sig .tc := ⟨.hbm, 1277, rfl⟩
abbrev main_call31_v2 : Ref sig .tc := ⟨.hbm, 1278, rfl⟩
abbrev main_v863 : Ref sig .tc := ⟨.hbm, 1279, rfl⟩
abbrev main_v864 : Ref sig .tc := ⟨.hbm, 1280, rfl⟩
abbrev main_v865 : Ref sig .tc := ⟨.hbm, 1281, rfl⟩
abbrev main_v866 : Ref sig .tc := ⟨.hbm, 1282, rfl⟩
abbrev main_cst_132 : Ref sig .tc := ⟨.hbm, 1283, rfl⟩
abbrev main_v867 : Ref sig .tc := ⟨.hbm, 1284, rfl⟩
abbrev main_v868 : Ref sig .tc := ⟨.hbm, 1285, rfl⟩
abbrev main_v869 : Ref sig .tc := ⟨.hbm, 1286, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc4_stg0_0 : Ref sig .tc := ⟨.vmem, 16, rfl⟩
abbrev cc4_stg1_0 : Ref sig .tc := ⟨.vmem, 17, rfl⟩
abbrev cc4_stg2_0 : Ref sig .tc := ⟨.vmem, 18, rfl⟩
abbrev cc4_stg3_0 : Ref sig .tc := ⟨.vmem, 19, rfl⟩
abbrev cc5_stg0_0 : Ref sig .tc := ⟨.vmem, 20, rfl⟩
abbrev cc5_stg1_0 : Ref sig .tc := ⟨.vmem, 21, rfl⟩
abbrev cc5_stg2_0 : Ref sig .tc := ⟨.vmem, 22, rfl⟩
abbrev cc5_stg3_0 : Ref sig .tc := ⟨.vmem, 23, rfl⟩
abbrev cc6_stg0_0 : Ref sig .tc := ⟨.vmem, 24, rfl⟩
abbrev cc6_stg1_0 : Ref sig .tc := ⟨.vmem, 25, rfl⟩
abbrev cc6_stg2_0 : Ref sig .tc := ⟨.vmem, 26, rfl⟩
abbrev cc6_stg3_0 : Ref sig .tc := ⟨.vmem, 27, rfl⟩
abbrev cc7_stg0_0 : Ref sig .tc := ⟨.vmem, 28, rfl⟩
abbrev cc7_stg1_0 : Ref sig .tc := ⟨.vmem, 29, rfl⟩
abbrev cc7_stg2_0 : Ref sig .tc := ⟨.vmem, 30, rfl⟩
abbrev cc7_stg3_0 : Ref sig .tc := ⟨.vmem, 31, rfl⟩
abbrev cc8_stg0_0 : Ref sig .tc := ⟨.vmem, 32, rfl⟩
abbrev cc8_stg1_0 : Ref sig .tc := ⟨.vmem, 33, rfl⟩
abbrev cc8_stg2_0 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc3_sem0_0 : DmaSem sig := 12
abbrev cc3_sem1_0 : DmaSem sig := 13
abbrev cc3_sem2_0 : DmaSem sig := 14
abbrev cc3_sem3_0 : DmaSem sig := 15
abbrev cc4_sem0_0 : DmaSem sig := 16
abbrev cc4_sem1_0 : DmaSem sig := 17
abbrev cc4_sem2_0 : DmaSem sig := 18
abbrev cc4_sem3_0 : DmaSem sig := 19
abbrev cc5_sem0_0 : DmaSem sig := 20
abbrev cc5_sem1_0 : DmaSem sig := 21
abbrev cc5_sem2_0 : DmaSem sig := 22
abbrev cc5_sem3_0 : DmaSem sig := 23
abbrev cc6_sem0_0 : DmaSem sig := 24
abbrev cc6_sem1_0 : DmaSem sig := 25
abbrev cc6_sem2_0 : DmaSem sig := 26
abbrev cc6_sem3_0 : DmaSem sig := 27
abbrev cc7_sem0_0 : DmaSem sig := 28
abbrev cc7_sem1_0 : DmaSem sig := 29
abbrev cc7_sem2_0 : DmaSem sig := 30
abbrev cc7_sem3_0 : DmaSem sig := 31
abbrev cc8_sem0_0 : DmaSem sig := 32
abbrev cc8_sem1_0 : DmaSem sig := 33
abbrev cc8_sem2_0 : DmaSem sig := 34

abbrev nD : Nat := 1
abbrev τ : Topo := Topo.v7x

variable {F : FTy → Type} [FloatOps F]

abbrev grid0 : Pipeline.Grid := .none

abbrev stage0_0 : Fin 1 → Memref sig .tc .vmem S512x300 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S300x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S512x300 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S300x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := .none

abbrev stage2_0 : Fin 1 → Memref sig .tc .vmem S512x300 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S300x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S512x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := .none

abbrev stage3_0 : Fin 1 → Memref sig .tc .vmem S512x300 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S300x300 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S512x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev grid4 : Pipeline.Grid := .none

abbrev stage4_0 : Fin 1 → Memref sig .tc .vmem S512x300 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S300x300 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S512x300 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev grid5 : Pipeline.Grid := .none

abbrev stage5_0 : Fin 1 → Memref sig .tc .vmem S512x300 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S300x300 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S1x300 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S512x300 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev grid6 : Pipeline.Grid := .none

abbrev stage6_0 : Fin 1 → Memref sig .tc .vmem S512x300 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S300x300 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S1x300 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S512x300 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev grid7 : Pipeline.Grid := .none

abbrev stage7_0 : Fin 1 → Memref sig .tc .vmem S512x300 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S300x300 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S1x300 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S512x300 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev grid8 : Pipeline.Grid := .none

abbrev stage8_0 : Fin 1 → Memref sig .tc .vmem S512x300 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S512x300 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S512x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
-- ==== ReferenceIdeal.lean ====
abbrev S10000x2 : Shape := ⟨2, ![10000, 2]⟩
abbrev S2x160000 : Shape := ⟨2, ![2, 160000]⟩
abbrev S160000x2 : Shape := ⟨2, ![160000, 2]⟩
abbrev S10000 : Shape := ⟨1, ![10000]⟩
abbrev S512 : Shape := ⟨1, ![512]⟩
abbrev S120x300 : Shape := ⟨2, ![120, 300]⟩
abbrev S3x300 : Shape := ⟨2, ![3, 300]⟩
abbrev S5x6x300 : Shape := ⟨3, ![5, 6, 300]⟩
abbrev S5x3x300 : Shape := ⟨3, ![5, 3, 300]⟩
abbrev S5x300x600 : Shape := ⟨3, ![5, 300, 600]⟩
abbrev S5x600 : Shape := ⟨2, ![5, 600]⟩
abbrev S5x600x300 : Shape := ⟨3, ![5, 600, 300]⟩
abbrev S5x300 : Shape := ⟨2, ![5, 300]⟩
abbrev S4x300x300 : Shape := ⟨3, ![4, 300, 300]⟩
abbrev S4x300 : Shape := ⟨2, ![4, 300]⟩
abbrev S1x160000 : Shape := ⟨2, ![1, 160000]⟩
abbrev S160000 : Shape := ⟨1, ![160000]⟩
abbrev S160000x1 : Shape := ⟨2, ![160000, 1]⟩
abbrev S10000x1 : Shape := ⟨2, ![10000, 1]⟩
abbrev S_ : Shape := ⟨0, ![]⟩
abbrev S10000x300 : Shape := ⟨2, ![10000, 300]⟩
abbrev S170000 : Shape := ⟨1, ![170000]⟩
abbrev S1x6x300 : Shape := ⟨3, ![1, 6, 300]⟩
abbrev S6x300 : Shape := ⟨2, ![6, 300]⟩
abbrev S170000x1 : Shape := ⟨2, ![170000, 1]⟩
abbrev S170000x300 : Shape := ⟨2, ![170000, 300]⟩
abbrev S1x3x300 : Shape := ⟨3, ![1, 3, 300]⟩
abbrev S1x300x600 : Shape := ⟨3, ![1, 300, 600]⟩
abbrev S300x600 : Shape := ⟨2, ![300, 600]⟩
abbrev S1x600 : Shape := ⟨2, ![1, 600]⟩
abbrev S600 : Shape := ⟨1, ![600]⟩
abbrev S1x600x300 : Shape := ⟨3, ![1, 600, 300]⟩
abbrev S600x300 : Shape := ⟨2, ![600, 300]⟩
abbrev S1x300 : Shape := ⟨2, ![1, 300]⟩
abbrev S300 : Shape := ⟨1, ![300]⟩
abbrev S10000x600 : Shape := ⟨2, ![10000, 600]⟩
abbrev S512x300 : Shape := ⟨2, ![512, 300]⟩
abbrev S512x1 : Shape := ⟨2, ![512, 1]⟩
abbrev S1x300x300 : Shape := ⟨3, ![1, 300, 300]⟩
abbrev S300x300 : Shape := ⟨2, ![300, 300]⟩
abbrev S300x512 : Shape := ⟨2, ![300, 512]⟩
abbrev S512x512 : Shape := ⟨2, ![512, 512]⟩

abbrev nBuf : Space → Nat
  | .hbm => 1316
  | .vmem => 0
  | .smem => 0
  | _ => 0

abbrev hbmTy0_0 (i : Nat) : BufTy := match i % 128 with
  | 0 => ⟨S10000x2, .i32⟩
  | 1 => ⟨S2x160000, .i32⟩
  | 2 => ⟨S160000x2, .i32⟩
  | 3 => ⟨S10000, .i32⟩
  | 4 => ⟨S512, .i32⟩
  | 5 => ⟨S10000x2, .i32⟩
  | 6 => ⟨S2x160000, .i32⟩
  | 7 => ⟨S160000x2, .i32⟩
  | 8 => ⟨S10000, .i32⟩
  | 9 => ⟨S512, .i32⟩
  | 10 => ⟨S120x300, .f32⟩
  | 11 => ⟨S3x300, .f32⟩
  | 12 => ⟨S5x6x300, .f32⟩
  | 13 => ⟨S5x3x300, .f32⟩
  | 14 => ⟨S5x300x600, .f32⟩
  | 15 => ⟨S5x600, .f32⟩
  | 16 => ⟨S5x600x300, .f32⟩
  | 17 => ⟨S5x300, .f32⟩
  | 18 => ⟨S5x300, .f32⟩
  | 19 => ⟨S5x300, .f32⟩
  | 20 => ⟨S4x300x300, .f32⟩
  | 21 => ⟨S4x300, .f32⟩
  | 22 => ⟨S4x300x300, .f32⟩
  | 23 => ⟨S4x300, .f32⟩
  | 24 => ⟨S1x160000, .i32⟩
  | 25 => ⟨S160000, .i32⟩
  | 26 => ⟨S1x160000, .i32⟩
  | 27 => ⟨S160000, .i32⟩
  | 28 => ⟨S160000x1, .i32⟩
  | 29 => ⟨S160000, .i32⟩
  | 30 => ⟨S160000x1, .i32⟩
  | 31 => ⟨S160000, .i32⟩
  | 32 => ⟨S10000x1, .i32⟩
  | 33 => ⟨S10000, .i32⟩
  | 34 => ⟨S_, .i32⟩
  | 35 => ⟨S10000, .i32⟩
  | 36 => ⟨S10000, .i1⟩
  | 37 => ⟨S_, .i32⟩
  | 38 => ⟨S10000, .i32⟩
  | 39 => ⟨S10000, .i32⟩
  | 40 => ⟨S10000, .i32⟩
  | 41 => ⟨S10000x1, .i32⟩
  | 42 => ⟨S10000x300, .f32⟩
  | 43 => ⟨S10000x1, .i32⟩
  | 44 => ⟨S10000, .i32⟩
  | 45 => ⟨S_, .i32⟩
  | 46 => ⟨S10000, .i32⟩
  | 47 => ⟨S10000, .i1⟩
  | 48 => ⟨S_, .i32⟩
  | 49 => ⟨S10000, .i32⟩
  | 50 => ⟨S10000, .i32⟩
  | 51 => ⟨S10000, .i32⟩
  | 52 => ⟨S10000x1, .i32⟩
  | 53 => ⟨S10000x300, .f32⟩
  | 54 => ⟨S10000x300, .f32⟩
  | 55 => ⟨S10000, .i32⟩
  | 56 => ⟨S170000, .i32⟩
  | 57 => ⟨S170000, .i32⟩
  | 58 => ⟨S_, .i32⟩
  | 59 => ⟨S10000, .i32⟩
  | 60 => ⟨S170000, .i32⟩
  | 61 => ⟨S_, .i32⟩
  | 62 => ⟨S10000, .i32⟩
  | 63 => ⟨S170000, .i32⟩
  | 64 => ⟨S1x6x300, .f32⟩
  | 65 => ⟨S6x300, .f32⟩
  | 66 => ⟨S_, .i32⟩
  | 67 => ⟨S170000, .i32⟩
  | 68 => ⟨S170000, .i1⟩
  | 69 => ⟨S_, .i32⟩
  | 70 => ⟨S170000, .i32⟩
  | 71 => ⟨S170000, .i32⟩
  | 72 => ⟨S170000, .i32⟩
  | 73 => ⟨S170000x1, .i32⟩
  | 74 => ⟨S170000x300, .f32⟩
  | 75 => ⟨S1x3x300, .f32⟩
  | 76 => ⟨S3x300, .f32⟩
  | 77 => ⟨S_, .i32⟩
  | 78 => ⟨S170000, .i32⟩
  | 79 => ⟨S170000, .i1⟩
  | 80 => ⟨S_, .i32⟩
  | 81 => ⟨S170000, .i32⟩
  | 82 => ⟨S170000, .i32⟩
  | 83 => ⟨S170000, .i32⟩
  | 84 => ⟨S170000x1, .i32⟩
  | 85 => ⟨S170000x300, .f32⟩
  | 86 => ⟨S170000x300, .f32⟩
  | 87 => ⟨S_, .i32⟩
  | 88 => ⟨S170000, .i32⟩
  | 89 => ⟨S170000, .i1⟩
  | 90 => ⟨S_, .i32⟩
  | 91 => ⟨S170000, .i32⟩
  | 92 => ⟨S170000, .i32⟩
  | 93 => ⟨S170000, .i32⟩
  | 94 => ⟨S170000x1, .i32⟩
  | 95 => ⟨S170000x300, .f32⟩
  | 96 => ⟨S170000x300, .f32⟩
  | 97 => ⟨S_, .f32⟩
  | 98 => ⟨S10000x300, .f32⟩
  | 99 => ⟨S170000x1, .i32⟩
  | 100 => ⟨S10000x300, .f32⟩
  | 101 => ⟨S1x300x600, .f32⟩
  | 102 => ⟨S300x600, .f32⟩
  | 103 => ⟨S1x600, .f32⟩
  | 104 => ⟨S600, .f32⟩
  | 105 => ⟨S1x600x300, .f32⟩
  | 106 => ⟨S600x300, .f32⟩
  | 107 => ⟨S1x300, .f32⟩
  | 108 => ⟨S300, .f32⟩
  | 109 => ⟨S10000x600, .f32⟩
  | 110 => ⟨S1x600, .f32⟩
  | 111 => ⟨S10000x600, .f32⟩
  | 112 => ⟨S10000x600, .f32⟩
  | 113 => ⟨S_, .f32⟩
  | 114 => ⟨S10000x600, .f32⟩
  | 115 => ⟨S10000x600, .f32⟩
  | 116 => ⟨S10000x300, .f32⟩
  | 117 => ⟨S1x300, .f32⟩
  | 118 => ⟨S10000x300, .f32⟩
  | 119 => ⟨S10000x300, .f32⟩
  | 120 => ⟨S_, .f32⟩
  | 121 => ⟨S300, .f32⟩
  | 122 => ⟨S_, .f32⟩
  | 123 => ⟨S300, .f32⟩
  | 124 => ⟨S300, .f32⟩
  | 125 => ⟨S_, .i32⟩
  | 126 => ⟨S_, .f32⟩
  | 127 => ⟨S300, .f32⟩
  | _ => ⟨S10000x2, .i32⟩

abbrev hbmTy0_1 (i : Nat) : BufTy := match i % 128 with
  | 0 => ⟨S1x300, .f32⟩
  | 1 => ⟨S_, .f32⟩
  | 2 => ⟨S1x300, .f32⟩
  | 3 => ⟨S1x300, .f32⟩
  | 4 => ⟨S10000x300, .f32⟩
  | 5 => ⟨S10000x300, .f32⟩
  | 6 => ⟨S10000x300, .f32⟩
  | 7 => ⟨S_, .f32⟩
  | 8 => ⟨S_, .f32⟩
  | 9 => ⟨S_, .f32⟩
  | 10 => ⟨S_, .f32⟩
  | 11 => ⟨S300, .f32⟩
  | 12 => ⟨S300, .f32⟩
  | 13 => ⟨S300, .f32⟩
  | 14 => ⟨S_, .f32⟩
  | 15 => ⟨S_, .i1⟩
  | 16 => ⟨S_, .f32⟩
  | 17 => ⟨S_, .f32⟩
  | 18 => ⟨S300, .f32⟩
  | 19 => ⟨S300, .f32⟩
  | 20 => ⟨S1x300, .f32⟩
  | 21 => ⟨S10000x300, .f32⟩
  | 22 => ⟨S10000x300, .f32⟩
  | 23 => ⟨S_, .f32⟩
  | 24 => ⟨S300, .f32⟩
  | 25 => ⟨S300, .f32⟩
  | 26 => ⟨S300, .f32⟩
  | 27 => ⟨S1x300, .f32⟩
  | 28 => ⟨S10000x300, .f32⟩
  | 29 => ⟨S10000x300, .f32⟩
  | 30 => ⟨S1x300, .f32⟩
  | 31 => ⟨S300, .f32⟩
  | 32 => ⟨S1x300, .f32⟩
  | 33 => ⟨S10000x300, .f32⟩
  | 34 => ⟨S10000x300, .f32⟩
  | 35 => ⟨S1x300, .f32⟩
  | 36 => ⟨S300, .f32⟩
  | 37 => ⟨S1x300, .f32⟩
  | 38 => ⟨S10000x300, .f32⟩
  | 39 => ⟨S10000x300, .f32⟩
  | 40 => ⟨S_, .f32⟩
  | 41 => ⟨S10000x300, .f32⟩
  | 42 => ⟨S10000x300, .f32⟩
  | 43 => ⟨S1x6x300, .f32⟩
  | 44 => ⟨S6x300, .f32⟩
  | 45 => ⟨S_, .i32⟩
  | 46 => ⟨S170000, .i32⟩
  | 47 => ⟨S170000, .i1⟩
  | 48 => ⟨S_, .i32⟩
  | 49 => ⟨S170000, .i32⟩
  | 50 => ⟨S170000, .i32⟩
  | 51 => ⟨S170000, .i32⟩
  | 52 => ⟨S170000x1, .i32⟩
  | 53 => ⟨S170000x300, .f32⟩
  | 54 => ⟨S1x3x300, .f32⟩
  | 55 => ⟨S3x300, .f32⟩
  | 56 => ⟨S_, .i32⟩
  | 57 => ⟨S170000, .i32⟩
  | 58 => ⟨S170000, .i1⟩
  | 59 => ⟨S_, .i32⟩
  | 60 => ⟨S170000, .i32⟩
  | 61 => ⟨S170000, .i32⟩
  | 62 => ⟨S170000, .i32⟩
  | 63 => ⟨S170000x1, .i32⟩
  | 64 => ⟨S170000x300, .f32⟩
  | 65 => ⟨S170000x300, .f32⟩
  | 66 => ⟨S_, .i32⟩
  | 67 => ⟨S170000, .i32⟩
  | 68 => ⟨S170000, .i1⟩
  | 69 => ⟨S_, .i32⟩
  | 70 => ⟨S170000, .i32⟩
  | 71 => ⟨S170000, .i32⟩
  | 72 => ⟨S170000, .i32⟩
  | 73 => ⟨S170000x1, .i32⟩
  | 74 => ⟨S170000x300, .f32⟩
  | 75 => ⟨S170000x300, .f32⟩
  | 76 => ⟨S_, .f32⟩
  | 77 => ⟨S10000x300, .f32⟩
  | 78 => ⟨S170000x1, .i32⟩
  | 79 => ⟨S10000x300, .f32⟩
  | 80 => ⟨S1x300x600, .f32⟩
  | 81 => ⟨S300x600, .f32⟩
  | 82 => ⟨S1x600, .f32⟩
  | 83 => ⟨S600, .f32⟩
  | 84 => ⟨S1x600x300, .f32⟩
  | 85 => ⟨S600x300, .f32⟩
  | 86 => ⟨S1x300, .f32⟩
  | 87 => ⟨S300, .f32⟩
  | 88 => ⟨S10000x600, .f32⟩
  | 89 => ⟨S1x600, .f32⟩
  | 90 => ⟨S10000x600, .f32⟩
  | 91 => ⟨S10000x600, .f32⟩
  | 92 => ⟨S_, .f32⟩
  | 93 => ⟨S10000x600, .f32⟩
  | 94 => ⟨S10000x600, .f32⟩
  | 95 => ⟨S10000x300, .f32⟩
  | 96 => ⟨S1x300, .f32⟩
  | 97 => ⟨S10000x300, .f32⟩
  | 98 => ⟨S10000x300, .f32⟩
  | 99 => ⟨S_, .f32⟩
  | 100 => ⟨S300, .f32⟩
  | 101 => ⟨S_, .f32⟩
  | 102 => ⟨S300, .f32⟩
  | 103 => ⟨S300, .f32⟩
  | 104 => ⟨S_, .i32⟩
  | 105 => ⟨S_, .f32⟩
  | 106 => ⟨S300, .f32⟩
  | 107 => ⟨S1x300, .f32⟩
  | 108 => ⟨S_, .f32⟩
  | 109 => ⟨S1x300, .f32⟩
  | 110 => ⟨S1x300, .f32⟩
  | 111 => ⟨S10000x300, .f32⟩
  | 112 => ⟨S10000x300, .f32⟩
  | 113 => ⟨S10000x300, .f32⟩
  | 114 => ⟨S_, .f32⟩
  | 115 => ⟨S_, .f32⟩
  | 116 => ⟨S_, .f32⟩
  | 117 => ⟨S_, .f32⟩
  | 118 => ⟨S300, .f32⟩
  | 119 => ⟨S300, .f32⟩
  | 120 => ⟨S300, .f32⟩
  | 121 => ⟨S_, .f32⟩
  | 122 => ⟨S_, .i1⟩
  | 123 => ⟨S_, .f32⟩
  | 124 => ⟨S_, .f32⟩
  | 125 => ⟨S300, .f32⟩
  | 126 => ⟨S300, .f32⟩
  | 127 => ⟨S1x300, .f32⟩
  | _ => ⟨S10000x2, .i32⟩

abbrev hbmTy0_2 (i : Nat) : BufTy := match i % 128 with
  | 0 => ⟨S10000x300, .f32⟩
  | 1 => ⟨S10000x300, .f32⟩
  | 2 => ⟨S_, .f32⟩
  | 3 => ⟨S300, .f32⟩
  | 4 => ⟨S300, .f32⟩
  | 5 => ⟨S300, .f32⟩
  | 6 => ⟨S1x300, .f32⟩
  | 7 => ⟨S10000x300, .f32⟩
  | 8 => ⟨S10000x300, .f32⟩
  | 9 => ⟨S1x300, .f32⟩
  | 10 => ⟨S300, .f32⟩
  | 11 => ⟨S1x300, .f32⟩
  | 12 => ⟨S10000x300, .f32⟩
  | 13 => ⟨S10000x300, .f32⟩
  | 14 => ⟨S1x300, .f32⟩
  | 15 => ⟨S300, .f32⟩
  | 16 => ⟨S1x300, .f32⟩
  | 17 => ⟨S10000x300, .f32⟩
  | 18 => ⟨S10000x300, .f32⟩
  | 19 => ⟨S_, .f32⟩
  | 20 => ⟨S10000x300, .f32⟩
  | 21 => ⟨S10000x300, .f32⟩
  | 22 => ⟨S1x6x300, .f32⟩
  | 23 => ⟨S6x300, .f32⟩
  | 24 => ⟨S_, .i32⟩
  | 25 => ⟨S170000, .i32⟩
  | 26 => ⟨S170000, .i1⟩
  | 27 => ⟨S_, .i32⟩
  | 28 => ⟨S170000, .i32⟩
  | 29 => ⟨S170000, .i32⟩
  | 30 => ⟨S170000, .i32⟩
  | 31 => ⟨S170000x1, .i32⟩
  | 32 => ⟨S170000x300, .f32⟩
  | 33 => ⟨S1x3x300, .f32⟩
  | 34 => ⟨S3x300, .f32⟩
  | 35 => ⟨S_, .i32⟩
  | 36 => ⟨S170000, .i32⟩
  | 37 => ⟨S170000, .i1⟩
  | 38 => ⟨S_, .i32⟩
  | 39 => ⟨S170000, .i32⟩
  | 40 => ⟨S170000, .i32⟩
  | 41 => ⟨S170000, .i32⟩
  | 42 => ⟨S170000x1, .i32⟩
  | 43 => ⟨S170000x300, .f32⟩
  | 44 => ⟨S170000x300, .f32⟩
  | 45 => ⟨S_, .i32⟩
  | 46 => ⟨S170000, .i32⟩
  | 47 => ⟨S170000, .i1⟩
  | 48 => ⟨S_, .i32⟩
  | 49 => ⟨S170000, .i32⟩
  | 50 => ⟨S170000, .i32⟩
  | 51 => ⟨S170000, .i32⟩
  | 52 => ⟨S170000x1, .i32⟩
  | 53 => ⟨S170000x300, .f32⟩
  | 54 => ⟨S170000x300, .f32⟩
  | 55 => ⟨S_, .f32⟩
  | 56 => ⟨S10000x300, .f32⟩
  | 57 => ⟨S170000x1, .i32⟩
  | 58 => ⟨S10000x300, .f32⟩
  | 59 => ⟨S1x300x600, .f32⟩
  | 60 => ⟨S300x600, .f32⟩
  | 61 => ⟨S1x600, .f32⟩
  | 62 => ⟨S600, .f32⟩
  | 63 => ⟨S1x600x300, .f32⟩
  | 64 => ⟨S600x300, .f32⟩
  | 65 => ⟨S1x300, .f32⟩
  | 66 => ⟨S300, .f32⟩
  | 67 => ⟨S10000x600, .f32⟩
  | 68 => ⟨S1x600, .f32⟩
  | 69 => ⟨S10000x600, .f32⟩
  | 70 => ⟨S10000x600, .f32⟩
  | 71 => ⟨S_, .f32⟩
  | 72 => ⟨S10000x600, .f32⟩
  | 73 => ⟨S10000x600, .f32⟩
  | 74 => ⟨S10000x300, .f32⟩
  | 75 => ⟨S1x300, .f32⟩
  | 76 => ⟨S10000x300, .f32⟩
  | 77 => ⟨S10000x300, .f32⟩
  | 78 => ⟨S_, .f32⟩
  | 79 => ⟨S300, .f32⟩
  | 80 => ⟨S_, .f32⟩
  | 81 => ⟨S300, .f32⟩
  | 82 => ⟨S300, .f32⟩
  | 83 => ⟨S_, .i32⟩
  | 84 => ⟨S_, .f32⟩
  | 85 => ⟨S300, .f32⟩
  | 86 => ⟨S1x300, .f32⟩
  | 87 => ⟨S_, .f32⟩
  | 88 => ⟨S1x300, .f32⟩
  | 89 => ⟨S1x300, .f32⟩
  | 90 => ⟨S10000x300, .f32⟩
  | 91 => ⟨S10000x300, .f32⟩
  | 92 => ⟨S10000x300, .f32⟩
  | 93 => ⟨S_, .f32⟩
  | 94 => ⟨S_, .f32⟩
  | 95 => ⟨S_, .f32⟩
  | 96 => ⟨S_, .f32⟩
  | 97 => ⟨S300, .f32⟩
  | 98 => ⟨S300, .f32⟩
  | 99 => ⟨S300, .f32⟩
  | 100 => ⟨S_, .f32⟩
  | 101 => ⟨S_, .i1⟩
  | 102 => ⟨S_, .f32⟩
  | 103 => ⟨S_, .f32⟩
  | 104 => ⟨S300, .f32⟩
  | 105 => ⟨S300, .f32⟩
  | 106 => ⟨S1x300, .f32⟩
  | 107 => ⟨S10000x300, .f32⟩
  | 108 => ⟨S10000x300, .f32⟩
  | 109 => ⟨S_, .f32⟩
  | 110 => ⟨S300, .f32⟩
  | 111 => ⟨S300, .f32⟩
  | 112 => ⟨S300, .f32⟩
  | 113 => ⟨S1x300, .f32⟩
  | 114 => ⟨S10000x300, .f32⟩
  | 115 => ⟨S10000x300, .f32⟩
  | 116 => ⟨S1x300, .f32⟩
  | 117 => ⟨S300, .f32⟩
  | 118 => ⟨S1x300, .f32⟩
  | 119 => ⟨S10000x300, .f32⟩
  | 120 => ⟨S10000x300, .f32⟩
  | 121 => ⟨S1x300, .f32⟩
  | 122 => ⟨S300, .f32⟩
  | 123 => ⟨S1x300, .f32⟩
  | 124 => ⟨S10000x300, .f32⟩
  | 125 => ⟨S10000x300, .f32⟩
  | 126 => ⟨S_, .f32⟩
  | 127 => ⟨S10000x300, .f32⟩
  | _ => ⟨S10000x2, .i32⟩

abbrev hbmTy0_3 (i : Nat) : BufTy := match i % 128 with
  | 0 => ⟨S10000x300, .f32⟩
  | 1 => ⟨S1x6x300, .f32⟩
  | 2 => ⟨S6x300, .f32⟩
  | 3 => ⟨S_, .i32⟩
  | 4 => ⟨S170000, .i32⟩
  | 5 => ⟨S170000, .i1⟩
  | 6 => ⟨S_, .i32⟩
  | 7 => ⟨S170000, .i32⟩
  | 8 => ⟨S170000, .i32⟩
  | 9 => ⟨S170000, .i32⟩
  | 10 => ⟨S170000x1, .i32⟩
  | 11 => ⟨S170000x300, .f32⟩
  | 12 => ⟨S1x3x300, .f32⟩
  | 13 => ⟨S3x300, .f32⟩
  | 14 => ⟨S_, .i32⟩
  | 15 => ⟨S170000, .i32⟩
  | 16 => ⟨S170000, .i1⟩
  | 17 => ⟨S_, .i32⟩
  | 18 => ⟨S170000, .i32⟩
  | 19 => ⟨S170000, .i32⟩
  | 20 => ⟨S170000, .i32⟩
  | 21 => ⟨S170000x1, .i32⟩
  | 22 => ⟨S170000x300, .f32⟩
  | 23 => ⟨S170000x300, .f32⟩
  | 24 => ⟨S_, .i32⟩
  | 25 => ⟨S170000, .i32⟩
  | 26 => ⟨S170000, .i1⟩
  | 27 => ⟨S_, .i32⟩
  | 28 => ⟨S170000, .i32⟩
  | 29 => ⟨S170000, .i32⟩
  | 30 => ⟨S170000, .i32⟩
  | 31 => ⟨S170000x1, .i32⟩
  | 32 => ⟨S170000x300, .f32⟩
  | 33 => ⟨S170000x300, .f32⟩
  | 34 => ⟨S_, .f32⟩
  | 35 => ⟨S10000x300, .f32⟩
  | 36 => ⟨S170000x1, .i32⟩
  | 37 => ⟨S10000x300, .f32⟩
  | 38 => ⟨S1x300x600, .f32⟩
  | 39 => ⟨S300x600, .f32⟩
  | 40 => ⟨S1x600, .f32⟩
  | 41 => ⟨S600, .f32⟩
  | 42 => ⟨S1x600x300, .f32⟩
  | 43 => ⟨S600x300, .f32⟩
  | 44 => ⟨S1x300, .f32⟩
  | 45 => ⟨S300, .f32⟩
  | 46 => ⟨S10000x600, .f32⟩
  | 47 => ⟨S1x600, .f32⟩
  | 48 => ⟨S10000x600, .f32⟩
  | 49 => ⟨S10000x600, .f32⟩
  | 50 => ⟨S_, .f32⟩
  | 51 => ⟨S10000x600, .f32⟩
  | 52 => ⟨S10000x600, .f32⟩
  | 53 => ⟨S10000x300, .f32⟩
  | 54 => ⟨S1x300, .f32⟩
  | 55 => ⟨S10000x300, .f32⟩
  | 56 => ⟨S10000x300, .f32⟩
  | 57 => ⟨S_, .f32⟩
  | 58 => ⟨S300, .f32⟩
  | 59 => ⟨S_, .f32⟩
  | 60 => ⟨S300, .f32⟩
  | 61 => ⟨S300, .f32⟩
  | 62 => ⟨S_, .i32⟩
  | 63 => ⟨S_, .f32⟩
  | 64 => ⟨S300, .f32⟩
  | 65 => ⟨S1x300, .f32⟩
  | 66 => ⟨S_, .f32⟩
  | 67 => ⟨S1x300, .f32⟩
  | 68 => ⟨S1x300, .f32⟩
  | 69 => ⟨S10000x300, .f32⟩
  | 70 => ⟨S10000x300, .f32⟩
  | 71 => ⟨S10000x300, .f32⟩
  | 72 => ⟨S_, .f32⟩
  | 73 => ⟨S_, .f32⟩
  | 74 => ⟨S_, .f32⟩
  | 75 => ⟨S_, .f32⟩
  | 76 => ⟨S300, .f32⟩
  | 77 => ⟨S300, .f32⟩
  | 78 => ⟨S300, .f32⟩
  | 79 => ⟨S_, .f32⟩
  | 80 => ⟨S_, .i1⟩
  | 81 => ⟨S_, .f32⟩
  | 82 => ⟨S_, .f32⟩
  | 83 => ⟨S300, .f32⟩
  | 84 => ⟨S300, .f32⟩
  | 85 => ⟨S1x300, .f32⟩
  | 86 => ⟨S10000x300, .f32⟩
  | 87 => ⟨S10000x300, .f32⟩
  | 88 => ⟨S_, .f32⟩
  | 89 => ⟨S300, .f32⟩
  | 90 => ⟨S300, .f32⟩
  | 91 => ⟨S300, .f32⟩
  | 92 => ⟨S1x300, .f32⟩
  | 93 => ⟨S10000x300, .f32⟩
  | 94 => ⟨S10000x300, .f32⟩
  | 95 => ⟨S1x300, .f32⟩
  | 96 => ⟨S300, .f32⟩
  | 97 => ⟨S1x300, .f32⟩
  | 98 => ⟨S10000x300, .f32⟩
  | 99 => ⟨S10000x300, .f32⟩
  | 100 => ⟨S1x300, .f32⟩
  | 101 => ⟨S300, .f32⟩
  | 102 => ⟨S1x300, .f32⟩
  | 103 => ⟨S10000x300, .f32⟩
  | 104 => ⟨S10000x300, .f32⟩
  | 105 => ⟨S_, .f32⟩
  | 106 => ⟨S10000x300, .f32⟩
  | 107 => ⟨S10000x300, .f32⟩
  | 108 => ⟨S1x6x300, .f32⟩
  | 109 => ⟨S6x300, .f32⟩
  | 110 => ⟨S_, .i32⟩
  | 111 => ⟨S170000, .i32⟩
  | 112 => ⟨S170000, .i1⟩
  | 113 => ⟨S_, .i32⟩
  | 114 => ⟨S170000, .i32⟩
  | 115 => ⟨S170000, .i32⟩
  | 116 => ⟨S170000, .i32⟩
  | 117 => ⟨S170000x1, .i32⟩
  | 118 => ⟨S170000x300, .f32⟩
  | 119 => ⟨S1x3x300, .f32⟩
  | 120 => ⟨S3x300, .f32⟩
  | 121 => ⟨S_, .i32⟩
  | 122 => ⟨S170000, .i32⟩
  | 123 => ⟨S170000, .i1⟩
  | 124 => ⟨S_, .i32⟩
  | 125 => ⟨S170000, .i32⟩
  | 126 => ⟨S170000, .i32⟩
  | 127 => ⟨S170000, .i32⟩
  | _ => ⟨S10000x2, .i32⟩

abbrev hbmTy0_4 (i : Nat) : BufTy := match i % 128 with
  | 0 => ⟨S170000x1, .i32⟩
  | 1 => ⟨S170000x300, .f32⟩
  | 2 => ⟨S170000x300, .f32⟩
  | 3 => ⟨S_, .i32⟩
  | 4 => ⟨S170000, .i32⟩
  | 5 => ⟨S170000, .i1⟩
  | 6 => ⟨S_, .i32⟩
  | 7 => ⟨S170000, .i32⟩
  | 8 => ⟨S170000, .i32⟩
  | 9 => ⟨S170000, .i32⟩
  | 10 => ⟨S170000x1, .i32⟩
  | 11 => ⟨S170000x300, .f32⟩
  | 12 => ⟨S170000x300, .f32⟩
  | 13 => ⟨S_, .f32⟩
  | 14 => ⟨S10000x300, .f32⟩
  | 15 => ⟨S170000x1, .i32⟩
  | 16 => ⟨S10000x300, .f32⟩
  | 17 => ⟨S1x300x600, .f32⟩
  | 18 => ⟨S300x600, .f32⟩
  | 19 => ⟨S1x600, .f32⟩
  | 20 => ⟨S600, .f32⟩
  | 21 => ⟨S1x600x300, .f32⟩
  | 22 => ⟨S600x300, .f32⟩
  | 23 => ⟨S1x300, .f32⟩
  | 24 => ⟨S300, .f32⟩
  | 25 => ⟨S10000x600, .f32⟩
  | 26 => ⟨S1x600, .f32⟩
  | 27 => ⟨S10000x600, .f32⟩
  | 28 => ⟨S10000x600, .f32⟩
  | 29 => ⟨S_, .f32⟩
  | 30 => ⟨S10000x600, .f32⟩
  | 31 => ⟨S10000x600, .f32⟩
  | 32 => ⟨S10000x300, .f32⟩
  | 33 => ⟨S1x300, .f32⟩
  | 34 => ⟨S10000x300, .f32⟩
  | 35 => ⟨S10000x300, .f32⟩
  | 36 => ⟨S_, .f32⟩
  | 37 => ⟨S300, .f32⟩
  | 38 => ⟨S_, .f32⟩
  | 39 => ⟨S300, .f32⟩
  | 40 => ⟨S300, .f32⟩
  | 41 => ⟨S_, .i32⟩
  | 42 => ⟨S_, .f32⟩
  | 43 => ⟨S300, .f32⟩
  | 44 => ⟨S1x300, .f32⟩
  | 45 => ⟨S_, .f32⟩
  | 46 => ⟨S1x300, .f32⟩
  | 47 => ⟨S1x300, .f32⟩
  | 48 => ⟨S10000x300, .f32⟩
  | 49 => ⟨S10000x300, .f32⟩
  | 50 => ⟨S10000x300, .f32⟩
  | 51 => ⟨S_, .f32⟩
  | 52 => ⟨S_, .f32⟩
  | 53 => ⟨S_, .f32⟩
  | 54 => ⟨S_, .f32⟩
  | 55 => ⟨S300, .f32⟩
  | 56 => ⟨S300, .f32⟩
  | 57 => ⟨S300, .f32⟩
  | 58 => ⟨S_, .f32⟩
  | 59 => ⟨S_, .i1⟩
  | 60 => ⟨S_, .f32⟩
  | 61 => ⟨S_, .f32⟩
  | 62 => ⟨S300, .f32⟩
  | 63 => ⟨S300, .f32⟩
  | 64 => ⟨S1x300, .f32⟩
  | 65 => ⟨S10000x300, .f32⟩
  | 66 => ⟨S10000x300, .f32⟩
  | 67 => ⟨S_, .f32⟩
  | 68 => ⟨S300, .f32⟩
  | 69 => ⟨S300, .f32⟩
  | 70 => ⟨S300, .f32⟩
  | 71 => ⟨S1x300, .f32⟩
  | 72 => ⟨S10000x300, .f32⟩
  | 73 => ⟨S10000x300, .f32⟩
  | 74 => ⟨S1x300, .f32⟩
  | 75 => ⟨S300, .f32⟩
  | 76 => ⟨S1x300, .f32⟩
  | 77 => ⟨S10000x300, .f32⟩
  | 78 => ⟨S10000x300, .f32⟩
  | 79 => ⟨S1x300, .f32⟩
  | 80 => ⟨S300, .f32⟩
  | 81 => ⟨S1x300, .f32⟩
  | 82 => ⟨S10000x300, .f32⟩
  | 83 => ⟨S10000x300, .f32⟩
  | 84 => ⟨S1x160000, .i32⟩
  | 85 => ⟨S160000, .i32⟩
  | 86 => ⟨S1x160000, .i32⟩
  | 87 => ⟨S160000, .i32⟩
  | 88 => ⟨S160000x1, .i32⟩
  | 89 => ⟨S160000, .i32⟩
  | 90 => ⟨S160000x1, .i32⟩
  | 91 => ⟨S160000, .i32⟩
  | 92 => ⟨S10000x1, .i32⟩
  | 93 => ⟨S10000, .i32⟩
  | 94 => ⟨S_, .i32⟩
  | 95 => ⟨S10000, .i32⟩
  | 96 => ⟨S10000, .i1⟩
  | 97 => ⟨S_, .i32⟩
  | 98 => ⟨S10000, .i32⟩
  | 99 => ⟨S10000, .i32⟩
  | 100 => ⟨S10000, .i32⟩
  | 101 => ⟨S10000x1, .i32⟩
  | 102 => ⟨S10000x300, .f32⟩
  | 103 => ⟨S10000x1, .i32⟩
  | 104 => ⟨S10000, .i32⟩
  | 105 => ⟨S_, .i32⟩
  | 106 => ⟨S10000, .i32⟩
  | 107 => ⟨S10000, .i1⟩
  | 108 => ⟨S_, .i32⟩
  | 109 => ⟨S10000, .i32⟩
  | 110 => ⟨S10000, .i32⟩
  | 111 => ⟨S10000, .i32⟩
  | 112 => ⟨S10000x1, .i32⟩
  | 113 => ⟨S10000x300, .f32⟩
  | 114 => ⟨S10000x300, .f32⟩
  | 115 => ⟨S10000, .i32⟩
  | 116 => ⟨S170000, .i32⟩
  | 117 => ⟨S170000, .i32⟩
  | 118 => ⟨S_, .i32⟩
  | 119 => ⟨S10000, .i32⟩
  | 120 => ⟨S170000, .i32⟩
  | 121 => ⟨S_, .i32⟩
  | 122 => ⟨S10000, .i32⟩
  | 123 => ⟨S170000, .i32⟩
  | 124 => ⟨S1x6x300, .f32⟩
  | 125 => ⟨S6x300, .f32⟩
  | 126 => ⟨S_, .i32⟩
  | 127 => ⟨S170000, .i32⟩
  | _ => ⟨S10000x2, .i32⟩

abbrev hbmTy0_5 (i : Nat) : BufTy := match i % 128 with
  | 0 => ⟨S170000, .i1⟩
  | 1 => ⟨S_, .i32⟩
  | 2 => ⟨S170000, .i32⟩
  | 3 => ⟨S170000, .i32⟩
  | 4 => ⟨S170000, .i32⟩
  | 5 => ⟨S170000x1, .i32⟩
  | 6 => ⟨S170000x300, .f32⟩
  | 7 => ⟨S1x3x300, .f32⟩
  | 8 => ⟨S3x300, .f32⟩
  | 9 => ⟨S_, .i32⟩
  | 10 => ⟨S170000, .i32⟩
  | 11 => ⟨S170000, .i1⟩
  | 12 => ⟨S_, .i32⟩
  | 13 => ⟨S170000, .i32⟩
  | 14 => ⟨S170000, .i32⟩
  | 15 => ⟨S170000, .i32⟩
  | 16 => ⟨S170000x1, .i32⟩
  | 17 => ⟨S170000x300, .f32⟩
  | 18 => ⟨S170000x300, .f32⟩
  | 19 => ⟨S_, .i32⟩
  | 20 => ⟨S170000, .i32⟩
  | 21 => ⟨S170000, .i1⟩
  | 22 => ⟨S_, .i32⟩
  | 23 => ⟨S170000, .i32⟩
  | 24 => ⟨S170000, .i32⟩
  | 25 => ⟨S170000, .i32⟩
  | 26 => ⟨S170000x1, .i32⟩
  | 27 => ⟨S170000x300, .f32⟩
  | 28 => ⟨S170000x300, .f32⟩
  | 29 => ⟨S_, .f32⟩
  | 30 => ⟨S10000x300, .f32⟩
  | 31 => ⟨S170000x1, .i32⟩
  | 32 => ⟨S10000x300, .f32⟩
  | 33 => ⟨S1x300x600, .f32⟩
  | 34 => ⟨S300x600, .f32⟩
  | 35 => ⟨S1x600, .f32⟩
  | 36 => ⟨S600, .f32⟩
  | 37 => ⟨S1x600x300, .f32⟩
  | 38 => ⟨S600x300, .f32⟩
  | 39 => ⟨S1x300, .f32⟩
  | 40 => ⟨S300, .f32⟩
  | 41 => ⟨S10000x600, .f32⟩
  | 42 => ⟨S1x600, .f32⟩
  | 43 => ⟨S10000x600, .f32⟩
  | 44 => ⟨S10000x600, .f32⟩
  | 45 => ⟨S_, .f32⟩
  | 46 => ⟨S10000x600, .f32⟩
  | 47 => ⟨S10000x600, .f32⟩
  | 48 => ⟨S10000x300, .f32⟩
  | 49 => ⟨S1x300, .f32⟩
  | 50 => ⟨S10000x300, .f32⟩
  | 51 => ⟨S10000x300, .f32⟩
  | 52 => ⟨S_, .f32⟩
  | 53 => ⟨S300, .f32⟩
  | 54 => ⟨S_, .f32⟩
  | 55 => ⟨S300, .f32⟩
  | 56 => ⟨S300, .f32⟩
  | 57 => ⟨S_, .i32⟩
  | 58 => ⟨S_, .f32⟩
  | 59 => ⟨S300, .f32⟩
  | 60 => ⟨S1x300, .f32⟩
  | 61 => ⟨S_, .f32⟩
  | 62 => ⟨S1x300, .f32⟩
  | 63 => ⟨S1x300, .f32⟩
  | 64 => ⟨S10000x300, .f32⟩
  | 65 => ⟨S10000x300, .f32⟩
  | 66 => ⟨S10000x300, .f32⟩
  | 67 => ⟨S_, .f32⟩
  | 68 => ⟨S_, .f32⟩
  | 69 => ⟨S_, .f32⟩
  | 70 => ⟨S_, .f32⟩
  | 71 => ⟨S300, .f32⟩
  | 72 => ⟨S300, .f32⟩
  | 73 => ⟨S300, .f32⟩
  | 74 => ⟨S_, .f32⟩
  | 75 => ⟨S_, .i1⟩
  | 76 => ⟨S_, .f32⟩
  | 77 => ⟨S_, .f32⟩
  | 78 => ⟨S300, .f32⟩
  | 79 => ⟨S300, .f32⟩
  | 80 => ⟨S1x300, .f32⟩
  | 81 => ⟨S10000x300, .f32⟩
  | 82 => ⟨S10000x300, .f32⟩
  | 83 => ⟨S_, .f32⟩
  | 84 => ⟨S300, .f32⟩
  | 85 => ⟨S300, .f32⟩
  | 86 => ⟨S300, .f32⟩
  | 87 => ⟨S1x300, .f32⟩
  | 88 => ⟨S10000x300, .f32⟩
  | 89 => ⟨S10000x300, .f32⟩
  | 90 => ⟨S1x300, .f32⟩
  | 91 => ⟨S300, .f32⟩
  | 92 => ⟨S1x300, .f32⟩
  | 93 => ⟨S10000x300, .f32⟩
  | 94 => ⟨S10000x300, .f32⟩
  | 95 => ⟨S1x300, .f32⟩
  | 96 => ⟨S300, .f32⟩
  | 97 => ⟨S1x300, .f32⟩
  | 98 => ⟨S10000x300, .f32⟩
  | 99 => ⟨S10000x300, .f32⟩
  | 100 => ⟨S_, .f32⟩
  | 101 => ⟨S10000x300, .f32⟩
  | 102 => ⟨S10000x300, .f32⟩
  | 103 => ⟨S1x6x300, .f32⟩
  | 104 => ⟨S6x300, .f32⟩
  | 105 => ⟨S_, .i32⟩
  | 106 => ⟨S170000, .i32⟩
  | 107 => ⟨S170000, .i1⟩
  | 108 => ⟨S_, .i32⟩
  | 109 => ⟨S170000, .i32⟩
  | 110 => ⟨S170000, .i32⟩
  | 111 => ⟨S170000, .i32⟩
  | 112 => ⟨S170000x1, .i32⟩
  | 113 => ⟨S170000x300, .f32⟩
  | 114 => ⟨S1x3x300, .f32⟩
  | 115 => ⟨S3x300, .f32⟩
  | 116 => ⟨S_, .i32⟩
  | 117 => ⟨S170000, .i32⟩
  | 118 => ⟨S170000, .i1⟩
  | 119 => ⟨S_, .i32⟩
  | 120 => ⟨S170000, .i32⟩
  | 121 => ⟨S170000, .i32⟩
  | 122 => ⟨S170000, .i32⟩
  | 123 => ⟨S170000x1, .i32⟩
  | 124 => ⟨S170000x300, .f32⟩
  | 125 => ⟨S170000x300, .f32⟩
  | 126 => ⟨S_, .i32⟩
  | 127 => ⟨S170000, .i32⟩
  | _ => ⟨S10000x2, .i32⟩

abbrev hbmTy0_6 (i : Nat) : BufTy := match i % 128 with
  | 0 => ⟨S170000, .i1⟩
  | 1 => ⟨S_, .i32⟩
  | 2 => ⟨S170000, .i32⟩
  | 3 => ⟨S170000, .i32⟩
  | 4 => ⟨S170000, .i32⟩
  | 5 => ⟨S170000x1, .i32⟩
  | 6 => ⟨S170000x300, .f32⟩
  | 7 => ⟨S170000x300, .f32⟩
  | 8 => ⟨S_, .f32⟩
  | 9 => ⟨S10000x300, .f32⟩
  | 10 => ⟨S170000x1, .i32⟩
  | 11 => ⟨S10000x300, .f32⟩
  | 12 => ⟨S1x300x600, .f32⟩
  | 13 => ⟨S300x600, .f32⟩
  | 14 => ⟨S1x600, .f32⟩
  | 15 => ⟨S600, .f32⟩
  | 16 => ⟨S1x600x300, .f32⟩
  | 17 => ⟨S600x300, .f32⟩
  | 18 => ⟨S1x300, .f32⟩
  | 19 => ⟨S300, .f32⟩
  | 20 => ⟨S10000x600, .f32⟩
  | 21 => ⟨S1x600, .f32⟩
  | 22 => ⟨S10000x600, .f32⟩
  | 23 => ⟨S10000x600, .f32⟩
  | 24 => ⟨S_, .f32⟩
  | 25 => ⟨S10000x600, .f32⟩
  | 26 => ⟨S10000x600, .f32⟩
  | 27 => ⟨S10000x300, .f32⟩
  | 28 => ⟨S1x300, .f32⟩
  | 29 => ⟨S10000x300, .f32⟩
  | 30 => ⟨S10000x300, .f32⟩
  | 31 => ⟨S_, .f32⟩
  | 32 => ⟨S300, .f32⟩
  | 33 => ⟨S_, .f32⟩
  | 34 => ⟨S300, .f32⟩
  | 35 => ⟨S300, .f32⟩
  | 36 => ⟨S_, .i32⟩
  | 37 => ⟨S_, .f32⟩
  | 38 => ⟨S300, .f32⟩
  | 39 => ⟨S1x300, .f32⟩
  | 40 => ⟨S_, .f32⟩
  | 41 => ⟨S1x300, .f32⟩
  | 42 => ⟨S1x300, .f32⟩
  | 43 => ⟨S10000x300, .f32⟩
  | 44 => ⟨S10000x300, .f32⟩
  | 45 => ⟨S10000x300, .f32⟩
  | 46 => ⟨S_, .f32⟩
  | 47 => ⟨S_, .f32⟩
  | 48 => ⟨S_, .f32⟩
  | 49 => ⟨S_, .f32⟩
  | 50 => ⟨S300, .f32⟩
  | 51 => ⟨S300, .f32⟩
  | 52 => ⟨S300, .f32⟩
  | 53 => ⟨S_, .f32⟩
  | 54 => ⟨S_, .i1⟩
  | 55 => ⟨S_, .f32⟩
  | 56 => ⟨S_, .f32⟩
  | 57 => ⟨S300, .f32⟩
  | 58 => ⟨S300, .f32⟩
  | 59 => ⟨S1x300, .f32⟩
  | 60 => ⟨S10000x300, .f32⟩
  | 61 => ⟨S10000x300, .f32⟩
  | 62 => ⟨S_, .f32⟩
  | 63 => ⟨S300, .f32⟩
  | 64 => ⟨S300, .f32⟩
  | 65 => ⟨S300, .f32⟩
  | 66 => ⟨S1x300, .f32⟩
  | 67 => ⟨S10000x300, .f32⟩
  | 68 => ⟨S10000x300, .f32⟩
  | 69 => ⟨S1x300, .f32⟩
  | 70 => ⟨S300, .f32⟩
  | 71 => ⟨S1x300, .f32⟩
  | 72 => ⟨S10000x300, .f32⟩
  | 73 => ⟨S10000x300, .f32⟩
  | 74 => ⟨S1x300, .f32⟩
  | 75 => ⟨S300, .f32⟩
  | 76 => ⟨S1x300, .f32⟩
  | 77 => ⟨S10000x300, .f32⟩
  | 78 => ⟨S10000x300, .f32⟩
  | 79 => ⟨S_, .f32⟩
  | 80 => ⟨S10000x300, .f32⟩
  | 81 => ⟨S10000x300, .f32⟩
  | 82 => ⟨S1x6x300, .f32⟩
  | 83 => ⟨S6x300, .f32⟩
  | 84 => ⟨S_, .i32⟩
  | 85 => ⟨S170000, .i32⟩
  | 86 => ⟨S170000, .i1⟩
  | 87 => ⟨S_, .i32⟩
  | 88 => ⟨S170000, .i32⟩
  | 89 => ⟨S170000, .i32⟩
  | 90 => ⟨S170000, .i32⟩
  | 91 => ⟨S170000x1, .i32⟩
  | 92 => ⟨S170000x300, .f32⟩
  | 93 => ⟨S1x3x300, .f32⟩
  | 94 => ⟨S3x300, .f32⟩
  | 95 => ⟨S_, .i32⟩
  | 96 => ⟨S170000, .i32⟩
  | 97 => ⟨S170000, .i1⟩
  | 98 => ⟨S_, .i32⟩
  | 99 => ⟨S170000, .i32⟩
  | 100 => ⟨S170000, .i32⟩
  | 101 => ⟨S170000, .i32⟩
  | 102 => ⟨S170000x1, .i32⟩
  | 103 => ⟨S170000x300, .f32⟩
  | 104 => ⟨S170000x300, .f32⟩
  | 105 => ⟨S_, .i32⟩
  | 106 => ⟨S170000, .i32⟩
  | 107 => ⟨S170000, .i1⟩
  | 108 => ⟨S_, .i32⟩
  | 109 => ⟨S170000, .i32⟩
  | 110 => ⟨S170000, .i32⟩
  | 111 => ⟨S170000, .i32⟩
  | 112 => ⟨S170000x1, .i32⟩
  | 113 => ⟨S170000x300, .f32⟩
  | 114 => ⟨S170000x300, .f32⟩
  | 115 => ⟨S_, .f32⟩
  | 116 => ⟨S10000x300, .f32⟩
  | 117 => ⟨S170000x1, .i32⟩
  | 118 => ⟨S10000x300, .f32⟩
  | 119 => ⟨S1x300x600, .f32⟩
  | 120 => ⟨S300x600, .f32⟩
  | 121 => ⟨S1x600, .f32⟩
  | 122 => ⟨S600, .f32⟩
  | 123 => ⟨S1x600x300, .f32⟩
  | 124 => ⟨S600x300, .f32⟩
  | 125 => ⟨S1x300, .f32⟩
  | 126 => ⟨S300, .f32⟩
  | 127 => ⟨S10000x600, .f32⟩
  | _ => ⟨S10000x2, .i32⟩

abbrev hbmTy0_7 (i : Nat) : BufTy := match i % 128 with
  | 0 => ⟨S1x600, .f32⟩
  | 1 => ⟨S10000x600, .f32⟩
  | 2 => ⟨S10000x600, .f32⟩
  | 3 => ⟨S_, .f32⟩
  | 4 => ⟨S10000x600, .f32⟩
  | 5 => ⟨S10000x600, .f32⟩
  | 6 => ⟨S10000x300, .f32⟩
  | 7 => ⟨S1x300, .f32⟩
  | 8 => ⟨S10000x300, .f32⟩
  | 9 => ⟨S10000x300, .f32⟩
  | 10 => ⟨S_, .f32⟩
  | 11 => ⟨S300, .f32⟩
  | 12 => ⟨S_, .f32⟩
  | 13 => ⟨S300, .f32⟩
  | 14 => ⟨S300, .f32⟩
  | 15 => ⟨S_, .i32⟩
  | 16 => ⟨S_, .f32⟩
  | 17 => ⟨S300, .f32⟩
  | 18 => ⟨S1x300, .f32⟩
  | 19 => ⟨S_, .f32⟩
  | 20 => ⟨S1x300, .f32⟩
  | 21 => ⟨S1x300, .f32⟩
  | 22 => ⟨S10000x300, .f32⟩
  | 23 => ⟨S10000x300, .f32⟩
  | 24 => ⟨S10000x300, .f32⟩
  | 25 => ⟨S_, .f32⟩
  | 26 => ⟨S_, .f32⟩
  | 27 => ⟨S_, .f32⟩
  | 28 => ⟨S_, .f32⟩
  | 29 => ⟨S300, .f32⟩
  | 30 => ⟨S300, .f32⟩
  | 31 => ⟨S300, .f32⟩
  | 32 => ⟨S_, .f32⟩
  | 33 => ⟨S_, .i1⟩
  | 34 => ⟨S_, .f32⟩
  | 35 => ⟨S_, .f32⟩
  | 36 => ⟨S300, .f32⟩
  | 37 => ⟨S300, .f32⟩
  | 38 => ⟨S1x300, .f32⟩
  | 39 => ⟨S10000x300, .f32⟩
  | 40 => ⟨S10000x300, .f32⟩
  | 41 => ⟨S_, .f32⟩
  | 42 => ⟨S300, .f32⟩
  | 43 => ⟨S300, .f32⟩
  | 44 => ⟨S300, .f32⟩
  | 45 => ⟨S1x300, .f32⟩
  | 46 => ⟨S10000x300, .f32⟩
  | 47 => ⟨S10000x300, .f32⟩
  | 48 => ⟨S1x300, .f32⟩
  | 49 => ⟨S300, .f32⟩
  | 50 => ⟨S1x300, .f32⟩
  | 51 => ⟨S10000x300, .f32⟩
  | 52 => ⟨S10000x300, .f32⟩
  | 53 => ⟨S1x300, .f32⟩
  | 54 => ⟨S300, .f32⟩
  | 55 => ⟨S1x300, .f32⟩
  | 56 => ⟨S10000x300, .f32⟩
  | 57 => ⟨S10000x300, .f32⟩
  | 58 => ⟨S_, .f32⟩
  | 59 => ⟨S10000x300, .f32⟩
  | 60 => ⟨S10000x300, .f32⟩
  | 61 => ⟨S1x6x300, .f32⟩
  | 62 => ⟨S6x300, .f32⟩
  | 63 => ⟨S_, .i32⟩
  | 64 => ⟨S170000, .i32⟩
  | 65 => ⟨S170000, .i1⟩
  | 66 => ⟨S_, .i32⟩
  | 67 => ⟨S170000, .i32⟩
  | 68 => ⟨S170000, .i32⟩
  | 69 => ⟨S170000, .i32⟩
  | 70 => ⟨S170000x1, .i32⟩
  | 71 => ⟨S170000x300, .f32⟩
  | 72 => ⟨S1x3x300, .f32⟩
  | 73 => ⟨S3x300, .f32⟩
  | 74 => ⟨S_, .i32⟩
  | 75 => ⟨S170000, .i32⟩
  | 76 => ⟨S170000, .i1⟩
  | 77 => ⟨S_, .i32⟩
  | 78 => ⟨S170000, .i32⟩
  | 79 => ⟨S170000, .i32⟩
  | 80 => ⟨S170000, .i32⟩
  | 81 => ⟨S170000x1, .i32⟩
  | 82 => ⟨S170000x300, .f32⟩
  | 83 => ⟨S170000x300, .f32⟩
  | 84 => ⟨S_, .i32⟩
  | 85 => ⟨S170000, .i32⟩
  | 86 => ⟨S170000, .i1⟩
  | 87 => ⟨S_, .i32⟩
  | 88 => ⟨S170000, .i32⟩
  | 89 => ⟨S170000, .i32⟩
  | 90 => ⟨S170000, .i32⟩
  | 91 => ⟨S170000x1, .i32⟩
  | 92 => ⟨S170000x300, .f32⟩
  | 93 => ⟨S170000x300, .f32⟩
  | 94 => ⟨S_, .f32⟩
  | 95 => ⟨S10000x300, .f32⟩
  | 96 => ⟨S170000x1, .i32⟩
  | 97 => ⟨S10000x300, .f32⟩
  | 98 => ⟨S1x300x600, .f32⟩
  | 99 => ⟨S300x600, .f32⟩
  | 100 => ⟨S1x600, .f32⟩
  | 101 => ⟨S600, .f32⟩
  | 102 => ⟨S1x600x300, .f32⟩
  | 103 => ⟨S600x300, .f32⟩
  | 104 => ⟨S1x300, .f32⟩
  | 105 => ⟨S300, .f32⟩
  | 106 => ⟨S10000x600, .f32⟩
  | 107 => ⟨S1x600, .f32⟩
  | 108 => ⟨S10000x600, .f32⟩
  | 109 => ⟨S10000x600, .f32⟩
  | 110 => ⟨S_, .f32⟩
  | 111 => ⟨S10000x600, .f32⟩
  | 112 => ⟨S10000x600, .f32⟩
  | 113 => ⟨S10000x300, .f32⟩
  | 114 => ⟨S1x300, .f32⟩
  | 115 => ⟨S10000x300, .f32⟩
  | 116 => ⟨S10000x300, .f32⟩
  | 117 => ⟨S_, .f32⟩
  | 118 => ⟨S300, .f32⟩
  | 119 => ⟨S_, .f32⟩
  | 120 => ⟨S300, .f32⟩
  | 121 => ⟨S300, .f32⟩
  | 122 => ⟨S_, .i32⟩
  | 123 => ⟨S_, .f32⟩
  | 124 => ⟨S300, .f32⟩
  | 125 => ⟨S1x300, .f32⟩
  | 126 => ⟨S_, .f32⟩
  | 127 => ⟨S1x300, .f32⟩
  | _ => ⟨S10000x2, .i32⟩

abbrev hbmTy0_8 (i : Nat) : BufTy := match i % 128 with
  | 0 => ⟨S1x300, .f32⟩
  | 1 => ⟨S10000x300, .f32⟩
  | 2 => ⟨S10000x300, .f32⟩
  | 3 => ⟨S10000x300, .f32⟩
  | 4 => ⟨S_, .f32⟩
  | 5 => ⟨S_, .f32⟩
  | 6 => ⟨S_, .f32⟩
  | 7 => ⟨S_, .f32⟩
  | 8 => ⟨S300, .f32⟩
  | 9 => ⟨S300, .f32⟩
  | 10 => ⟨S300, .f32⟩
  | 11 => ⟨S_, .f32⟩
  | 12 => ⟨S_, .i1⟩
  | 13 => ⟨S_, .f32⟩
  | 14 => ⟨S_, .f32⟩
  | 15 => ⟨S300, .f32⟩
  | 16 => ⟨S300, .f32⟩
  | 17 => ⟨S1x300, .f32⟩
  | 18 => ⟨S10000x300, .f32⟩
  | 19 => ⟨S10000x300, .f32⟩
  | 20 => ⟨S_, .f32⟩
  | 21 => ⟨S300, .f32⟩
  | 22 => ⟨S300, .f32⟩
  | 23 => ⟨S300, .f32⟩
  | 24 => ⟨S1x300, .f32⟩
  | 25 => ⟨S10000x300, .f32⟩
  | 26 => ⟨S10000x300, .f32⟩
  | 27 => ⟨S1x300, .f32⟩
  | 28 => ⟨S300, .f32⟩
  | 29 => ⟨S1x300, .f32⟩
  | 30 => ⟨S10000x300, .f32⟩
  | 31 => ⟨S10000x300, .f32⟩
  | 32 => ⟨S1x300, .f32⟩
  | 33 => ⟨S300, .f32⟩
  | 34 => ⟨S1x300, .f32⟩
  | 35 => ⟨S10000x300, .f32⟩
  | 36 => ⟨S10000x300, .f32⟩
  | 37 => ⟨S_, .f32⟩
  | 38 => ⟨S10000x300, .f32⟩
  | 39 => ⟨S10000x300, .f32⟩
  | 40 => ⟨S1x6x300, .f32⟩
  | 41 => ⟨S6x300, .f32⟩
  | 42 => ⟨S_, .i32⟩
  | 43 => ⟨S170000, .i32⟩
  | 44 => ⟨S170000, .i1⟩
  | 45 => ⟨S_, .i32⟩
  | 46 => ⟨S170000, .i32⟩
  | 47 => ⟨S170000, .i32⟩
  | 48 => ⟨S170000, .i32⟩
  | 49 => ⟨S170000x1, .i32⟩
  | 50 => ⟨S170000x300, .f32⟩
  | 51 => ⟨S1x3x300, .f32⟩
  | 52 => ⟨S3x300, .f32⟩
  | 53 => ⟨S_, .i32⟩
  | 54 => ⟨S170000, .i32⟩
  | 55 => ⟨S170000, .i1⟩
  | 56 => ⟨S_, .i32⟩
  | 57 => ⟨S170000, .i32⟩
  | 58 => ⟨S170000, .i32⟩
  | 59 => ⟨S170000, .i32⟩
  | 60 => ⟨S170000x1, .i32⟩
  | 61 => ⟨S170000x300, .f32⟩
  | 62 => ⟨S170000x300, .f32⟩
  | 63 => ⟨S_, .i32⟩
  | 64 => ⟨S170000, .i32⟩
  | 65 => ⟨S170000, .i1⟩
  | 66 => ⟨S_, .i32⟩
  | 67 => ⟨S170000, .i32⟩
  | 68 => ⟨S170000, .i32⟩
  | 69 => ⟨S170000, .i32⟩
  | 70 => ⟨S170000x1, .i32⟩
  | 71 => ⟨S170000x300, .f32⟩
  | 72 => ⟨S170000x300, .f32⟩
  | 73 => ⟨S_, .f32⟩
  | 74 => ⟨S10000x300, .f32⟩
  | 75 => ⟨S170000x1, .i32⟩
  | 76 => ⟨S10000x300, .f32⟩
  | 77 => ⟨S1x300x600, .f32⟩
  | 78 => ⟨S300x600, .f32⟩
  | 79 => ⟨S1x600, .f32⟩
  | 80 => ⟨S600, .f32⟩
  | 81 => ⟨S1x600x300, .f32⟩
  | 82 => ⟨S600x300, .f32⟩
  | 83 => ⟨S1x300, .f32⟩
  | 84 => ⟨S300, .f32⟩
  | 85 => ⟨S10000x600, .f32⟩
  | 86 => ⟨S1x600, .f32⟩
  | 87 => ⟨S10000x600, .f32⟩
  | 88 => ⟨S10000x600, .f32⟩
  | 89 => ⟨S_, .f32⟩
  | 90 => ⟨S10000x600, .f32⟩
  | 91 => ⟨S10000x600, .f32⟩
  | 92 => ⟨S10000x300, .f32⟩
  | 93 => ⟨S1x300, .f32⟩
  | 94 => ⟨S10000x300, .f32⟩
  | 95 => ⟨S10000x300, .f32⟩
  | 96 => ⟨S_, .f32⟩
  | 97 => ⟨S300, .f32⟩
  | 98 => ⟨S_, .f32⟩
  | 99 => ⟨S300, .f32⟩
  | 100 => ⟨S300, .f32⟩
  | 101 => ⟨S_, .i32⟩
  | 102 => ⟨S_, .f32⟩
  | 103 => ⟨S300, .f32⟩
  | 104 => ⟨S1x300, .f32⟩
  | 105 => ⟨S_, .f32⟩
  | 106 => ⟨S1x300, .f32⟩
  | 107 => ⟨S1x300, .f32⟩
  | 108 => ⟨S10000x300, .f32⟩
  | 109 => ⟨S10000x300, .f32⟩
  | 110 => ⟨S10000x300, .f32⟩
  | 111 => ⟨S_, .f32⟩
  | 112 => ⟨S_, .f32⟩
  | 113 => ⟨S_, .f32⟩
  | 114 => ⟨S_, .f32⟩
  | 115 => ⟨S300, .f32⟩
  | 116 => ⟨S300, .f32⟩
  | 117 => ⟨S300, .f32⟩
  | 118 => ⟨S_, .f32⟩
  | 119 => ⟨S_, .i1⟩
  | 120 => ⟨S_, .f32⟩
  | 121 => ⟨S_, .f32⟩
  | 122 => ⟨S300, .f32⟩
  | 123 => ⟨S300, .f32⟩
  | 124 => ⟨S1x300, .f32⟩
  | 125 => ⟨S10000x300, .f32⟩
  | 126 => ⟨S10000x300, .f32⟩
  | 127 => ⟨S_, .f32⟩
  | _ => ⟨S10000x2, .i32⟩

abbrev hbmTy0_9 (i : Nat) : BufTy := match i % 128 with
  | 0 => ⟨S300, .f32⟩
  | 1 => ⟨S300, .f32⟩
  | 2 => ⟨S300, .f32⟩
  | 3 => ⟨S1x300, .f32⟩
  | 4 => ⟨S10000x300, .f32⟩
  | 5 => ⟨S10000x300, .f32⟩
  | 6 => ⟨S1x300, .f32⟩
  | 7 => ⟨S300, .f32⟩
  | 8 => ⟨S1x300, .f32⟩
  | 9 => ⟨S10000x300, .f32⟩
  | 10 => ⟨S10000x300, .f32⟩
  | 11 => ⟨S1x300, .f32⟩
  | 12 => ⟨S300, .f32⟩
  | 13 => ⟨S1x300, .f32⟩
  | 14 => ⟨S10000x300, .f32⟩
  | 15 => ⟨S10000x300, .f32⟩
  | 16 => ⟨S_, .f32⟩
  | 17 => ⟨S512x300, .f32⟩
  | 18 => ⟨S10000x1, .i32⟩
  | 19 => ⟨S512x300, .f32⟩
  | 20 => ⟨S_, .f32⟩
  | 21 => ⟨S10000x1, .f32⟩
  | 22 => ⟨S_, .f32⟩
  | 23 => ⟨S512x1, .f32⟩
  | 24 => ⟨S10000x1, .i32⟩
  | 25 => ⟨S512x1, .f32⟩
  | 26 => ⟨S_, .f32⟩
  | 27 => ⟨S_, .f32⟩
  | 28 => ⟨S512x1, .f32⟩
  | 29 => ⟨S512x1, .f32⟩
  | 30 => ⟨S512x300, .f32⟩
  | 31 => ⟨S512x300, .f32⟩
  | 32 => ⟨S1x300x300, .f32⟩
  | 33 => ⟨S300x300, .f32⟩
  | 34 => ⟨S1x300, .f32⟩
  | 35 => ⟨S300, .f32⟩
  | 36 => ⟨S1x300x300, .f32⟩
  | 37 => ⟨S300x300, .f32⟩
  | 38 => ⟨S1x300, .f32⟩
  | 39 => ⟨S300, .f32⟩
  | 40 => ⟨S512x300, .f32⟩
  | 41 => ⟨S1x300, .f32⟩
  | 42 => ⟨S512x300, .f32⟩
  | 43 => ⟨S512x300, .f32⟩
  | 44 => ⟨S_, .f32⟩
  | 45 => ⟨S512x300, .f32⟩
  | 46 => ⟨S512x300, .f32⟩
  | 47 => ⟨S512x300, .f32⟩
  | 48 => ⟨S1x300, .f32⟩
  | 49 => ⟨S512x300, .f32⟩
  | 50 => ⟨S512x300, .f32⟩
  | 51 => ⟨S_, .i32⟩
  | 52 => ⟨S512, .i32⟩
  | 53 => ⟨S512, .i1⟩
  | 54 => ⟨S_, .i32⟩
  | 55 => ⟨S512, .i32⟩
  | 56 => ⟨S512, .i32⟩
  | 57 => ⟨S512, .i32⟩
  | 58 => ⟨S512x1, .i32⟩
  | 59 => ⟨S512x300, .f32⟩
  | 60 => ⟨S1x300x300, .f32⟩
  | 61 => ⟨S300x300, .f32⟩
  | 62 => ⟨S1x300, .f32⟩
  | 63 => ⟨S300, .f32⟩
  | 64 => ⟨S1x300x300, .f32⟩
  | 65 => ⟨S300x300, .f32⟩
  | 66 => ⟨S1x300, .f32⟩
  | 67 => ⟨S300, .f32⟩
  | 68 => ⟨S512x300, .f32⟩
  | 69 => ⟨S1x300, .f32⟩
  | 70 => ⟨S512x300, .f32⟩
  | 71 => ⟨S512x300, .f32⟩
  | 72 => ⟨S_, .f32⟩
  | 73 => ⟨S512x300, .f32⟩
  | 74 => ⟨S512x300, .f32⟩
  | 75 => ⟨S512x300, .f32⟩
  | 76 => ⟨S1x300, .f32⟩
  | 77 => ⟨S512x300, .f32⟩
  | 78 => ⟨S512x300, .f32⟩
  | 79 => ⟨S512x300, .f32⟩
  | 80 => ⟨S512x300, .f32⟩
  | 81 => ⟨S_, .f32⟩
  | 82 => ⟨S512, .f32⟩
  | 83 => ⟨S512x1, .f32⟩
  | 84 => ⟨S512x1, .f32⟩
  | 85 => ⟨S512x300, .f32⟩
  | 86 => ⟨S512x300, .f32⟩
  | 87 => ⟨S_, .f32⟩
  | 88 => ⟨S512x300, .f32⟩
  | 89 => ⟨S10000x1, .i32⟩
  | 90 => ⟨S512x300, .f32⟩
  | 91 => ⟨S_, .f32⟩
  | 92 => ⟨S10000x1, .f32⟩
  | 93 => ⟨S_, .f32⟩
  | 94 => ⟨S512x1, .f32⟩
  | 95 => ⟨S10000x1, .i32⟩
  | 96 => ⟨S512x1, .f32⟩
  | 97 => ⟨S_, .f32⟩
  | 98 => ⟨S_, .f32⟩
  | 99 => ⟨S512x1, .f32⟩
  | 100 => ⟨S512x1, .f32⟩
  | 101 => ⟨S512x300, .f32⟩
  | 102 => ⟨S512x300, .f32⟩
  | 103 => ⟨S1x300x300, .f32⟩
  | 104 => ⟨S300x300, .f32⟩
  | 105 => ⟨S1x300, .f32⟩
  | 106 => ⟨S300, .f32⟩
  | 107 => ⟨S1x300x300, .f32⟩
  | 108 => ⟨S300x300, .f32⟩
  | 109 => ⟨S1x300, .f32⟩
  | 110 => ⟨S300, .f32⟩
  | 111 => ⟨S512x300, .f32⟩
  | 112 => ⟨S1x300, .f32⟩
  | 113 => ⟨S512x300, .f32⟩
  | 114 => ⟨S512x300, .f32⟩
  | 115 => ⟨S_, .f32⟩
  | 116 => ⟨S512x300, .f32⟩
  | 117 => ⟨S512x300, .f32⟩
  | 118 => ⟨S512x300, .f32⟩
  | 119 => ⟨S1x300, .f32⟩
  | 120 => ⟨S512x300, .f32⟩
  | 121 => ⟨S512x300, .f32⟩
  | 122 => ⟨S_, .i32⟩
  | 123 => ⟨S512, .i32⟩
  | 124 => ⟨S512, .i1⟩
  | 125 => ⟨S_, .i32⟩
  | 126 => ⟨S512, .i32⟩
  | 127 => ⟨S512, .i32⟩
  | _ => ⟨S10000x2, .i32⟩

abbrev hbmTy0_10 (i : Nat) : BufTy := match i % 128 with
  | 0 => ⟨S512, .i32⟩
  | 1 => ⟨S512x1, .i32⟩
  | 2 => ⟨S512x300, .f32⟩
  | 3 => ⟨S1x300x300, .f32⟩
  | 4 => ⟨S300x300, .f32⟩
  | 5 => ⟨S1x300, .f32⟩
  | 6 => ⟨S300, .f32⟩
  | 7 => ⟨S1x300x300, .f32⟩
  | 8 => ⟨S300x300, .f32⟩
  | 9 => ⟨S1x300, .f32⟩
  | 10 => ⟨S300, .f32⟩
  | 11 => ⟨S512x300, .f32⟩
  | 12 => ⟨S1x300, .f32⟩
  | 13 => ⟨S512x300, .f32⟩
  | 14 => ⟨S512x300, .f32⟩
  | 15 => ⟨S_, .f32⟩
  | 16 => ⟨S512x300, .f32⟩
  | 17 => ⟨S512x300, .f32⟩
  | 18 => ⟨S512x300, .f32⟩
  | 19 => ⟨S1x300, .f32⟩
  | 20 => ⟨S512x300, .f32⟩
  | 21 => ⟨S512x300, .f32⟩
  | 22 => ⟨S512x300, .f32⟩
  | 23 => ⟨S512x300, .f32⟩
  | 24 => ⟨S_, .f32⟩
  | 25 => ⟨S512, .f32⟩
  | 26 => ⟨S512x1, .f32⟩
  | 27 => ⟨S512x1, .f32⟩
  | 28 => ⟨S512x300, .f32⟩
  | 29 => ⟨S512x300, .f32⟩
  | 30 => ⟨S300x512, .f32⟩
  | 31 => ⟨S512x512, .f32⟩
  | 32 => ⟨S_, .f32⟩
  | 33 => ⟨S512x512, .f32⟩
  | 34 => ⟨S512x512, .f32⟩
  | 35 => ⟨S512, .i32⟩
  | _ => ⟨S10000x2, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S10000x2, .i32⟩

abbrev bufTy : (tb : Table) → Fin (tcTables nBuf tb) → BufTy
  | .hbm, ⟨i, _⟩ => hbmTy i
  | _, _ => ⟨S10000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_1 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_3 : Ref sig .tc := ⟨.hbm, 58, rfl⟩
abbrev main_v30 : Ref sig .tc := ⟨.hbm, 59, rfl⟩
abbrev main_v31 : Ref sig .tc := ⟨.hbm, 60, rfl⟩
abbrev main_c_4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_c_6 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_7 : Ref sig .tc := ⟨.hbm, 77, rfl⟩
abbrev main_v45 : Ref sig .tc := ⟨.hbm, 78, rfl⟩
abbrev main_v46 : Ref sig .tc := ⟨.hbm, 79, rfl⟩
abbrev main_c_8 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_9 : Ref sig .tc := ⟨.hbm, 87, rfl⟩
abbrev main_v53 : Ref sig .tc := ⟨.hbm, 88, rfl⟩
abbrev main_v54 : Ref sig .tc := ⟨.hbm, 89, rfl⟩
abbrev main_c_10 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call0_cst : Ref sig .tc := ⟨.hbm, 113, rfl⟩
abbrev main_call0_v0 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_11 : Ref sig .tc := ⟨.hbm, 120, rfl⟩
abbrev main_v81 : Ref sig .tc := ⟨.hbm, 121, rfl⟩
abbrev main_cst_12 : Ref sig .tc := ⟨.hbm, 122, rfl⟩
abbrev main_v82 : Ref sig .tc := ⟨.hbm, 123, rfl⟩
abbrev main_v83 : Ref sig .tc := ⟨.hbm, 124, rfl⟩
abbrev main_c_13 : Ref sig .tc := ⟨.hbm, 125, rfl⟩
abbrev main_call1_cst : Ref sig .tc := ⟨.hbm, 126, rfl⟩
abbrev main_call1_v0 : Ref sig .tc := ⟨.hbm, 127, rfl⟩
abbrev main_call1_v1 : Ref sig .tc := ⟨.hbm, 128, rfl⟩
abbrev main_call1_cst_0 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_call1_v5 : Ref sig .tc := ⟨.hbm, 133, rfl⟩
abbrev main_call1_v6 : Ref sig .tc := ⟨.hbm, 134, rfl⟩
abbrev main_call1_v7 : Ref sig .tc := ⟨.hbm, 135, rfl⟩
abbrev main_call1_cst_1 : Ref sig .tc := ⟨.hbm, 136, rfl⟩
abbrev main_call1_v8 : Ref sig .tc := ⟨.hbm, 137, rfl⟩
abbrev main_call1_cst_2 : Ref sig .tc := ⟨.hbm, 138, rfl⟩
abbrev main_call1_v9 : Ref sig .tc := ⟨.hbm, 139, rfl⟩
abbrev main_call1_v10 : Ref sig .tc := ⟨.hbm, 140, rfl⟩
abbrev main_call1_v11 : Ref sig .tc := ⟨.hbm, 141, rfl⟩
abbrev main_call1_cst_3 : Ref sig .tc := ⟨.hbm, 142, rfl⟩
abbrev main_call1_v12 : Ref sig .tc := ⟨.hbm, 143, rfl⟩
abbrev main_call1_cst_4 : Ref sig .tc := ⟨.hbm, 144, rfl⟩
abbrev main_call1_call0_v0 : Ref sig .tc := ⟨.hbm, 145, rfl⟩
abbrev main_call1_call0_v1 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_cst_14 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_call2_cst : Ref sig .tc := ⟨.hbm, 168, rfl⟩
abbrev main_call2_v0 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_c_15 : Ref sig .tc := ⟨.hbm, 173, rfl⟩
abbrev main_v107 : Ref sig .tc := ⟨.hbm, 174, rfl⟩
abbrev main_v108 : Ref sig .tc := ⟨.hbm, 175, rfl⟩
abbrev main_c_16 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_c_17 : Ref sig .tc := ⟨.hbm, 184, rfl⟩
abbrev main_v116 : Ref sig .tc := ⟨.hbm, 185, rfl⟩
abbrev main_v117 : Ref sig .tc := ⟨.hbm, 186, rfl⟩
abbrev main_c_18 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_c_19 : Ref sig .tc := ⟨.hbm, 194, rfl⟩
abbrev main_v124 : Ref sig .tc := ⟨.hbm, 195, rfl⟩
abbrev main_v125 : Ref sig .tc := ⟨.hbm, 196, rfl⟩
abbrev main_c_20 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_cst_21 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_call3_cst : Ref sig .tc := ⟨.hbm, 220, rfl⟩
abbrev main_call3_v0 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_cst_22 : Ref sig .tc := ⟨.hbm, 227, rfl⟩
abbrev main_v152 : Ref sig .tc := ⟨.hbm, 228, rfl⟩
abbrev main_cst_23 : Ref sig .tc := ⟨.hbm, 229, rfl⟩
abbrev main_v153 : Ref sig .tc := ⟨.hbm, 230, rfl⟩
abbrev main_v154 : Ref sig .tc := ⟨.hbm, 231, rfl⟩
abbrev main_c_24 : Ref sig .tc := ⟨.hbm, 232, rfl⟩
abbrev main_call4_cst : Ref sig .tc := ⟨.hbm, 233, rfl⟩
abbrev main_call4_v0 : Ref sig .tc := ⟨.hbm, 234, rfl⟩
abbrev main_call4_v1 : Ref sig .tc := ⟨.hbm, 235, rfl⟩
abbrev main_call4_cst_0 : Ref sig .tc := ⟨.hbm, 236, rfl⟩
abbrev main_call4_v2 : Ref sig .tc := ⟨.hbm, 237, rfl⟩
abbrev main_call4_v3 : Ref sig .tc := ⟨.hbm, 238, rfl⟩
abbrev main_call4_v4 : Ref sig .tc := ⟨.hbm, 239, rfl⟩
abbrev main_call4_v5 : Ref sig .tc := ⟨.hbm, 240, rfl⟩
abbrev main_call4_v6 : Ref sig .tc := ⟨.hbm, 241, rfl⟩
abbrev main_call4_v7 : Ref sig .tc := ⟨.hbm, 242, rfl⟩
abbrev main_call4_cst_1 : Ref sig .tc := ⟨.hbm, 243, rfl⟩
abbrev main_call4_v8 : Ref sig .tc := ⟨.hbm, 244, rfl⟩
abbrev main_call4_cst_2 : Ref sig .tc := ⟨.hbm, 245, rfl⟩
abbrev main_call4_v9 : Ref sig .tc := ⟨.hbm, 246, rfl⟩
abbrev main_call4_v10 : Ref sig .tc := ⟨.hbm, 247, rfl⟩
abbrev main_call4_v11 : Ref sig .tc := ⟨.hbm, 248, rfl⟩
abbrev main_call4_cst_3 : Ref sig .tc := ⟨.hbm, 249, rfl⟩
abbrev main_call4_v12 : Ref sig .tc := ⟨.hbm, 250, rfl⟩
abbrev main_call4_cst_4 : Ref sig .tc := ⟨.hbm, 251, rfl⟩
abbrev main_call4_call0_v0 : Ref sig .tc := ⟨.hbm, 252, rfl⟩
abbrev main_call4_call0_v1 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_cst_25 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_call5_cst : Ref sig .tc := ⟨.hbm, 275, rfl⟩
abbrev main_call5_v0 : Ref sig .tc := ⟨.hbm, 276, rfl⟩
abbrev main_v175 : Ref sig .tc := ⟨.hbm, 277, rfl⟩
abbrev main_v176 : Ref sig .tc := ⟨.hbm, 278, rfl⟩
abbrev main_v177 : Ref sig .tc := ⟨.hbm, 279, rfl⟩
abbrev main_c_26 : Ref sig .tc := ⟨.hbm, 280, rfl⟩
abbrev main_v178 : Ref sig .tc := ⟨.hbm, 281, rfl⟩
abbrev main_v179 : Ref sig .tc := ⟨.hbm, 282, rfl⟩
abbrev main_c_27 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_c_28 : Ref sig .tc := ⟨.hbm, 291, rfl⟩
abbrev main_v187 : Ref sig .tc := ⟨.hbm, 292, rfl⟩
abbrev main_v188 : Ref sig .tc := ⟨.hbm, 293, rfl⟩
abbrev main_c_29 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_c_30 : Ref sig .tc := ⟨.hbm, 301, rfl⟩
abbrev main_v195 : Ref sig .tc := ⟨.hbm, 302, rfl⟩
abbrev main_v196 : Ref sig .tc := ⟨.hbm, 303, rfl⟩
abbrev main_c_31 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_cst_32 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_call6_cst : Ref sig .tc := ⟨.hbm, 327, rfl⟩
abbrev main_call6_v0 : Ref sig .tc := ⟨.hbm, 328, rfl⟩
abbrev main_v218 : Ref sig .tc := ⟨.hbm, 329, rfl⟩
abbrev main_v219 : Ref sig .tc := ⟨.hbm, 330, rfl⟩
abbrev main_v220 : Ref sig .tc := ⟨.hbm, 331, rfl⟩
abbrev main_v221 : Ref sig .tc := ⟨.hbm, 332, rfl⟩
abbrev main_v222 : Ref sig .tc := ⟨.hbm, 333, rfl⟩
abbrev main_cst_33 : Ref sig .tc := ⟨.hbm, 334, rfl⟩
abbrev main_v223 : Ref sig .tc := ⟨.hbm, 335, rfl⟩
abbrev main_cst_34 : Ref sig .tc := ⟨.hbm, 336, rfl⟩
abbrev main_v224 : Ref sig .tc := ⟨.hbm, 337, rfl⟩
abbrev main_v225 : Ref sig .tc := ⟨.hbm, 338, rfl⟩
abbrev main_c_35 : Ref sig .tc := ⟨.hbm, 339, rfl⟩
abbrev main_call7_cst : Ref sig .tc := ⟨.hbm, 340, rfl⟩
abbrev main_call7_v0 : Ref sig .tc := ⟨.hbm, 341, rfl⟩
abbrev main_call7_v1 : Ref sig .tc := ⟨.hbm, 342, rfl⟩
abbrev main_call7_cst_0 : Ref sig .tc := ⟨.hbm, 343, rfl⟩
abbrev main_call7_v2 : Ref sig .tc := ⟨.hbm, 344, rfl⟩
abbrev main_call7_v3 : Ref sig .tc := ⟨.hbm, 345, rfl⟩
abbrev main_call7_v4 : Ref sig .tc := ⟨.hbm, 346, rfl⟩
abbrev main_call7_v5 : Ref sig .tc := ⟨.hbm, 347, rfl⟩
abbrev main_call7_v6 : Ref sig .tc := ⟨.hbm, 348, rfl⟩
abbrev main_call7_v7 : Ref sig .tc := ⟨.hbm, 349, rfl⟩
abbrev main_call7_cst_1 : Ref sig .tc := ⟨.hbm, 350, rfl⟩
abbrev main_call7_v8 : Ref sig .tc := ⟨.hbm, 351, rfl⟩
abbrev main_call7_cst_2 : Ref sig .tc := ⟨.hbm, 352, rfl⟩
abbrev main_call7_v9 : Ref sig .tc := ⟨.hbm, 353, rfl⟩
abbrev main_call7_v10 : Ref sig .tc := ⟨.hbm, 354, rfl⟩
abbrev main_call7_v11 : Ref sig .tc := ⟨.hbm, 355, rfl⟩
abbrev main_call7_cst_3 : Ref sig .tc := ⟨.hbm, 356, rfl⟩
abbrev main_call7_v12 : Ref sig .tc := ⟨.hbm, 357, rfl⟩
abbrev main_call7_cst_4 : Ref sig .tc := ⟨.hbm, 358, rfl⟩
abbrev main_call7_call0_v0 : Ref sig .tc := ⟨.hbm, 359, rfl⟩
abbrev main_call7_call0_v1 : Ref sig .tc := ⟨.hbm, 360, rfl⟩
abbrev main_v226 : Ref sig .tc := ⟨.hbm, 361, rfl⟩
abbrev main_v227 : Ref sig .tc := ⟨.hbm, 362, rfl⟩
abbrev main_v228 : Ref sig .tc := ⟨.hbm, 363, rfl⟩
abbrev main_v229 : Ref sig .tc := ⟨.hbm, 364, rfl⟩
abbrev main_cst_36 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_v245 : Ref sig .tc := ⟨.hbm, 381, rfl⟩
abbrev main_call8_cst : Ref sig .tc := ⟨.hbm, 382, rfl⟩
abbrev main_call8_v0 : Ref sig .tc := ⟨.hbm, 383, rfl⟩
abbrev main_v246 : Ref sig .tc := ⟨.hbm, 384, rfl⟩
abbrev main_v247 : Ref sig .tc := ⟨.hbm, 385, rfl⟩
abbrev main_v248 : Ref sig .tc := ⟨.hbm, 386, rfl⟩
abbrev main_c_37 : Ref sig .tc := ⟨.hbm, 387, rfl⟩
abbrev main_v249 : Ref sig .tc := ⟨.hbm, 388, rfl⟩
abbrev main_v250 : Ref sig .tc := ⟨.hbm, 389, rfl⟩
abbrev main_c_38 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_v256 : Ref sig .tc := ⟨.hbm, 396, rfl⟩
abbrev main_v257 : Ref sig .tc := ⟨.hbm, 397, rfl⟩
abbrev main_c_39 : Ref sig .tc := ⟨.hbm, 398, rfl⟩
abbrev main_v258 : Ref sig .tc := ⟨.hbm, 399, rfl⟩
abbrev main_v259 : Ref sig .tc := ⟨.hbm, 400, rfl⟩
abbrev main_c_40 : Ref sig .tc := ⟨.hbm, 401, rfl⟩
abbrev main_v260 : Ref sig .tc := ⟨.hbm, 402, rfl⟩
abbrev main_v261 : Ref sig .tc := ⟨.hbm, 403, rfl⟩
abbrev main_v262 : Ref sig .tc := ⟨.hbm, 404, rfl⟩
abbrev main_v263 : Ref sig .tc := ⟨.hbm, 405, rfl⟩
abbrev main_v264 : Ref sig .tc := ⟨.hbm, 406, rfl⟩
abbrev main_v265 : Ref sig .tc := ⟨.hbm, 407, rfl⟩
abbrev main_c_41 : Ref sig .tc := ⟨.hbm, 408, rfl⟩
abbrev main_v266 : Ref sig .tc := ⟨.hbm, 409, rfl⟩
abbrev main_v267 : Ref sig .tc := ⟨.hbm, 410, rfl⟩
abbrev main_c_42 : Ref sig .tc := ⟨.hbm, 411, rfl⟩
abbrev main_v268 : Ref sig .tc := ⟨.hbm, 412, rfl⟩
abbrev main_v269 : Ref sig .tc := ⟨.hbm, 413, rfl⟩
abbrev main_v270 : Ref sig .tc := ⟨.hbm, 414, rfl⟩
abbrev main_v271 : Ref sig .tc := ⟨.hbm, 415, rfl⟩
abbrev main_v272 : Ref sig .tc := ⟨.hbm, 416, rfl⟩
abbrev main_v273 : Ref sig .tc := ⟨.hbm, 417, rfl⟩
abbrev main_cst_43 : Ref sig .tc := ⟨.hbm, 418, rfl⟩
abbrev main_v274 : Ref sig .tc := ⟨.hbm, 419, rfl⟩
abbrev main_v275 : Ref sig .tc := ⟨.hbm, 420, rfl⟩
abbrev main_v276 : Ref sig .tc := ⟨.hbm, 421, rfl⟩
abbrev main_v277 : Ref sig .tc := ⟨.hbm, 422, rfl⟩
abbrev main_v278 : Ref sig .tc := ⟨.hbm, 423, rfl⟩
abbrev main_v279 : Ref sig .tc := ⟨.hbm, 424, rfl⟩
abbrev main_v280 : Ref sig .tc := ⟨.hbm, 425, rfl⟩
abbrev main_v281 : Ref sig .tc := ⟨.hbm, 426, rfl⟩
abbrev main_v282 : Ref sig .tc := ⟨.hbm, 427, rfl⟩
abbrev main_v283 : Ref sig .tc := ⟨.hbm, 428, rfl⟩
abbrev main_v284 : Ref sig .tc := ⟨.hbm, 429, rfl⟩
abbrev main_v285 : Ref sig .tc := ⟨.hbm, 430, rfl⟩
abbrev main_v286 : Ref sig .tc := ⟨.hbm, 431, rfl⟩
abbrev main_v287 : Ref sig .tc := ⟨.hbm, 432, rfl⟩
abbrev main_v288 : Ref sig .tc := ⟨.hbm, 433, rfl⟩
abbrev main_call9_cst : Ref sig .tc := ⟨.hbm, 434, rfl⟩
abbrev main_call9_v0 : Ref sig .tc := ⟨.hbm, 435, rfl⟩
abbrev main_v289 : Ref sig .tc := ⟨.hbm, 436, rfl⟩
abbrev main_v290 : Ref sig .tc := ⟨.hbm, 437, rfl⟩
abbrev main_v291 : Ref sig .tc := ⟨.hbm, 438, rfl⟩
abbrev main_v292 : Ref sig .tc := ⟨.hbm, 439, rfl⟩
abbrev main_v293 : Ref sig .tc := ⟨.hbm, 440, rfl⟩
abbrev main_cst_44 : Ref sig .tc := ⟨.hbm, 441, rfl⟩
abbrev main_v294 : Ref sig .tc := ⟨.hbm, 442, rfl⟩
abbrev main_cst_45 : Ref sig .tc := ⟨.hbm, 443, rfl⟩
abbrev main_v295 : Ref sig .tc := ⟨.hbm, 444, rfl⟩
abbrev main_v296 : Ref sig .tc := ⟨.hbm, 445, rfl⟩
abbrev main_c_46 : Ref sig .tc := ⟨.hbm, 446, rfl⟩
abbrev main_call10_cst : Ref sig .tc := ⟨.hbm, 447, rfl⟩
abbrev main_call10_v0 : Ref sig .tc := ⟨.hbm, 448, rfl⟩
abbrev main_call10_v1 : Ref sig .tc := ⟨.hbm, 449, rfl⟩
abbrev main_call10_cst_0 : Ref sig .tc := ⟨.hbm, 450, rfl⟩
abbrev main_call10_v2 : Ref sig .tc := ⟨.hbm, 451, rfl⟩
abbrev main_call10_v3 : Ref sig .tc := ⟨.hbm, 452, rfl⟩
abbrev main_call10_v4 : Ref sig .tc := ⟨.hbm, 453, rfl⟩
abbrev main_call10_v5 : Ref sig .tc := ⟨.hbm, 454, rfl⟩
abbrev main_call10_v6 : Ref sig .tc := ⟨.hbm, 455, rfl⟩
abbrev main_call10_v7 : Ref sig .tc := ⟨.hbm, 456, rfl⟩
abbrev main_call10_cst_1 : Ref sig .tc := ⟨.hbm, 457, rfl⟩
abbrev main_call10_v8 : Ref sig .tc := ⟨.hbm, 458, rfl⟩
abbrev main_call10_cst_2 : Ref sig .tc := ⟨.hbm, 459, rfl⟩
abbrev main_call10_v9 : Ref sig .tc := ⟨.hbm, 460, rfl⟩
abbrev main_call10_v10 : Ref sig .tc := ⟨.hbm, 461, rfl⟩
abbrev main_call10_v11 : Ref sig .tc := ⟨.hbm, 462, rfl⟩
abbrev main_call10_cst_3 : Ref sig .tc := ⟨.hbm, 463, rfl⟩
abbrev main_call10_v12 : Ref sig .tc := ⟨.hbm, 464, rfl⟩
abbrev main_call10_cst_4 : Ref sig .tc := ⟨.hbm, 465, rfl⟩
abbrev main_call10_call0_v0 : Ref sig .tc := ⟨.hbm, 466, rfl⟩
abbrev main_call10_call0_v1 : Ref sig .tc := ⟨.hbm, 467, rfl⟩
abbrev main_v297 : Ref sig .tc := ⟨.hbm, 468, rfl⟩
abbrev main_v298 : Ref sig .tc := ⟨.hbm, 469, rfl⟩
abbrev main_v299 : Ref sig .tc := ⟨.hbm, 470, rfl⟩
abbrev main_v300 : Ref sig .tc := ⟨.hbm, 471, rfl⟩
abbrev main_cst_47 : Ref sig .tc := ⟨.hbm, 472, rfl⟩
abbrev main_v301 : Ref sig .tc := ⟨.hbm, 473, rfl⟩
abbrev main_v302 : Ref sig .tc := ⟨.hbm, 474, rfl⟩
abbrev main_v303 : Ref sig .tc := ⟨.hbm, 475, rfl⟩
abbrev main_v304 : Ref sig .tc := ⟨.hbm, 476, rfl⟩
abbrev main_v305 : Ref sig .tc := ⟨.hbm, 477, rfl⟩
abbrev main_v306 : Ref sig .tc := ⟨.hbm, 478, rfl⟩
abbrev main_v307 : Ref sig .tc := ⟨.hbm, 479, rfl⟩
abbrev main_v308 : Ref sig .tc := ⟨.hbm, 480, rfl⟩
abbrev main_v309 : Ref sig .tc := ⟨.hbm, 481, rfl⟩
abbrev main_v310 : Ref sig .tc := ⟨.hbm, 482, rfl⟩
abbrev main_v311 : Ref sig .tc := ⟨.hbm, 483, rfl⟩
abbrev main_v312 : Ref sig .tc := ⟨.hbm, 484, rfl⟩
abbrev main_v313 : Ref sig .tc := ⟨.hbm, 485, rfl⟩
abbrev main_v314 : Ref sig .tc := ⟨.hbm, 486, rfl⟩
abbrev main_v315 : Ref sig .tc := ⟨.hbm, 487, rfl⟩
abbrev main_v316 : Ref sig .tc := ⟨.hbm, 488, rfl⟩
abbrev main_call11_cst : Ref sig .tc := ⟨.hbm, 489, rfl⟩
abbrev main_call11_v0 : Ref sig .tc := ⟨.hbm, 490, rfl⟩
abbrev main_v317 : Ref sig .tc := ⟨.hbm, 491, rfl⟩
abbrev main_v318 : Ref sig .tc := ⟨.hbm, 492, rfl⟩
abbrev main_v319 : Ref sig .tc := ⟨.hbm, 493, rfl⟩
abbrev main_c_48 : Ref sig .tc := ⟨.hbm, 494, rfl⟩
abbrev main_v320 : Ref sig .tc := ⟨.hbm, 495, rfl⟩
abbrev main_v321 : Ref sig .tc := ⟨.hbm, 496, rfl⟩
abbrev main_c_49 : Ref sig .tc := ⟨.hbm, 497, rfl⟩
abbrev main_v322 : Ref sig .tc := ⟨.hbm, 498, rfl⟩
abbrev main_v323 : Ref sig .tc := ⟨.hbm, 499, rfl⟩
abbrev main_v324 : Ref sig .tc := ⟨.hbm, 500, rfl⟩
abbrev main_v325 : Ref sig .tc := ⟨.hbm, 501, rfl⟩
abbrev main_v326 : Ref sig .tc := ⟨.hbm, 502, rfl⟩
abbrev main_v327 : Ref sig .tc := ⟨.hbm, 503, rfl⟩
abbrev main_v328 : Ref sig .tc := ⟨.hbm, 504, rfl⟩
abbrev main_c_50 : Ref sig .tc := ⟨.hbm, 505, rfl⟩
abbrev main_v329 : Ref sig .tc := ⟨.hbm, 506, rfl⟩
abbrev main_v330 : Ref sig .tc := ⟨.hbm, 507, rfl⟩
abbrev main_c_51 : Ref sig .tc := ⟨.hbm, 508, rfl⟩
abbrev main_v331 : Ref sig .tc := ⟨.hbm, 509, rfl⟩
abbrev main_v332 : Ref sig .tc := ⟨.hbm, 510, rfl⟩
abbrev main_v333 : Ref sig .tc := ⟨.hbm, 511, rfl⟩
abbrev main_v334 : Ref sig .tc := ⟨.hbm, 512, rfl⟩
abbrev main_v335 : Ref sig .tc := ⟨.hbm, 513, rfl⟩
abbrev main_v336 : Ref sig .tc := ⟨.hbm, 514, rfl⟩
abbrev main_c_52 : Ref sig .tc := ⟨.hbm, 515, rfl⟩
abbrev main_v337 : Ref sig .tc := ⟨.hbm, 516, rfl⟩
abbrev main_v338 : Ref sig .tc := ⟨.hbm, 517, rfl⟩
abbrev main_c_53 : Ref sig .tc := ⟨.hbm, 518, rfl⟩
abbrev main_v339 : Ref sig .tc := ⟨.hbm, 519, rfl⟩
abbrev main_v340 : Ref sig .tc := ⟨.hbm, 520, rfl⟩
abbrev main_v341 : Ref sig .tc := ⟨.hbm, 521, rfl⟩
abbrev main_v342 : Ref sig .tc := ⟨.hbm, 522, rfl⟩
abbrev main_v343 : Ref sig .tc := ⟨.hbm, 523, rfl⟩
abbrev main_v344 : Ref sig .tc := ⟨.hbm, 524, rfl⟩
abbrev main_cst_54 : Ref sig .tc := ⟨.hbm, 525, rfl⟩
abbrev main_v345 : Ref sig .tc := ⟨.hbm, 526, rfl⟩
abbrev main_v346 : Ref sig .tc := ⟨.hbm, 527, rfl⟩
abbrev main_v347 : Ref sig .tc := ⟨.hbm, 528, rfl⟩
abbrev main_v348 : Ref sig .tc := ⟨.hbm, 529, rfl⟩
abbrev main_v349 : Ref sig .tc := ⟨.hbm, 530, rfl⟩
abbrev main_v350 : Ref sig .tc := ⟨.hbm, 531, rfl⟩
abbrev main_v351 : Ref sig .tc := ⟨.hbm, 532, rfl⟩
abbrev main_v352 : Ref sig .tc := ⟨.hbm, 533, rfl⟩
abbrev main_v353 : Ref sig .tc := ⟨.hbm, 534, rfl⟩
abbrev main_v354 : Ref sig .tc := ⟨.hbm, 535, rfl⟩
abbrev main_v355 : Ref sig .tc := ⟨.hbm, 536, rfl⟩
abbrev main_v356 : Ref sig .tc := ⟨.hbm, 537, rfl⟩
abbrev main_v357 : Ref sig .tc := ⟨.hbm, 538, rfl⟩
abbrev main_v358 : Ref sig .tc := ⟨.hbm, 539, rfl⟩
abbrev main_v359 : Ref sig .tc := ⟨.hbm, 540, rfl⟩
abbrev main_call12_cst : Ref sig .tc := ⟨.hbm, 541, rfl⟩
abbrev main_call12_v0 : Ref sig .tc := ⟨.hbm, 542, rfl⟩
abbrev main_v360 : Ref sig .tc := ⟨.hbm, 543, rfl⟩
abbrev main_v361 : Ref sig .tc := ⟨.hbm, 544, rfl⟩
abbrev main_v362 : Ref sig .tc := ⟨.hbm, 545, rfl⟩
abbrev main_v363 : Ref sig .tc := ⟨.hbm, 546, rfl⟩
abbrev main_v364 : Ref sig .tc := ⟨.hbm, 547, rfl⟩
abbrev main_cst_55 : Ref sig .tc := ⟨.hbm, 548, rfl⟩
abbrev main_v365 : Ref sig .tc := ⟨.hbm, 549, rfl⟩
abbrev main_cst_56 : Ref sig .tc := ⟨.hbm, 550, rfl⟩
abbrev main_v366 : Ref sig .tc := ⟨.hbm, 551, rfl⟩
abbrev main_v367 : Ref sig .tc := ⟨.hbm, 552, rfl⟩
abbrev main_c_57 : Ref sig .tc := ⟨.hbm, 553, rfl⟩
abbrev main_call13_cst : Ref sig .tc := ⟨.hbm, 554, rfl⟩
abbrev main_call13_v0 : Ref sig .tc := ⟨.hbm, 555, rfl⟩
abbrev main_call13_v1 : Ref sig .tc := ⟨.hbm, 556, rfl⟩
abbrev main_call13_cst_0 : Ref sig .tc := ⟨.hbm, 557, rfl⟩
abbrev main_call13_v2 : Ref sig .tc := ⟨.hbm, 558, rfl⟩
abbrev main_call13_v3 : Ref sig .tc := ⟨.hbm, 559, rfl⟩
abbrev main_call13_v4 : Ref sig .tc := ⟨.hbm, 560, rfl⟩
abbrev main_call13_v5 : Ref sig .tc := ⟨.hbm, 561, rfl⟩
abbrev main_call13_v6 : Ref sig .tc := ⟨.hbm, 562, rfl⟩
abbrev main_call13_v7 : Ref sig .tc := ⟨.hbm, 563, rfl⟩
abbrev main_call13_cst_1 : Ref sig .tc := ⟨.hbm, 564, rfl⟩
abbrev main_call13_v8 : Ref sig .tc := ⟨.hbm, 565, rfl⟩
abbrev main_call13_cst_2 : Ref sig .tc := ⟨.hbm, 566, rfl⟩
abbrev main_call13_v9 : Ref sig .tc := ⟨.hbm, 567, rfl⟩
abbrev main_call13_v10 : Ref sig .tc := ⟨.hbm, 568, rfl⟩
abbrev main_call13_v11 : Ref sig .tc := ⟨.hbm, 569, rfl⟩
abbrev main_call13_cst_3 : Ref sig .tc := ⟨.hbm, 570, rfl⟩
abbrev main_call13_v12 : Ref sig .tc := ⟨.hbm, 571, rfl⟩
abbrev main_call13_cst_4 : Ref sig .tc := ⟨.hbm, 572, rfl⟩
abbrev main_call13_call0_v0 : Ref sig .tc := ⟨.hbm, 573, rfl⟩
abbrev main_call13_call0_v1 : Ref sig .tc := ⟨.hbm, 574, rfl⟩
abbrev main_v368 : Ref sig .tc := ⟨.hbm, 575, rfl⟩
abbrev main_v369 : Ref sig .tc := ⟨.hbm, 576, rfl⟩
abbrev main_v370 : Ref sig .tc := ⟨.hbm, 577, rfl⟩
abbrev main_v371 : Ref sig .tc := ⟨.hbm, 578, rfl⟩
abbrev main_cst_58 : Ref sig .tc := ⟨.hbm, 579, rfl⟩
abbrev main_v372 : Ref sig .tc := ⟨.hbm, 580, rfl⟩
abbrev main_v373 : Ref sig .tc := ⟨.hbm, 581, rfl⟩
abbrev main_v374 : Ref sig .tc := ⟨.hbm, 582, rfl⟩
abbrev main_v375 : Ref sig .tc := ⟨.hbm, 583, rfl⟩
abbrev main_v376 : Ref sig .tc := ⟨.hbm, 584, rfl⟩
abbrev main_v377 : Ref sig .tc := ⟨.hbm, 585, rfl⟩
abbrev main_v378 : Ref sig .tc := ⟨.hbm, 586, rfl⟩
abbrev main_v379 : Ref sig .tc := ⟨.hbm, 587, rfl⟩
abbrev main_v380 : Ref sig .tc := ⟨.hbm, 588, rfl⟩
abbrev main_v381 : Ref sig .tc := ⟨.hbm, 589, rfl⟩
abbrev main_v382 : Ref sig .tc := ⟨.hbm, 590, rfl⟩
abbrev main_v383 : Ref sig .tc := ⟨.hbm, 591, rfl⟩
abbrev main_v384 : Ref sig .tc := ⟨.hbm, 592, rfl⟩
abbrev main_v385 : Ref sig .tc := ⟨.hbm, 593, rfl⟩
abbrev main_v386 : Ref sig .tc := ⟨.hbm, 594, rfl⟩
abbrev main_v387 : Ref sig .tc := ⟨.hbm, 595, rfl⟩
abbrev main_v388 : Ref sig .tc := ⟨.hbm, 596, rfl⟩
abbrev main_v389 : Ref sig .tc := ⟨.hbm, 597, rfl⟩
abbrev main_v390 : Ref sig .tc := ⟨.hbm, 598, rfl⟩
abbrev main_v391 : Ref sig .tc := ⟨.hbm, 599, rfl⟩
abbrev main_v392 : Ref sig .tc := ⟨.hbm, 600, rfl⟩
abbrev main_v393 : Ref sig .tc := ⟨.hbm, 601, rfl⟩
abbrev main_v394 : Ref sig .tc := ⟨.hbm, 602, rfl⟩
abbrev main_v395 : Ref sig .tc := ⟨.hbm, 603, rfl⟩
abbrev main_v396 : Ref sig .tc := ⟨.hbm, 604, rfl⟩
abbrev main_v397 : Ref sig .tc := ⟨.hbm, 605, rfl⟩
abbrev main_c_59 : Ref sig .tc := ⟨.hbm, 606, rfl⟩
abbrev main_v398 : Ref sig .tc := ⟨.hbm, 607, rfl⟩
abbrev main_v399 : Ref sig .tc := ⟨.hbm, 608, rfl⟩
abbrev main_c_60 : Ref sig .tc := ⟨.hbm, 609, rfl⟩
abbrev main_v400 : Ref sig .tc := ⟨.hbm, 610, rfl⟩
abbrev main_v401 : Ref sig .tc := ⟨.hbm, 611, rfl⟩
abbrev main_v402 : Ref sig .tc := ⟨.hbm, 612, rfl⟩
abbrev main_v403 : Ref sig .tc := ⟨.hbm, 613, rfl⟩
abbrev main_v404 : Ref sig .tc := ⟨.hbm, 614, rfl⟩
abbrev main_v405 : Ref sig .tc := ⟨.hbm, 615, rfl⟩
abbrev main_v406 : Ref sig .tc := ⟨.hbm, 616, rfl⟩
abbrev main_c_61 : Ref sig .tc := ⟨.hbm, 617, rfl⟩
abbrev main_v407 : Ref sig .tc := ⟨.hbm, 618, rfl⟩
abbrev main_v408 : Ref sig .tc := ⟨.hbm, 619, rfl⟩
abbrev main_c_62 : Ref sig .tc := ⟨.hbm, 620, rfl⟩
abbrev main_v409 : Ref sig .tc := ⟨.hbm, 621, rfl⟩
abbrev main_v410 : Ref sig .tc := ⟨.hbm, 622, rfl⟩
abbrev main_v411 : Ref sig .tc := ⟨.hbm, 623, rfl⟩
abbrev main_v412 : Ref sig .tc := ⟨.hbm, 624, rfl⟩
abbrev main_v413 : Ref sig .tc := ⟨.hbm, 625, rfl⟩
abbrev main_v414 : Ref sig .tc := ⟨.hbm, 626, rfl⟩
abbrev main_v415 : Ref sig .tc := ⟨.hbm, 627, rfl⟩
abbrev main_v416 : Ref sig .tc := ⟨.hbm, 628, rfl⟩
abbrev main_v417 : Ref sig .tc := ⟨.hbm, 629, rfl⟩
abbrev main_c_63 : Ref sig .tc := ⟨.hbm, 630, rfl⟩
abbrev main_v418 : Ref sig .tc := ⟨.hbm, 631, rfl⟩
abbrev main_v419 : Ref sig .tc := ⟨.hbm, 632, rfl⟩
abbrev main_c_64 : Ref sig .tc := ⟨.hbm, 633, rfl⟩
abbrev main_v420 : Ref sig .tc := ⟨.hbm, 634, rfl⟩
abbrev main_v421 : Ref sig .tc := ⟨.hbm, 635, rfl⟩
abbrev main_v422 : Ref sig .tc := ⟨.hbm, 636, rfl⟩
abbrev main_v423 : Ref sig .tc := ⟨.hbm, 637, rfl⟩
abbrev main_c_65 : Ref sig .tc := ⟨.hbm, 638, rfl⟩
abbrev main_v424 : Ref sig .tc := ⟨.hbm, 639, rfl⟩
abbrev main_v425 : Ref sig .tc := ⟨.hbm, 640, rfl⟩
abbrev main_c_66 : Ref sig .tc := ⟨.hbm, 641, rfl⟩
abbrev main_v426 : Ref sig .tc := ⟨.hbm, 642, rfl⟩
abbrev main_v427 : Ref sig .tc := ⟨.hbm, 643, rfl⟩
abbrev main_v428 : Ref sig .tc := ⟨.hbm, 644, rfl⟩
abbrev main_v429 : Ref sig .tc := ⟨.hbm, 645, rfl⟩
abbrev main_v430 : Ref sig .tc := ⟨.hbm, 646, rfl⟩
abbrev main_v431 : Ref sig .tc := ⟨.hbm, 647, rfl⟩
abbrev main_v432 : Ref sig .tc := ⟨.hbm, 648, rfl⟩
abbrev main_c_67 : Ref sig .tc := ⟨.hbm, 649, rfl⟩
abbrev main_v433 : Ref sig .tc := ⟨.hbm, 650, rfl⟩
abbrev main_v434 : Ref sig .tc := ⟨.hbm, 651, rfl⟩
abbrev main_c_68 : Ref sig .tc := ⟨.hbm, 652, rfl⟩
abbrev main_v435 : Ref sig .tc := ⟨.hbm, 653, rfl⟩
abbrev main_v436 : Ref sig .tc := ⟨.hbm, 654, rfl⟩
abbrev main_v437 : Ref sig .tc := ⟨.hbm, 655, rfl⟩
abbrev main_v438 : Ref sig .tc := ⟨.hbm, 656, rfl⟩
abbrev main_v439 : Ref sig .tc := ⟨.hbm, 657, rfl⟩
abbrev main_v440 : Ref sig .tc := ⟨.hbm, 658, rfl⟩
abbrev main_c_69 : Ref sig .tc := ⟨.hbm, 659, rfl⟩
abbrev main_v441 : Ref sig .tc := ⟨.hbm, 660, rfl⟩
abbrev main_v442 : Ref sig .tc := ⟨.hbm, 661, rfl⟩
abbrev main_c_70 : Ref sig .tc := ⟨.hbm, 662, rfl⟩
abbrev main_v443 : Ref sig .tc := ⟨.hbm, 663, rfl⟩
abbrev main_v444 : Ref sig .tc := ⟨.hbm, 664, rfl⟩
abbrev main_v445 : Ref sig .tc := ⟨.hbm, 665, rfl⟩
abbrev main_v446 : Ref sig .tc := ⟨.hbm, 666, rfl⟩
abbrev main_v447 : Ref sig .tc := ⟨.hbm, 667, rfl⟩
abbrev main_v448 : Ref sig .tc := ⟨.hbm, 668, rfl⟩
abbrev main_cst_71 : Ref sig .tc := ⟨.hbm, 669, rfl⟩
abbrev main_v449 : Ref sig .tc := ⟨.hbm, 670, rfl⟩
abbrev main_v450 : Ref sig .tc := ⟨.hbm, 671, rfl⟩
abbrev main_v451 : Ref sig .tc := ⟨.hbm, 672, rfl⟩
abbrev main_v452 : Ref sig .tc := ⟨.hbm, 673, rfl⟩
abbrev main_v453 : Ref sig .tc := ⟨.hbm, 674, rfl⟩
abbrev main_v454 : Ref sig .tc := ⟨.hbm, 675, rfl⟩
abbrev main_v455 : Ref sig .tc := ⟨.hbm, 676, rfl⟩
abbrev main_v456 : Ref sig .tc := ⟨.hbm, 677, rfl⟩
abbrev main_v457 : Ref sig .tc := ⟨.hbm, 678, rfl⟩
abbrev main_v458 : Ref sig .tc := ⟨.hbm, 679, rfl⟩
abbrev main_v459 : Ref sig .tc := ⟨.hbm, 680, rfl⟩
abbrev main_v460 : Ref sig .tc := ⟨.hbm, 681, rfl⟩
abbrev main_v461 : Ref sig .tc := ⟨.hbm, 682, rfl⟩
abbrev main_v462 : Ref sig .tc := ⟨.hbm, 683, rfl⟩
abbrev main_v463 : Ref sig .tc := ⟨.hbm, 684, rfl⟩
abbrev main_call14_cst : Ref sig .tc := ⟨.hbm, 685, rfl⟩
abbrev main_call14_v0 : Ref sig .tc := ⟨.hbm, 686, rfl⟩
abbrev main_v464 : Ref sig .tc := ⟨.hbm, 687, rfl⟩
abbrev main_v465 : Ref sig .tc := ⟨.hbm, 688, rfl⟩
abbrev main_v466 : Ref sig .tc := ⟨.hbm, 689, rfl⟩
abbrev main_v467 : Ref sig .tc := ⟨.hbm, 690, rfl⟩
abbrev main_v468 : Ref sig .tc := ⟨.hbm, 691, rfl⟩
abbrev main_cst_72 : Ref sig .tc := ⟨.hbm, 692, rfl⟩
abbrev main_v469 : Ref sig .tc := ⟨.hbm, 693, rfl⟩
abbrev main_cst_73 : Ref sig .tc := ⟨.hbm, 694, rfl⟩
abbrev main_v470 : Ref sig .tc := ⟨.hbm, 695, rfl⟩
abbrev main_v471 : Ref sig .tc := ⟨.hbm, 696, rfl⟩
abbrev main_c_74 : Ref sig .tc := ⟨.hbm, 697, rfl⟩
abbrev main_call15_cst : Ref sig .tc := ⟨.hbm, 698, rfl⟩
abbrev main_call15_v0 : Ref sig .tc := ⟨.hbm, 699, rfl⟩
abbrev main_call15_v1 : Ref sig .tc := ⟨.hbm, 700, rfl⟩
abbrev main_call15_cst_0 : Ref sig .tc := ⟨.hbm, 701, rfl⟩
abbrev main_call15_v2 : Ref sig .tc := ⟨.hbm, 702, rfl⟩
abbrev main_call15_v3 : Ref sig .tc := ⟨.hbm, 703, rfl⟩
abbrev main_call15_v4 : Ref sig .tc := ⟨.hbm, 704, rfl⟩
abbrev main_call15_v5 : Ref sig .tc := ⟨.hbm, 705, rfl⟩
abbrev main_call15_v6 : Ref sig .tc := ⟨.hbm, 706, rfl⟩
abbrev main_call15_v7 : Ref sig .tc := ⟨.hbm, 707, rfl⟩
abbrev main_call15_cst_1 : Ref sig .tc := ⟨.hbm, 708, rfl⟩
abbrev main_call15_v8 : Ref sig .tc := ⟨.hbm, 709, rfl⟩
abbrev main_call15_cst_2 : Ref sig .tc := ⟨.hbm, 710, rfl⟩
abbrev main_call15_v9 : Ref sig .tc := ⟨.hbm, 711, rfl⟩
abbrev main_call15_v10 : Ref sig .tc := ⟨.hbm, 712, rfl⟩
abbrev main_call15_v11 : Ref sig .tc := ⟨.hbm, 713, rfl⟩
abbrev main_call15_cst_3 : Ref sig .tc := ⟨.hbm, 714, rfl⟩
abbrev main_call15_v12 : Ref sig .tc := ⟨.hbm, 715, rfl⟩
abbrev main_call15_cst_4 : Ref sig .tc := ⟨.hbm, 716, rfl⟩
abbrev main_call15_call0_v0 : Ref sig .tc := ⟨.hbm, 717, rfl⟩
abbrev main_call15_call0_v1 : Ref sig .tc := ⟨.hbm, 718, rfl⟩
abbrev main_v472 : Ref sig .tc := ⟨.hbm, 719, rfl⟩
abbrev main_v473 : Ref sig .tc := ⟨.hbm, 720, rfl⟩
abbrev main_v474 : Ref sig .tc := ⟨.hbm, 721, rfl⟩
abbrev main_v475 : Ref sig .tc := ⟨.hbm, 722, rfl⟩
abbrev main_cst_75 : Ref sig .tc := ⟨.hbm, 723, rfl⟩
abbrev main_v476 : Ref sig .tc := ⟨.hbm, 724, rfl⟩
abbrev main_v477 : Ref sig .tc := ⟨.hbm, 725, rfl⟩
abbrev main_v478 : Ref sig .tc := ⟨.hbm, 726, rfl⟩
abbrev main_v479 : Ref sig .tc := ⟨.hbm, 727, rfl⟩
abbrev main_v480 : Ref sig .tc := ⟨.hbm, 728, rfl⟩
abbrev main_v481 : Ref sig .tc := ⟨.hbm, 729, rfl⟩
abbrev main_v482 : Ref sig .tc := ⟨.hbm, 730, rfl⟩
abbrev main_v483 : Ref sig .tc := ⟨.hbm, 731, rfl⟩
abbrev main_v484 : Ref sig .tc := ⟨.hbm, 732, rfl⟩
abbrev main_v485 : Ref sig .tc := ⟨.hbm, 733, rfl⟩
abbrev main_v486 : Ref sig .tc := ⟨.hbm, 734, rfl⟩
abbrev main_v487 : Ref sig .tc := ⟨.hbm, 735, rfl⟩
abbrev main_v488 : Ref sig .tc := ⟨.hbm, 736, rfl⟩
abbrev main_v489 : Ref sig .tc := ⟨.hbm, 737, rfl⟩
abbrev main_v490 : Ref sig .tc := ⟨.hbm, 738, rfl⟩
abbrev main_v491 : Ref sig .tc := ⟨.hbm, 739, rfl⟩
abbrev main_call16_cst : Ref sig .tc := ⟨.hbm, 740, rfl⟩
abbrev main_call16_v0 : Ref sig .tc := ⟨.hbm, 741, rfl⟩
abbrev main_v492 : Ref sig .tc := ⟨.hbm, 742, rfl⟩
abbrev main_v493 : Ref sig .tc := ⟨.hbm, 743, rfl⟩
abbrev main_v494 : Ref sig .tc := ⟨.hbm, 744, rfl⟩
abbrev main_c_76 : Ref sig .tc := ⟨.hbm, 745, rfl⟩
abbrev main_v495 : Ref sig .tc := ⟨.hbm, 746, rfl⟩
abbrev main_v496 : Ref sig .tc := ⟨.hbm, 747, rfl⟩
abbrev main_c_77 : Ref sig .tc := ⟨.hbm, 748, rfl⟩
abbrev main_v497 : Ref sig .tc := ⟨.hbm, 749, rfl⟩
abbrev main_v498 : Ref sig .tc := ⟨.hbm, 750, rfl⟩
abbrev main_v499 : Ref sig .tc := ⟨.hbm, 751, rfl⟩
abbrev main_v500 : Ref sig .tc := ⟨.hbm, 752, rfl⟩
abbrev main_v501 : Ref sig .tc := ⟨.hbm, 753, rfl⟩
abbrev main_v502 : Ref sig .tc := ⟨.hbm, 754, rfl⟩
abbrev main_v503 : Ref sig .tc := ⟨.hbm, 755, rfl⟩
abbrev main_c_78 : Ref sig .tc := ⟨.hbm, 756, rfl⟩
abbrev main_v504 : Ref sig .tc := ⟨.hbm, 757, rfl⟩
abbrev main_v505 : Ref sig .tc := ⟨.hbm, 758, rfl⟩
abbrev main_c_79 : Ref sig .tc := ⟨.hbm, 759, rfl⟩
abbrev main_v506 : Ref sig .tc := ⟨.hbm, 760, rfl⟩
abbrev main_v507 : Ref sig .tc := ⟨.hbm, 761, rfl⟩
abbrev main_v508 : Ref sig .tc := ⟨.hbm, 762, rfl⟩
abbrev main_v509 : Ref sig .tc := ⟨.hbm, 763, rfl⟩
abbrev main_v510 : Ref sig .tc := ⟨.hbm, 764, rfl⟩
abbrev main_v511 : Ref sig .tc := ⟨.hbm, 765, rfl⟩
abbrev main_c_80 : Ref sig .tc := ⟨.hbm, 766, rfl⟩
abbrev main_v512 : Ref sig .tc := ⟨.hbm, 767, rfl⟩
abbrev main_v513 : Ref sig .tc := ⟨.hbm, 768, rfl⟩
abbrev main_c_81 : Ref sig .tc := ⟨.hbm, 769, rfl⟩
abbrev main_v514 : Ref sig .tc := ⟨.hbm, 770, rfl⟩
abbrev main_v515 : Ref sig .tc := ⟨.hbm, 771, rfl⟩
abbrev main_v516 : Ref sig .tc := ⟨.hbm, 772, rfl⟩
abbrev main_v517 : Ref sig .tc := ⟨.hbm, 773, rfl⟩
abbrev main_v518 : Ref sig .tc := ⟨.hbm, 774, rfl⟩
abbrev main_v519 : Ref sig .tc := ⟨.hbm, 775, rfl⟩
abbrev main_cst_82 : Ref sig .tc := ⟨.hbm, 776, rfl⟩
abbrev main_v520 : Ref sig .tc := ⟨.hbm, 777, rfl⟩
abbrev main_v521 : Ref sig .tc := ⟨.hbm, 778, rfl⟩
abbrev main_v522 : Ref sig .tc := ⟨.hbm, 779, rfl⟩
abbrev main_v523 : Ref sig .tc := ⟨.hbm, 780, rfl⟩
abbrev main_v524 : Ref sig .tc := ⟨.hbm, 781, rfl⟩
abbrev main_v525 : Ref sig .tc := ⟨.hbm, 782, rfl⟩
abbrev main_v526 : Ref sig .tc := ⟨.hbm, 783, rfl⟩
abbrev main_v527 : Ref sig .tc := ⟨.hbm, 784, rfl⟩
abbrev main_v528 : Ref sig .tc := ⟨.hbm, 785, rfl⟩
abbrev main_v529 : Ref sig .tc := ⟨.hbm, 786, rfl⟩
abbrev main_v530 : Ref sig .tc := ⟨.hbm, 787, rfl⟩
abbrev main_v531 : Ref sig .tc := ⟨.hbm, 788, rfl⟩
abbrev main_v532 : Ref sig .tc := ⟨.hbm, 789, rfl⟩
abbrev main_v533 : Ref sig .tc := ⟨.hbm, 790, rfl⟩
abbrev main_v534 : Ref sig .tc := ⟨.hbm, 791, rfl⟩
abbrev main_call17_cst : Ref sig .tc := ⟨.hbm, 792, rfl⟩
abbrev main_call17_v0 : Ref sig .tc := ⟨.hbm, 793, rfl⟩
abbrev main_v535 : Ref sig .tc := ⟨.hbm, 794, rfl⟩
abbrev main_v536 : Ref sig .tc := ⟨.hbm, 795, rfl⟩
abbrev main_v537 : Ref sig .tc := ⟨.hbm, 796, rfl⟩
abbrev main_v538 : Ref sig .tc := ⟨.hbm, 797, rfl⟩
abbrev main_v539 : Ref sig .tc := ⟨.hbm, 798, rfl⟩
abbrev main_cst_83 : Ref sig .tc := ⟨.hbm, 799, rfl⟩
abbrev main_v540 : Ref sig .tc := ⟨.hbm, 800, rfl⟩
abbrev main_cst_84 : Ref sig .tc := ⟨.hbm, 801, rfl⟩
abbrev main_v541 : Ref sig .tc := ⟨.hbm, 802, rfl⟩
abbrev main_v542 : Ref sig .tc := ⟨.hbm, 803, rfl⟩
abbrev main_c_85 : Ref sig .tc := ⟨.hbm, 804, rfl⟩
abbrev main_call18_cst : Ref sig .tc := ⟨.hbm, 805, rfl⟩
abbrev main_call18_v0 : Ref sig .tc := ⟨.hbm, 806, rfl⟩
abbrev main_call18_v1 : Ref sig .tc := ⟨.hbm, 807, rfl⟩
abbrev main_call18_cst_0 : Ref sig .tc := ⟨.hbm, 808, rfl⟩
abbrev main_call18_v2 : Ref sig .tc := ⟨.hbm, 809, rfl⟩
abbrev main_call18_v3 : Ref sig .tc := ⟨.hbm, 810, rfl⟩
abbrev main_call18_v4 : Ref sig .tc := ⟨.hbm, 811, rfl⟩
abbrev main_call18_v5 : Ref sig .tc := ⟨.hbm, 812, rfl⟩
abbrev main_call18_v6 : Ref sig .tc := ⟨.hbm, 813, rfl⟩
abbrev main_call18_v7 : Ref sig .tc := ⟨.hbm, 814, rfl⟩
abbrev main_call18_cst_1 : Ref sig .tc := ⟨.hbm, 815, rfl⟩
abbrev main_call18_v8 : Ref sig .tc := ⟨.hbm, 816, rfl⟩
abbrev main_call18_cst_2 : Ref sig .tc := ⟨.hbm, 817, rfl⟩
abbrev main_call18_v9 : Ref sig .tc := ⟨.hbm, 818, rfl⟩
abbrev main_call18_v10 : Ref sig .tc := ⟨.hbm, 819, rfl⟩
abbrev main_call18_v11 : Ref sig .tc := ⟨.hbm, 820, rfl⟩
abbrev main_call18_cst_3 : Ref sig .tc := ⟨.hbm, 821, rfl⟩
abbrev main_call18_v12 : Ref sig .tc := ⟨.hbm, 822, rfl⟩
abbrev main_call18_cst_4 : Ref sig .tc := ⟨.hbm, 823, rfl⟩
abbrev main_call18_call0_v0 : Ref sig .tc := ⟨.hbm, 824, rfl⟩
abbrev main_call18_call0_v1 : Ref sig .tc := ⟨.hbm, 825, rfl⟩
abbrev main_v543 : Ref sig .tc := ⟨.hbm, 826, rfl⟩
abbrev main_v544 : Ref sig .tc := ⟨.hbm, 827, rfl⟩
abbrev main_v545 : Ref sig .tc := ⟨.hbm, 828, rfl⟩
abbrev main_v546 : Ref sig .tc := ⟨.hbm, 829, rfl⟩
abbrev main_cst_86 : Ref sig .tc := ⟨.hbm, 830, rfl⟩
abbrev main_v547 : Ref sig .tc := ⟨.hbm, 831, rfl⟩
abbrev main_v548 : Ref sig .tc := ⟨.hbm, 832, rfl⟩
abbrev main_v549 : Ref sig .tc := ⟨.hbm, 833, rfl⟩
abbrev main_v550 : Ref sig .tc := ⟨.hbm, 834, rfl⟩
abbrev main_v551 : Ref sig .tc := ⟨.hbm, 835, rfl⟩
abbrev main_v552 : Ref sig .tc := ⟨.hbm, 836, rfl⟩
abbrev main_v553 : Ref sig .tc := ⟨.hbm, 837, rfl⟩
abbrev main_v554 : Ref sig .tc := ⟨.hbm, 838, rfl⟩
abbrev main_v555 : Ref sig .tc := ⟨.hbm, 839, rfl⟩
abbrev main_v556 : Ref sig .tc := ⟨.hbm, 840, rfl⟩
abbrev main_v557 : Ref sig .tc := ⟨.hbm, 841, rfl⟩
abbrev main_v558 : Ref sig .tc := ⟨.hbm, 842, rfl⟩
abbrev main_v559 : Ref sig .tc := ⟨.hbm, 843, rfl⟩
abbrev main_v560 : Ref sig .tc := ⟨.hbm, 844, rfl⟩
abbrev main_v561 : Ref sig .tc := ⟨.hbm, 845, rfl⟩
abbrev main_v562 : Ref sig .tc := ⟨.hbm, 846, rfl⟩
abbrev main_call19_cst : Ref sig .tc := ⟨.hbm, 847, rfl⟩
abbrev main_call19_v0 : Ref sig .tc := ⟨.hbm, 848, rfl⟩
abbrev main_v563 : Ref sig .tc := ⟨.hbm, 849, rfl⟩
abbrev main_v564 : Ref sig .tc := ⟨.hbm, 850, rfl⟩
abbrev main_v565 : Ref sig .tc := ⟨.hbm, 851, rfl⟩
abbrev main_c_87 : Ref sig .tc := ⟨.hbm, 852, rfl⟩
abbrev main_v566 : Ref sig .tc := ⟨.hbm, 853, rfl⟩
abbrev main_v567 : Ref sig .tc := ⟨.hbm, 854, rfl⟩
abbrev main_c_88 : Ref sig .tc := ⟨.hbm, 855, rfl⟩
abbrev main_v568 : Ref sig .tc := ⟨.hbm, 856, rfl⟩
abbrev main_v569 : Ref sig .tc := ⟨.hbm, 857, rfl⟩
abbrev main_v570 : Ref sig .tc := ⟨.hbm, 858, rfl⟩
abbrev main_v571 : Ref sig .tc := ⟨.hbm, 859, rfl⟩
abbrev main_v572 : Ref sig .tc := ⟨.hbm, 860, rfl⟩
abbrev main_v573 : Ref sig .tc := ⟨.hbm, 861, rfl⟩
abbrev main_v574 : Ref sig .tc := ⟨.hbm, 862, rfl⟩
abbrev main_c_89 : Ref sig .tc := ⟨.hbm, 863, rfl⟩
abbrev main_v575 : Ref sig .tc := ⟨.hbm, 864, rfl⟩
abbrev main_v576 : Ref sig .tc := ⟨.hbm, 865, rfl⟩
abbrev main_c_90 : Ref sig .tc := ⟨.hbm, 866, rfl⟩
abbrev main_v577 : Ref sig .tc := ⟨.hbm, 867, rfl⟩
abbrev main_v578 : Ref sig .tc := ⟨.hbm, 868, rfl⟩
abbrev main_v579 : Ref sig .tc := ⟨.hbm, 869, rfl⟩
abbrev main_v580 : Ref sig .tc := ⟨.hbm, 870, rfl⟩
abbrev main_v581 : Ref sig .tc := ⟨.hbm, 871, rfl⟩
abbrev main_v582 : Ref sig .tc := ⟨.hbm, 872, rfl⟩
abbrev main_c_91 : Ref sig .tc := ⟨.hbm, 873, rfl⟩
abbrev main_v583 : Ref sig .tc := ⟨.hbm, 874, rfl⟩
abbrev main_v584 : Ref sig .tc := ⟨.hbm, 875, rfl⟩
abbrev main_c_92 : Ref sig .tc := ⟨.hbm, 876, rfl⟩
abbrev main_v585 : Ref sig .tc := ⟨.hbm, 877, rfl⟩
abbrev main_v586 : Ref sig .tc := ⟨.hbm, 878, rfl⟩
abbrev main_v587 : Ref sig .tc := ⟨.hbm, 879, rfl⟩
abbrev main_v588 : Ref sig .tc := ⟨.hbm, 880, rfl⟩
abbrev main_v589 : Ref sig .tc := ⟨.hbm, 881, rfl⟩
abbrev main_v590 : Ref sig .tc := ⟨.hbm, 882, rfl⟩
abbrev main_cst_93 : Ref sig .tc := ⟨.hbm, 883, rfl⟩
abbrev main_v591 : Ref sig .tc := ⟨.hbm, 884, rfl⟩
abbrev main_v592 : Ref sig .tc := ⟨.hbm, 885, rfl⟩
abbrev main_v593 : Ref sig .tc := ⟨.hbm, 886, rfl⟩
abbrev main_v594 : Ref sig .tc := ⟨.hbm, 887, rfl⟩
abbrev main_v595 : Ref sig .tc := ⟨.hbm, 888, rfl⟩
abbrev main_v596 : Ref sig .tc := ⟨.hbm, 889, rfl⟩
abbrev main_v597 : Ref sig .tc := ⟨.hbm, 890, rfl⟩
abbrev main_v598 : Ref sig .tc := ⟨.hbm, 891, rfl⟩
abbrev main_v599 : Ref sig .tc := ⟨.hbm, 892, rfl⟩
abbrev main_v600 : Ref sig .tc := ⟨.hbm, 893, rfl⟩
abbrev main_v601 : Ref sig .tc := ⟨.hbm, 894, rfl⟩
abbrev main_v602 : Ref sig .tc := ⟨.hbm, 895, rfl⟩
abbrev main_v603 : Ref sig .tc := ⟨.hbm, 896, rfl⟩
abbrev main_v604 : Ref sig .tc := ⟨.hbm, 897, rfl⟩
abbrev main_v605 : Ref sig .tc := ⟨.hbm, 898, rfl⟩
abbrev main_call20_cst : Ref sig .tc := ⟨.hbm, 899, rfl⟩
abbrev main_call20_v0 : Ref sig .tc := ⟨.hbm, 900, rfl⟩
abbrev main_v606 : Ref sig .tc := ⟨.hbm, 901, rfl⟩
abbrev main_v607 : Ref sig .tc := ⟨.hbm, 902, rfl⟩
abbrev main_v608 : Ref sig .tc := ⟨.hbm, 903, rfl⟩
abbrev main_v609 : Ref sig .tc := ⟨.hbm, 904, rfl⟩
abbrev main_v610 : Ref sig .tc := ⟨.hbm, 905, rfl⟩
abbrev main_cst_94 : Ref sig .tc := ⟨.hbm, 906, rfl⟩
abbrev main_v611 : Ref sig .tc := ⟨.hbm, 907, rfl⟩
abbrev main_cst_95 : Ref sig .tc := ⟨.hbm, 908, rfl⟩
abbrev main_v612 : Ref sig .tc := ⟨.hbm, 909, rfl⟩
abbrev main_v613 : Ref sig .tc := ⟨.hbm, 910, rfl⟩
abbrev main_c_96 : Ref sig .tc := ⟨.hbm, 911, rfl⟩
abbrev main_call21_cst : Ref sig .tc := ⟨.hbm, 912, rfl⟩
abbrev main_call21_v0 : Ref sig .tc := ⟨.hbm, 913, rfl⟩
abbrev main_call21_v1 : Ref sig .tc := ⟨.hbm, 914, rfl⟩
abbrev main_call21_cst_0 : Ref sig .tc := ⟨.hbm, 915, rfl⟩
abbrev main_call21_v2 : Ref sig .tc := ⟨.hbm, 916, rfl⟩
abbrev main_call21_v3 : Ref sig .tc := ⟨.hbm, 917, rfl⟩
abbrev main_call21_v4 : Ref sig .tc := ⟨.hbm, 918, rfl⟩
abbrev main_call21_v5 : Ref sig .tc := ⟨.hbm, 919, rfl⟩
abbrev main_call21_v6 : Ref sig .tc := ⟨.hbm, 920, rfl⟩
abbrev main_call21_v7 : Ref sig .tc := ⟨.hbm, 921, rfl⟩
abbrev main_call21_cst_1 : Ref sig .tc := ⟨.hbm, 922, rfl⟩
abbrev main_call21_v8 : Ref sig .tc := ⟨.hbm, 923, rfl⟩
abbrev main_call21_cst_2 : Ref sig .tc := ⟨.hbm, 924, rfl⟩
abbrev main_call21_v9 : Ref sig .tc := ⟨.hbm, 925, rfl⟩
abbrev main_call21_v10 : Ref sig .tc := ⟨.hbm, 926, rfl⟩
abbrev main_call21_v11 : Ref sig .tc := ⟨.hbm, 927, rfl⟩
abbrev main_call21_cst_3 : Ref sig .tc := ⟨.hbm, 928, rfl⟩
abbrev main_call21_v12 : Ref sig .tc := ⟨.hbm, 929, rfl⟩
abbrev main_call21_cst_4 : Ref sig .tc := ⟨.hbm, 930, rfl⟩
abbrev main_call21_call0_v0 : Ref sig .tc := ⟨.hbm, 931, rfl⟩
abbrev main_call21_call0_v1 : Ref sig .tc := ⟨.hbm, 932, rfl⟩
abbrev main_v614 : Ref sig .tc := ⟨.hbm, 933, rfl⟩
abbrev main_v615 : Ref sig .tc := ⟨.hbm, 934, rfl⟩
abbrev main_v616 : Ref sig .tc := ⟨.hbm, 935, rfl⟩
abbrev main_v617 : Ref sig .tc := ⟨.hbm, 936, rfl⟩
abbrev main_cst_97 : Ref sig .tc := ⟨.hbm, 937, rfl⟩
abbrev main_v618 : Ref sig .tc := ⟨.hbm, 938, rfl⟩
abbrev main_v619 : Ref sig .tc := ⟨.hbm, 939, rfl⟩
abbrev main_v620 : Ref sig .tc := ⟨.hbm, 940, rfl⟩
abbrev main_v621 : Ref sig .tc := ⟨.hbm, 941, rfl⟩
abbrev main_v622 : Ref sig .tc := ⟨.hbm, 942, rfl⟩
abbrev main_v623 : Ref sig .tc := ⟨.hbm, 943, rfl⟩
abbrev main_v624 : Ref sig .tc := ⟨.hbm, 944, rfl⟩
abbrev main_v625 : Ref sig .tc := ⟨.hbm, 945, rfl⟩
abbrev main_v626 : Ref sig .tc := ⟨.hbm, 946, rfl⟩
abbrev main_v627 : Ref sig .tc := ⟨.hbm, 947, rfl⟩
abbrev main_v628 : Ref sig .tc := ⟨.hbm, 948, rfl⟩
abbrev main_v629 : Ref sig .tc := ⟨.hbm, 949, rfl⟩
abbrev main_v630 : Ref sig .tc := ⟨.hbm, 950, rfl⟩
abbrev main_v631 : Ref sig .tc := ⟨.hbm, 951, rfl⟩
abbrev main_v632 : Ref sig .tc := ⟨.hbm, 952, rfl⟩
abbrev main_v633 : Ref sig .tc := ⟨.hbm, 953, rfl⟩
abbrev main_call22_cst : Ref sig .tc := ⟨.hbm, 954, rfl⟩
abbrev main_call22_v0 : Ref sig .tc := ⟨.hbm, 955, rfl⟩
abbrev main_v634 : Ref sig .tc := ⟨.hbm, 956, rfl⟩
abbrev main_v635 : Ref sig .tc := ⟨.hbm, 957, rfl⟩
abbrev main_v636 : Ref sig .tc := ⟨.hbm, 958, rfl⟩
abbrev main_c_98 : Ref sig .tc := ⟨.hbm, 959, rfl⟩
abbrev main_v637 : Ref sig .tc := ⟨.hbm, 960, rfl⟩
abbrev main_v638 : Ref sig .tc := ⟨.hbm, 961, rfl⟩
abbrev main_c_99 : Ref sig .tc := ⟨.hbm, 962, rfl⟩
abbrev main_v639 : Ref sig .tc := ⟨.hbm, 963, rfl⟩
abbrev main_v640 : Ref sig .tc := ⟨.hbm, 964, rfl⟩
abbrev main_v641 : Ref sig .tc := ⟨.hbm, 965, rfl⟩
abbrev main_v642 : Ref sig .tc := ⟨.hbm, 966, rfl⟩
abbrev main_v643 : Ref sig .tc := ⟨.hbm, 967, rfl⟩
abbrev main_v644 : Ref sig .tc := ⟨.hbm, 968, rfl⟩
abbrev main_v645 : Ref sig .tc := ⟨.hbm, 969, rfl⟩
abbrev main_c_100 : Ref sig .tc := ⟨.hbm, 970, rfl⟩
abbrev main_v646 : Ref sig .tc := ⟨.hbm, 971, rfl⟩
abbrev main_v647 : Ref sig .tc := ⟨.hbm, 972, rfl⟩
abbrev main_c_101 : Ref sig .tc := ⟨.hbm, 973, rfl⟩
abbrev main_v648 : Ref sig .tc := ⟨.hbm, 974, rfl⟩
abbrev main_v649 : Ref sig .tc := ⟨.hbm, 975, rfl⟩
abbrev main_v650 : Ref sig .tc := ⟨.hbm, 976, rfl⟩
abbrev main_v651 : Ref sig .tc := ⟨.hbm, 977, rfl⟩
abbrev main_v652 : Ref sig .tc := ⟨.hbm, 978, rfl⟩
abbrev main_v653 : Ref sig .tc := ⟨.hbm, 979, rfl⟩
abbrev main_c_102 : Ref sig .tc := ⟨.hbm, 980, rfl⟩
abbrev main_v654 : Ref sig .tc := ⟨.hbm, 981, rfl⟩
abbrev main_v655 : Ref sig .tc := ⟨.hbm, 982, rfl⟩
abbrev main_c_103 : Ref sig .tc := ⟨.hbm, 983, rfl⟩
abbrev main_v656 : Ref sig .tc := ⟨.hbm, 984, rfl⟩
abbrev main_v657 : Ref sig .tc := ⟨.hbm, 985, rfl⟩
abbrev main_v658 : Ref sig .tc := ⟨.hbm, 986, rfl⟩
abbrev main_v659 : Ref sig .tc := ⟨.hbm, 987, rfl⟩
abbrev main_v660 : Ref sig .tc := ⟨.hbm, 988, rfl⟩
abbrev main_v661 : Ref sig .tc := ⟨.hbm, 989, rfl⟩
abbrev main_cst_104 : Ref sig .tc := ⟨.hbm, 990, rfl⟩
abbrev main_v662 : Ref sig .tc := ⟨.hbm, 991, rfl⟩
abbrev main_v663 : Ref sig .tc := ⟨.hbm, 992, rfl⟩
abbrev main_v664 : Ref sig .tc := ⟨.hbm, 993, rfl⟩
abbrev main_v665 : Ref sig .tc := ⟨.hbm, 994, rfl⟩
abbrev main_v666 : Ref sig .tc := ⟨.hbm, 995, rfl⟩
abbrev main_v667 : Ref sig .tc := ⟨.hbm, 996, rfl⟩
abbrev main_v668 : Ref sig .tc := ⟨.hbm, 997, rfl⟩
abbrev main_v669 : Ref sig .tc := ⟨.hbm, 998, rfl⟩
abbrev main_v670 : Ref sig .tc := ⟨.hbm, 999, rfl⟩
abbrev main_v671 : Ref sig .tc := ⟨.hbm, 1000, rfl⟩
abbrev main_v672 : Ref sig .tc := ⟨.hbm, 1001, rfl⟩
abbrev main_v673 : Ref sig .tc := ⟨.hbm, 1002, rfl⟩
abbrev main_v674 : Ref sig .tc := ⟨.hbm, 1003, rfl⟩
abbrev main_v675 : Ref sig .tc := ⟨.hbm, 1004, rfl⟩
abbrev main_v676 : Ref sig .tc := ⟨.hbm, 1005, rfl⟩
abbrev main_call23_cst : Ref sig .tc := ⟨.hbm, 1006, rfl⟩
abbrev main_call23_v0 : Ref sig .tc := ⟨.hbm, 1007, rfl⟩
abbrev main_v677 : Ref sig .tc := ⟨.hbm, 1008, rfl⟩
abbrev main_v678 : Ref sig .tc := ⟨.hbm, 1009, rfl⟩
abbrev main_v679 : Ref sig .tc := ⟨.hbm, 1010, rfl⟩
abbrev main_v680 : Ref sig .tc := ⟨.hbm, 1011, rfl⟩
abbrev main_v681 : Ref sig .tc := ⟨.hbm, 1012, rfl⟩
abbrev main_cst_105 : Ref sig .tc := ⟨.hbm, 1013, rfl⟩
abbrev main_v682 : Ref sig .tc := ⟨.hbm, 1014, rfl⟩
abbrev main_cst_106 : Ref sig .tc := ⟨.hbm, 1015, rfl⟩
abbrev main_v683 : Ref sig .tc := ⟨.hbm, 1016, rfl⟩
abbrev main_v684 : Ref sig .tc := ⟨.hbm, 1017, rfl⟩
abbrev main_c_107 : Ref sig .tc := ⟨.hbm, 1018, rfl⟩
abbrev main_call24_cst : Ref sig .tc := ⟨.hbm, 1019, rfl⟩
abbrev main_call24_v0 : Ref sig .tc := ⟨.hbm, 1020, rfl⟩
abbrev main_call24_v1 : Ref sig .tc := ⟨.hbm, 1021, rfl⟩
abbrev main_call24_cst_0 : Ref sig .tc := ⟨.hbm, 1022, rfl⟩
abbrev main_call24_v2 : Ref sig .tc := ⟨.hbm, 1023, rfl⟩
abbrev main_call24_v3 : Ref sig .tc := ⟨.hbm, 1024, rfl⟩
abbrev main_call24_v4 : Ref sig .tc := ⟨.hbm, 1025, rfl⟩
abbrev main_call24_v5 : Ref sig .tc := ⟨.hbm, 1026, rfl⟩
abbrev main_call24_v6 : Ref sig .tc := ⟨.hbm, 1027, rfl⟩
abbrev main_call24_v7 : Ref sig .tc := ⟨.hbm, 1028, rfl⟩
abbrev main_call24_cst_1 : Ref sig .tc := ⟨.hbm, 1029, rfl⟩
abbrev main_call24_v8 : Ref sig .tc := ⟨.hbm, 1030, rfl⟩
abbrev main_call24_cst_2 : Ref sig .tc := ⟨.hbm, 1031, rfl⟩
abbrev main_call24_v9 : Ref sig .tc := ⟨.hbm, 1032, rfl⟩
abbrev main_call24_v10 : Ref sig .tc := ⟨.hbm, 1033, rfl⟩
abbrev main_call24_v11 : Ref sig .tc := ⟨.hbm, 1034, rfl⟩
abbrev main_call24_cst_3 : Ref sig .tc := ⟨.hbm, 1035, rfl⟩
abbrev main_call24_v12 : Ref sig .tc := ⟨.hbm, 1036, rfl⟩
abbrev main_call24_cst_4 : Ref sig .tc := ⟨.hbm, 1037, rfl⟩
abbrev main_call24_call0_v0 : Ref sig .tc := ⟨.hbm, 1038, rfl⟩
abbrev main_call24_call0_v1 : Ref sig .tc := ⟨.hbm, 1039, rfl⟩
abbrev main_v685 : Ref sig .tc := ⟨.hbm, 1040, rfl⟩
abbrev main_v686 : Ref sig .tc := ⟨.hbm, 1041, rfl⟩
abbrev main_v687 : Ref sig .tc := ⟨.hbm, 1042, rfl⟩
abbrev main_v688 : Ref sig .tc := ⟨.hbm, 1043, rfl⟩
abbrev main_cst_108 : Ref sig .tc := ⟨.hbm, 1044, rfl⟩
abbrev main_v689 : Ref sig .tc := ⟨.hbm, 1045, rfl⟩
abbrev main_v690 : Ref sig .tc := ⟨.hbm, 1046, rfl⟩
abbrev main_v691 : Ref sig .tc := ⟨.hbm, 1047, rfl⟩
abbrev main_v692 : Ref sig .tc := ⟨.hbm, 1048, rfl⟩
abbrev main_v693 : Ref sig .tc := ⟨.hbm, 1049, rfl⟩
abbrev main_v694 : Ref sig .tc := ⟨.hbm, 1050, rfl⟩
abbrev main_v695 : Ref sig .tc := ⟨.hbm, 1051, rfl⟩
abbrev main_v696 : Ref sig .tc := ⟨.hbm, 1052, rfl⟩
abbrev main_v697 : Ref sig .tc := ⟨.hbm, 1053, rfl⟩
abbrev main_v698 : Ref sig .tc := ⟨.hbm, 1054, rfl⟩
abbrev main_v699 : Ref sig .tc := ⟨.hbm, 1055, rfl⟩
abbrev main_v700 : Ref sig .tc := ⟨.hbm, 1056, rfl⟩
abbrev main_v701 : Ref sig .tc := ⟨.hbm, 1057, rfl⟩
abbrev main_v702 : Ref sig .tc := ⟨.hbm, 1058, rfl⟩
abbrev main_v703 : Ref sig .tc := ⟨.hbm, 1059, rfl⟩
abbrev main_v704 : Ref sig .tc := ⟨.hbm, 1060, rfl⟩
abbrev main_call25_cst : Ref sig .tc := ⟨.hbm, 1061, rfl⟩
abbrev main_call25_v0 : Ref sig .tc := ⟨.hbm, 1062, rfl⟩
abbrev main_v705 : Ref sig .tc := ⟨.hbm, 1063, rfl⟩
abbrev main_v706 : Ref sig .tc := ⟨.hbm, 1064, rfl⟩
abbrev main_v707 : Ref sig .tc := ⟨.hbm, 1065, rfl⟩
abbrev main_c_109 : Ref sig .tc := ⟨.hbm, 1066, rfl⟩
abbrev main_v708 : Ref sig .tc := ⟨.hbm, 1067, rfl⟩
abbrev main_v709 : Ref sig .tc := ⟨.hbm, 1068, rfl⟩
abbrev main_c_110 : Ref sig .tc := ⟨.hbm, 1069, rfl⟩
abbrev main_v710 : Ref sig .tc := ⟨.hbm, 1070, rfl⟩
abbrev main_v711 : Ref sig .tc := ⟨.hbm, 1071, rfl⟩
abbrev main_v712 : Ref sig .tc := ⟨.hbm, 1072, rfl⟩
abbrev main_v713 : Ref sig .tc := ⟨.hbm, 1073, rfl⟩
abbrev main_v714 : Ref sig .tc := ⟨.hbm, 1074, rfl⟩
abbrev main_v715 : Ref sig .tc := ⟨.hbm, 1075, rfl⟩
abbrev main_v716 : Ref sig .tc := ⟨.hbm, 1076, rfl⟩
abbrev main_c_111 : Ref sig .tc := ⟨.hbm, 1077, rfl⟩
abbrev main_v717 : Ref sig .tc := ⟨.hbm, 1078, rfl⟩
abbrev main_v718 : Ref sig .tc := ⟨.hbm, 1079, rfl⟩
abbrev main_c_112 : Ref sig .tc := ⟨.hbm, 1080, rfl⟩
abbrev main_v719 : Ref sig .tc := ⟨.hbm, 1081, rfl⟩
abbrev main_v720 : Ref sig .tc := ⟨.hbm, 1082, rfl⟩
abbrev main_v721 : Ref sig .tc := ⟨.hbm, 1083, rfl⟩
abbrev main_v722 : Ref sig .tc := ⟨.hbm, 1084, rfl⟩
abbrev main_v723 : Ref sig .tc := ⟨.hbm, 1085, rfl⟩
abbrev main_v724 : Ref sig .tc := ⟨.hbm, 1086, rfl⟩
abbrev main_c_113 : Ref sig .tc := ⟨.hbm, 1087, rfl⟩
abbrev main_v725 : Ref sig .tc := ⟨.hbm, 1088, rfl⟩
abbrev main_v726 : Ref sig .tc := ⟨.hbm, 1089, rfl⟩
abbrev main_c_114 : Ref sig .tc := ⟨.hbm, 1090, rfl⟩
abbrev main_v727 : Ref sig .tc := ⟨.hbm, 1091, rfl⟩
abbrev main_v728 : Ref sig .tc := ⟨.hbm, 1092, rfl⟩
abbrev main_v729 : Ref sig .tc := ⟨.hbm, 1093, rfl⟩
abbrev main_v730 : Ref sig .tc := ⟨.hbm, 1094, rfl⟩
abbrev main_v731 : Ref sig .tc := ⟨.hbm, 1095, rfl⟩
abbrev main_v732 : Ref sig .tc := ⟨.hbm, 1096, rfl⟩
abbrev main_cst_115 : Ref sig .tc := ⟨.hbm, 1097, rfl⟩
abbrev main_v733 : Ref sig .tc := ⟨.hbm, 1098, rfl⟩
abbrev main_v734 : Ref sig .tc := ⟨.hbm, 1099, rfl⟩
abbrev main_v735 : Ref sig .tc := ⟨.hbm, 1100, rfl⟩
abbrev main_v736 : Ref sig .tc := ⟨.hbm, 1101, rfl⟩
abbrev main_v737 : Ref sig .tc := ⟨.hbm, 1102, rfl⟩
abbrev main_v738 : Ref sig .tc := ⟨.hbm, 1103, rfl⟩
abbrev main_v739 : Ref sig .tc := ⟨.hbm, 1104, rfl⟩
abbrev main_v740 : Ref sig .tc := ⟨.hbm, 1105, rfl⟩
abbrev main_v741 : Ref sig .tc := ⟨.hbm, 1106, rfl⟩
abbrev main_v742 : Ref sig .tc := ⟨.hbm, 1107, rfl⟩
abbrev main_v743 : Ref sig .tc := ⟨.hbm, 1108, rfl⟩
abbrev main_v744 : Ref sig .tc := ⟨.hbm, 1109, rfl⟩
abbrev main_v745 : Ref sig .tc := ⟨.hbm, 1110, rfl⟩
abbrev main_v746 : Ref sig .tc := ⟨.hbm, 1111, rfl⟩
abbrev main_v747 : Ref sig .tc := ⟨.hbm, 1112, rfl⟩
abbrev main_call26_cst : Ref sig .tc := ⟨.hbm, 1113, rfl⟩
abbrev main_call26_v0 : Ref sig .tc := ⟨.hbm, 1114, rfl⟩
abbrev main_v748 : Ref sig .tc := ⟨.hbm, 1115, rfl⟩
abbrev main_v749 : Ref sig .tc := ⟨.hbm, 1116, rfl⟩
abbrev main_v750 : Ref sig .tc := ⟨.hbm, 1117, rfl⟩
abbrev main_v751 : Ref sig .tc := ⟨.hbm, 1118, rfl⟩
abbrev main_v752 : Ref sig .tc := ⟨.hbm, 1119, rfl⟩
abbrev main_cst_116 : Ref sig .tc := ⟨.hbm, 1120, rfl⟩
abbrev main_v753 : Ref sig .tc := ⟨.hbm, 1121, rfl⟩
abbrev main_cst_117 : Ref sig .tc := ⟨.hbm, 1122, rfl⟩
abbrev main_v754 : Ref sig .tc := ⟨.hbm, 1123, rfl⟩
abbrev main_v755 : Ref sig .tc := ⟨.hbm, 1124, rfl⟩
abbrev main_c_118 : Ref sig .tc := ⟨.hbm, 1125, rfl⟩
abbrev main_call27_cst : Ref sig .tc := ⟨.hbm, 1126, rfl⟩
abbrev main_call27_v0 : Ref sig .tc := ⟨.hbm, 1127, rfl⟩
abbrev main_call27_v1 : Ref sig .tc := ⟨.hbm, 1128, rfl⟩
abbrev main_call27_cst_0 : Ref sig .tc := ⟨.hbm, 1129, rfl⟩
abbrev main_call27_v2 : Ref sig .tc := ⟨.hbm, 1130, rfl⟩
abbrev main_call27_v3 : Ref sig .tc := ⟨.hbm, 1131, rfl⟩
abbrev main_call27_v4 : Ref sig .tc := ⟨.hbm, 1132, rfl⟩
abbrev main_call27_v5 : Ref sig .tc := ⟨.hbm, 1133, rfl⟩
abbrev main_call27_v6 : Ref sig .tc := ⟨.hbm, 1134, rfl⟩
abbrev main_call27_v7 : Ref sig .tc := ⟨.hbm, 1135, rfl⟩
abbrev main_call27_cst_1 : Ref sig .tc := ⟨.hbm, 1136, rfl⟩
abbrev main_call27_v8 : Ref sig .tc := ⟨.hbm, 1137, rfl⟩
abbrev main_call27_cst_2 : Ref sig .tc := ⟨.hbm, 1138, rfl⟩
abbrev main_call27_v9 : Ref sig .tc := ⟨.hbm, 1139, rfl⟩
abbrev main_call27_v10 : Ref sig .tc := ⟨.hbm, 1140, rfl⟩
abbrev main_call27_v11 : Ref sig .tc := ⟨.hbm, 1141, rfl⟩
abbrev main_call27_cst_3 : Ref sig .tc := ⟨.hbm, 1142, rfl⟩
abbrev main_call27_v12 : Ref sig .tc := ⟨.hbm, 1143, rfl⟩
abbrev main_call27_cst_4 : Ref sig .tc := ⟨.hbm, 1144, rfl⟩
abbrev main_call27_call0_v0 : Ref sig .tc := ⟨.hbm, 1145, rfl⟩
abbrev main_call27_call0_v1 : Ref sig .tc := ⟨.hbm, 1146, rfl⟩
abbrev main_v756 : Ref sig .tc := ⟨.hbm, 1147, rfl⟩
abbrev main_v757 : Ref sig .tc := ⟨.hbm, 1148, rfl⟩
abbrev main_v758 : Ref sig .tc := ⟨.hbm, 1149, rfl⟩
abbrev main_v759 : Ref sig .tc := ⟨.hbm, 1150, rfl⟩
abbrev main_cst_119 : Ref sig .tc := ⟨.hbm, 1151, rfl⟩
abbrev main_v760 : Ref sig .tc := ⟨.hbm, 1152, rfl⟩
abbrev main_v761 : Ref sig .tc := ⟨.hbm, 1153, rfl⟩
abbrev main_v762 : Ref sig .tc := ⟨.hbm, 1154, rfl⟩
abbrev main_v763 : Ref sig .tc := ⟨.hbm, 1155, rfl⟩
abbrev main_v764 : Ref sig .tc := ⟨.hbm, 1156, rfl⟩
abbrev main_v765 : Ref sig .tc := ⟨.hbm, 1157, rfl⟩
abbrev main_v766 : Ref sig .tc := ⟨.hbm, 1158, rfl⟩
abbrev main_v767 : Ref sig .tc := ⟨.hbm, 1159, rfl⟩
abbrev main_v768 : Ref sig .tc := ⟨.hbm, 1160, rfl⟩
abbrev main_v769 : Ref sig .tc := ⟨.hbm, 1161, rfl⟩
abbrev main_v770 : Ref sig .tc := ⟨.hbm, 1162, rfl⟩
abbrev main_v771 : Ref sig .tc := ⟨.hbm, 1163, rfl⟩
abbrev main_v772 : Ref sig .tc := ⟨.hbm, 1164, rfl⟩
abbrev main_v773 : Ref sig .tc := ⟨.hbm, 1165, rfl⟩
abbrev main_v774 : Ref sig .tc := ⟨.hbm, 1166, rfl⟩
abbrev main_v775 : Ref sig .tc := ⟨.hbm, 1167, rfl⟩
abbrev main_cst_120 : Ref sig .tc := ⟨.hbm, 1168, rfl⟩
abbrev main_v776 : Ref sig .tc := ⟨.hbm, 1169, rfl⟩
abbrev main_v777 : Ref sig .tc := ⟨.hbm, 1170, rfl⟩
abbrev main_v778 : Ref sig .tc := ⟨.hbm, 1171, rfl⟩
abbrev main_cst_121 : Ref sig .tc := ⟨.hbm, 1172, rfl⟩
abbrev main_v779 : Ref sig .tc := ⟨.hbm, 1173, rfl⟩
abbrev main_cst_122 : Ref sig .tc := ⟨.hbm, 1174, rfl⟩
abbrev main_v780 : Ref sig .tc := ⟨.hbm, 1175, rfl⟩
abbrev main_v781 : Ref sig .tc := ⟨.hbm, 1176, rfl⟩
abbrev main_v782 : Ref sig .tc := ⟨.hbm, 1177, rfl⟩
abbrev main_cst_123 : Ref sig .tc := ⟨.hbm, 1178, rfl⟩
abbrev main_call28_v0 : Ref sig .tc := ⟨.hbm, 1179, rfl⟩
abbrev main_call28_v1 : Ref sig .tc := ⟨.hbm, 1180, rfl⟩
abbrev main_v783 : Ref sig .tc := ⟨.hbm, 1181, rfl⟩
abbrev main_v784 : Ref sig .tc := ⟨.hbm, 1182, rfl⟩
abbrev main_v785 : Ref sig .tc := ⟨.hbm, 1183, rfl⟩
abbrev main_v786 : Ref sig .tc := ⟨.hbm, 1184, rfl⟩
abbrev main_v787 : Ref sig .tc := ⟨.hbm, 1185, rfl⟩
abbrev main_v788 : Ref sig .tc := ⟨.hbm, 1186, rfl⟩
abbrev main_v789 : Ref sig .tc := ⟨.hbm, 1187, rfl⟩
abbrev main_v790 : Ref sig .tc := ⟨.hbm, 1188, rfl⟩
abbrev main_v791 : Ref sig .tc := ⟨.hbm, 1189, rfl⟩
abbrev main_v792 : Ref sig .tc := ⟨.hbm, 1190, rfl⟩
abbrev main_v793 : Ref sig .tc := ⟨.hbm, 1191, rfl⟩
abbrev main_v794 : Ref sig .tc := ⟨.hbm, 1192, rfl⟩
abbrev main_v795 : Ref sig .tc := ⟨.hbm, 1193, rfl⟩
abbrev main_v796 : Ref sig .tc := ⟨.hbm, 1194, rfl⟩
abbrev main_v797 : Ref sig .tc := ⟨.hbm, 1195, rfl⟩
abbrev main_call29_cst : Ref sig .tc := ⟨.hbm, 1196, rfl⟩
abbrev main_call29_v0 : Ref sig .tc := ⟨.hbm, 1197, rfl⟩
abbrev main_v798 : Ref sig .tc := ⟨.hbm, 1198, rfl⟩
abbrev main_v799 : Ref sig .tc := ⟨.hbm, 1199, rfl⟩
abbrev main_v800 : Ref sig .tc := ⟨.hbm, 1200, rfl⟩
abbrev main_v801 : Ref sig .tc := ⟨.hbm, 1201, rfl⟩
abbrev main_v802 : Ref sig .tc := ⟨.hbm, 1202, rfl⟩
abbrev main_c_124 : Ref sig .tc := ⟨.hbm, 1203, rfl⟩
abbrev main_v803 : Ref sig .tc := ⟨.hbm, 1204, rfl⟩
abbrev main_v804 : Ref sig .tc := ⟨.hbm, 1205, rfl⟩
abbrev main_c_125 : Ref sig .tc := ⟨.hbm, 1206, rfl⟩
abbrev main_v805 : Ref sig .tc := ⟨.hbm, 1207, rfl⟩
abbrev main_v806 : Ref sig .tc := ⟨.hbm, 1208, rfl⟩
abbrev main_v807 : Ref sig .tc := ⟨.hbm, 1209, rfl⟩
abbrev main_v808 : Ref sig .tc := ⟨.hbm, 1210, rfl⟩
abbrev main_v809 : Ref sig .tc := ⟨.hbm, 1211, rfl⟩
abbrev main_v810 : Ref sig .tc := ⟨.hbm, 1212, rfl⟩
abbrev main_v811 : Ref sig .tc := ⟨.hbm, 1213, rfl⟩
abbrev main_v812 : Ref sig .tc := ⟨.hbm, 1214, rfl⟩
abbrev main_v813 : Ref sig .tc := ⟨.hbm, 1215, rfl⟩
abbrev main_v814 : Ref sig .tc := ⟨.hbm, 1216, rfl⟩
abbrev main_v815 : Ref sig .tc := ⟨.hbm, 1217, rfl⟩
abbrev main_v816 : Ref sig .tc := ⟨.hbm, 1218, rfl⟩
abbrev main_v817 : Ref sig .tc := ⟨.hbm, 1219, rfl⟩
abbrev main_v818 : Ref sig .tc := ⟨.hbm, 1220, rfl⟩
abbrev main_v819 : Ref sig .tc := ⟨.hbm, 1221, rfl⟩
abbrev main_v820 : Ref sig .tc := ⟨.hbm, 1222, rfl⟩
abbrev main_v821 : Ref sig .tc := ⟨.hbm, 1223, rfl⟩
abbrev main_call30_cst : Ref sig .tc := ⟨.hbm, 1224, rfl⟩
abbrev main_call30_v0 : Ref sig .tc := ⟨.hbm, 1225, rfl⟩
abbrev main_v822 : Ref sig .tc := ⟨.hbm, 1226, rfl⟩
abbrev main_v823 : Ref sig .tc := ⟨.hbm, 1227, rfl⟩
abbrev main_v824 : Ref sig .tc := ⟨.hbm, 1228, rfl⟩
abbrev main_v825 : Ref sig .tc := ⟨.hbm, 1229, rfl⟩
abbrev main_v826 : Ref sig .tc := ⟨.hbm, 1230, rfl⟩
abbrev main_v827 : Ref sig .tc := ⟨.hbm, 1231, rfl⟩
abbrev main_call31_v0 : Ref sig .tc := ⟨.hbm, 1232, rfl⟩
abbrev main_call31_cst : Ref sig .tc := ⟨.hbm, 1233, rfl⟩
abbrev main_call31_v1 : Ref sig .tc := ⟨.hbm, 1234, rfl⟩
abbrev main_call31_v2 : Ref sig .tc := ⟨.hbm, 1235, rfl⟩
abbrev main_v828 : Ref sig .tc := ⟨.hbm, 1236, rfl⟩
abbrev main_v829 : Ref sig .tc := ⟨.hbm, 1237, rfl⟩
abbrev main_v830 : Ref sig .tc := ⟨.hbm, 1238, rfl⟩
abbrev main_cst_126 : Ref sig .tc := ⟨.hbm, 1239, rfl⟩
abbrev main_v831 : Ref sig .tc := ⟨.hbm, 1240, rfl⟩
abbrev main_v832 : Ref sig .tc := ⟨.hbm, 1241, rfl⟩
abbrev main_v833 : Ref sig .tc := ⟨.hbm, 1242, rfl⟩
abbrev main_cst_127 : Ref sig .tc := ⟨.hbm, 1243, rfl⟩
abbrev main_v834 : Ref sig .tc := ⟨.hbm, 1244, rfl⟩
abbrev main_cst_128 : Ref sig .tc := ⟨.hbm, 1245, rfl⟩
abbrev main_v835 : Ref sig .tc := ⟨.hbm, 1246, rfl⟩
abbrev main_v836 : Ref sig .tc := ⟨.hbm, 1247, rfl⟩
abbrev main_v837 : Ref sig .tc := ⟨.hbm, 1248, rfl⟩
abbrev main_cst_129 : Ref sig .tc := ⟨.hbm, 1249, rfl⟩
abbrev main_call32_v0 : Ref sig .tc := ⟨.hbm, 1250, rfl⟩
abbrev main_call32_v1 : Ref sig .tc := ⟨.hbm, 1251, rfl⟩
abbrev main_v838 : Ref sig .tc := ⟨.hbm, 1252, rfl⟩
abbrev main_v839 : Ref sig .tc := ⟨.hbm, 1253, rfl⟩
abbrev main_v840 : Ref sig .tc := ⟨.hbm, 1254, rfl⟩
abbrev main_v841 : Ref sig .tc := ⟨.hbm, 1255, rfl⟩
abbrev main_v842 : Ref sig .tc := ⟨.hbm, 1256, rfl⟩
abbrev main_v843 : Ref sig .tc := ⟨.hbm, 1257, rfl⟩
abbrev main_v844 : Ref sig .tc := ⟨.hbm, 1258, rfl⟩
abbrev main_v845 : Ref sig .tc := ⟨.hbm, 1259, rfl⟩
abbrev main_v846 : Ref sig .tc := ⟨.hbm, 1260, rfl⟩
abbrev main_v847 : Ref sig .tc := ⟨.hbm, 1261, rfl⟩
abbrev main_v848 : Ref sig .tc := ⟨.hbm, 1262, rfl⟩
abbrev main_v849 : Ref sig .tc := ⟨.hbm, 1263, rfl⟩
abbrev main_v850 : Ref sig .tc := ⟨.hbm, 1264, rfl⟩
abbrev main_v851 : Ref sig .tc := ⟨.hbm, 1265, rfl⟩
abbrev main_v852 : Ref sig .tc := ⟨.hbm, 1266, rfl⟩
abbrev main_call33_cst : Ref sig .tc := ⟨.hbm, 1267, rfl⟩
abbrev main_call33_v0 : Ref sig .tc := ⟨.hbm, 1268, rfl⟩
abbrev main_v853 : Ref sig .tc := ⟨.hbm, 1269, rfl⟩
abbrev main_v854 : Ref sig .tc := ⟨.hbm, 1270, rfl⟩
abbrev main_v855 : Ref sig .tc := ⟨.hbm, 1271, rfl⟩
abbrev main_v856 : Ref sig .tc := ⟨.hbm, 1272, rfl⟩
abbrev main_v857 : Ref sig .tc := ⟨.hbm, 1273, rfl⟩
abbrev main_c_130 : Ref sig .tc := ⟨.hbm, 1274, rfl⟩
abbrev main_v858 : Ref sig .tc := ⟨.hbm, 1275, rfl⟩
abbrev main_v859 : Ref sig .tc := ⟨.hbm, 1276, rfl⟩
abbrev main_c_131 : Ref sig .tc := ⟨.hbm, 1277, rfl⟩
abbrev main_v860 : Ref sig .tc := ⟨.hbm, 1278, rfl⟩
abbrev main_v861 : Ref sig .tc := ⟨.hbm, 1279, rfl⟩
abbrev main_v862 : Ref sig .tc := ⟨.hbm, 1280, rfl⟩
abbrev main_v863 : Ref sig .tc := ⟨.hbm, 1281, rfl⟩
abbrev main_v864 : Ref sig .tc := ⟨.hbm, 1282, rfl⟩
abbrev main_v865 : Ref sig .tc := ⟨.hbm, 1283, rfl⟩
abbrev main_v866 : Ref sig .tc := ⟨.hbm, 1284, rfl⟩
abbrev main_v867 : Ref sig .tc := ⟨.hbm, 1285, rfl⟩
abbrev main_v868 : Ref sig .tc := ⟨.hbm, 1286, rfl⟩
abbrev main_v869 : Ref sig .tc := ⟨.hbm, 1287, rfl⟩
abbrev main_v870 : Ref sig .tc := ⟨.hbm, 1288, rfl⟩
abbrev main_v871 : Ref sig .tc := ⟨.hbm, 1289, rfl⟩
abbrev main_v872 : Ref sig .tc := ⟨.hbm, 1290, rfl⟩
abbrev main_v873 : Ref sig .tc := ⟨.hbm, 1291, rfl⟩
abbrev main_v874 : Ref sig .tc := ⟨.hbm, 1292, rfl⟩
abbrev main_v875 : Ref sig .tc := ⟨.hbm, 1293, rfl⟩
abbrev main_v876 : Ref sig .tc := ⟨.hbm, 1294, rfl⟩
abbrev main_call34_cst : Ref sig .tc := ⟨.hbm, 1295, rfl⟩
abbrev main_call34_v0 : Ref sig .tc := ⟨.hbm, 1296, rfl⟩
abbrev main_v877 : Ref sig .tc := ⟨.hbm, 1297, rfl⟩
abbrev main_v878 : Ref sig .tc := ⟨.hbm, 1298, rfl⟩
abbrev main_v879 : Ref sig .tc := ⟨.hbm, 1299, rfl⟩
abbrev main_v880 : Ref sig .tc := ⟨.hbm, 1300, rfl⟩
abbrev main_v881 : Ref sig .tc := ⟨.hbm, 1301, rfl⟩
abbrev main_v882 : Ref sig .tc := ⟨.hbm, 1302, rfl⟩
abbrev main_call35_v0 : Ref sig .tc := ⟨.hbm, 1303, rfl⟩
abbrev main_call35_cst : Ref sig .tc := ⟨.hbm, 1304, rfl⟩
abbrev main_call35_v1 : Ref sig .tc := ⟨.hbm, 1305, rfl⟩
abbrev main_call35_v2 : Ref sig .tc := ⟨.hbm, 1306, rfl⟩
abbrev main_v883 : Ref sig .tc := ⟨.hbm, 1307, rfl⟩
abbrev main_v884 : Ref sig .tc := ⟨.hbm, 1308, rfl⟩
abbrev main_v885 : Ref sig .tc := ⟨.hbm, 1309, rfl⟩
abbrev main_v886 : Ref sig .tc := ⟨.hbm, 1310, rfl⟩
abbrev main_v887 : Ref sig .tc := ⟨.hbm, 1311, rfl⟩
abbrev main_cst_132 : Ref sig .tc := ⟨.hbm, 1312, rfl⟩
abbrev main_v888 : Ref sig .tc := ⟨.hbm, 1313, rfl⟩
abbrev main_v889 : Ref sig .tc := ⟨.hbm, 1314, rfl⟩
abbrev main_v890 : Ref sig .tc := ⟨.hbm, 1315, rfl⟩

abbrev nD : Nat := 1
abbrev τ : Topo := Topo.v7x

variable {F : FTy → Type} [FloatOps F]
-- ==== Proof.KernelRun.lean ====
/- The kernel's run, from its segments: every buffer ends with what the fold of the segments says. The launch is the one the
   frame is proved with; only what is read from the final state differs. -/
module

public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, and leaves in every buffer of the TensorCore what the last segment boundary says. -/
theorem final : θ_run defs (onTc (τ := τ) (main (F := F))) ⟨m, fun _ => 0, ρ⟩
    (fun r => ∀ (c : Dev nD), ∀ b ∈ Pipeline.ucRefs τ sig, r.2.mem (((c : Thread nD τ)).1, b) = W83 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W83 m ρ c b)
    (hfin := fun c s' => by
      iintro ⟨⟨Hh, -⟩, HSI⟩
      unfold StableHlo.held
      imodintro
      iapply (pointsTo_read_all (Pipeline.ucRefs τ sig) (fun b => (((c : Thread nD τ)).1, b)) (W83 m ρ c) s')
      isplitl [Hh] <;> iassumption)
    (hQ := fun s h _ => h)

end Cert.KernelIdeal.Value

end
-- ==== Proof.Lockstep.lean ====
/- Two straight lines of host operations run side by side: when their operations match one for one (same function, read
   from and written to corresponding buffers), corresponding buffers stay equal. The correspondence is kept as a short
   list of index ranges and checked by computation, once per line. -/
module

public import Idealize.ShloMosaic.Lib.StableHlo.Run

@[expose] public section

noncomputable section

namespace Cert.Lockstep

open Idealize.ShloMosaic Idealize.ShloMosaic.TcCoe Idealize.ShloMosaic.StableHlo

variable {τ τ' : Topo} {sig sig' : RefSig} {Val : EltTy → Type}

/-! ## Corresponding buffers -/

/-- Buffer `x` of the first program and buffer `x'` of the second have the same type and hold the same contents. -/
def Same (V : Valuation τ sig Val) (V' : Valuation τ' sig' Val) (x : Ref sig .tc) (x' : Ref sig' .tc) : Prop :=
  x.ty = x'.ty ∧ HEq (V (Proc.devRef .tc x)) (V' (Proc.devRef .tc x'))

/-- A run of corresponding indices: index `lo + k` below `hi` of the first program is index `lo' + k` of the second. -/
structure Rng where
  /-- First index, in the first program. -/
  lo : Nat
  /-- One past the last index, in the first program. -/
  hi : Nat
  /-- First index, in the second program. -/
  lo' : Nat
deriving DecidableEq

/-- Indices `i` and `i'` correspond by one of the runs. -/
def covers (rs : List Rng) (i i' : Nat) : Bool :=
  rs.any fun r => Nat.ble r.lo i && (Nat.blt i r.hi && Nat.beq i' (r.lo' + (i - r.lo)))

/-- Every index of every run lies below `y` in the first program and below `y'` in the second. -/
def below (rs : List Rng) (y y' : Nat) : Bool :=
  rs.all fun r => Nat.ble r.hi y && Nat.ble (r.lo' + (r.hi - r.lo)) y'

/-- The runs with the pair of indices `y`, `y'` added: the last run one longer if the pair continues it, else a new run. -/
def push (rs : List Rng) (y y' : Nat) : List Rng :=
  match rs with
  | [] => [⟨y, y + 1, y'⟩]
  | r :: t => bif Nat.ble r.lo r.hi && (Nat.beq y r.hi && Nat.beq y' (r.lo' + (r.hi - r.lo))) then ⟨r.lo, y + 1, r.lo'⟩ :: t
      else ⟨y, y + 1, y'⟩ :: r :: t

/-- All buffers that correspond by the runs are the same. -/
def Agree (rs : List Rng) (V : Valuation τ sig Val) (V' : Valuation τ' sig' Val) : Prop :=
  ∀ (x : Ref sig .tc) (x' : Ref sig' .tc), x.space = .hbm → x'.space = .hbm → covers rs x.idx.val x'.idx.val = true →
    Same V V' x x'

/-- A covered pair lies below whatever bounds the runs. -/
theorem lt_of_covers {rs : List Rng} {i i' y y' : Nat} (hc : covers rs i i' = true) (hb : below rs y y' = true) :
    i < y ∧ i' < y' := by
  obtain ⟨r, hr, h⟩ := List.any_eq_true.mp hc
  have hb := List.all_eq_true.mp hb r hr
  simp only [Bool.and_eq_true, Nat.ble_eq, Nat.blt_eq, Nat.beq_eq] at h hb
  omega

/-- A pair covered after adding one pair was covered before, or is that pair. -/
theorem covers_push {rs : List Rng} {y y' i i' : Nat} (h : covers (push rs y y') i i' = true) :
    covers rs i i' = true ∨ (i = y ∧ i' = y') := by
  unfold push at h
  split at h
  · simp only [covers, List.any_cons, List.any_nil, Bool.or_false, Bool.and_eq_true, Nat.ble_eq, Nat.blt_eq, Nat.beq_eq] at h
    right; omega
  · rename_i r t
    cases hq : (Nat.ble r.lo r.hi && (Nat.beq y r.hi && Nat.beq y' (r.lo' + (r.hi - r.lo)))) with
    | true =>
      rw [hq] at h
      simp only [covers, cond_true, List.any_cons, Bool.or_eq_true, Bool.and_eq_true, Nat.ble_eq, Nat.blt_eq, Nat.beq_eq] at h hq ⊢
      rcases h with h | h
      · by_cases e : i = y
        · right; omega
        · left; left; omega
      · exact .inl (.inr h)
    | false =>
      rw [hq] at h
      simp only [covers, cond_false, List.any_cons, Bool.or_eq_true, Bool.and_eq_true, Nat.ble_eq, Nat.blt_eq, Nat.beq_eq] at h ⊢
      rcases h with h | h
      · right; omega
      · exact .inl h

/-- Two references into the main memory with one index are one reference. -/
theorem ref_eq {x y : Ref sig .tc} (hx : x.space = .hbm) (hy : y.space = .hbm) (h : x.idx.val = y.idx.val) : x = y := by
  obtain ⟨sx, ix, nx⟩ := x
  obtain ⟨sy, iy, ny⟩ := y
  cases hx; cases hy
  obtain rfl : ix = iy := Fin.ext h
  rfl

/-- Agreement after each program has written one new buffer, the two the same: the pair joins the runs, and the older
    pairs are untouched. -/
theorem Agree.push {rs : List Rng} {V W : Valuation τ sig Val} {V' W' : Valuation τ' sig' Val} {y : Ref sig .tc} {y' : Ref sig' .tc}
    (h : Agree rs V V') (hb : below rs y.idx.val y'.idx.val = true) (hy : y.space = .hbm) (hy' : y'.space = .hbm)
    (hW : ∀ x : Ref sig .tc, x.space = .hbm → x.idx.val < y.idx.val → W (Proc.devRef .tc x) = V (Proc.devRef .tc x))
    (hW' : ∀ x : Ref sig' .tc, x.space = .hbm → x.idx.val < y'.idx.val → W' (Proc.devRef .tc x) = V' (Proc.devRef .tc x))
    (hs : Same W W' y y') : Agree (push rs y.idx.val y'.idx.val) W W' := by
  intro x x' hx hx' hc
  rcases covers_push hc with hc | ⟨e, e'⟩
  · obtain ⟨l, l'⟩ := lt_of_covers hc hb
    obtain ⟨h1, h2⟩ := h x x' hx hx' hc
    refine ⟨h1, ?_⟩
    rw [hW x hx l, hW' x' hx' l']
    exact h2
  · obtain rfl := ref_eq hx hy e
    obtain rfl := ref_eq hx' hy' e'
    exact hs

/-! ## Matching operations -/

/-- What a matched pair of operations touches: the pairs of buffers read, and the pair written. -/
structure Act (sig sig' : RefSig) where
  /-- The pairs of buffers read. -/
  reads : List (Ref sig .tc × Ref sig' .tc)
  /-- The buffer the first program's operation writes. -/
  y : Ref sig .tc
  /-- The buffer the second program's operation writes. -/
  y' : Ref sig' .tc

/-- The operations `op` and `op'` match: each writes one buffer, and from equal operands they write equal values. -/
structure Pair (op : HloOp τ sig Val) (op' : HloOp τ' sig' Val) (a : Act sig sig') : Prop where
  /-- The first operation writes the pair's first buffer only. -/
  writes : op.writes = {Proc.devRef (τ := τ) .tc a.y}
  /-- The second operation writes the pair's second buffer only. -/
  writes' : op'.writes = {Proc.devRef (τ := τ') .tc a.y'}
  /-- From equal operands, equal results. -/
  same : ∀ (V : Valuation τ sig Val) (V' : Valuation τ' sig' Val), (∀ p ∈ a.reads, Same V V' p.1 p.2) → a.y.ty = a.y'.ty →
    Same (op.result V) (op'.result V') a.y a.y'

/-- What a line of operations, cut into segments, leaves: the segments run in order. -/
def afters : List (List (HloOp τ sig Val)) → Valuation τ sig Val → Valuation τ sig Val
  | [], V => V
  | L :: Ls, V => afters Ls (after L V)

/-- Two lines, each a current segment and the segments still to come, match operation by operation until the segments
    `lk` of the first and `lr` of the second are left; the list of `Act`s says what each matched pair touches. -/
inductive Steps : List (HloOp τ sig Val) → List (List (HloOp τ sig Val)) → List (HloOp τ' sig' Val) →
    List (List (HloOp τ' sig' Val)) → List (Act sig sig') → List (List (HloOp τ sig Val)) → List (List (HloOp τ' sig' Val)) → Prop
  | nil (L : List (HloOp τ sig Val)) (Ls : List (List (HloOp τ sig Val))) (R : List (HloOp τ' sig' Val))
      (Rs : List (List (HloOp τ' sig' Val))) : Steps L Ls R Rs [] (L :: Ls) (R :: Rs)
  | cons {op : HloOp τ sig Val} {op' : HloOp τ' sig' Val} {a : Act sig sig'} {L : List (HloOp τ sig Val)}
      {Ls lk : List (List (HloOp τ sig Val))} {R : List (HloOp τ' sig' Val)} {Rs lr : List (List (HloOp τ' sig' Val))}
      {acts : List (Act sig sig')} (h : Pair op op' a) (t : Steps L Ls R Rs acts lk lr) :
      Steps (op :: L) Ls (op' :: R) Rs (a :: acts) lk lr
  | left {L : List (HloOp τ sig Val)} {Ls lk : List (List (HloOp τ sig Val))} {R : List (HloOp τ' sig' Val)}
      {Rs lr : List (List (HloOp τ' sig' Val))} {acts : List (Act sig sig')} (t : Steps L Ls R Rs acts lk lr) :
      Steps [] (L :: Ls) R Rs acts lk lr
  | right {L : List (HloOp τ sig Val)} {Ls lk : List (List (HloOp τ sig Val))} {R : List (HloOp τ' sig' Val)}
      {Rs lr : List (List (HloOp τ' sig' Val))} {acts : List (Act sig sig')} (t : Steps L Ls R Rs acts lk lr) :
      Steps L Ls [] (R :: Rs) acts lk lr

/-- Whether a reference is into the main memory. -/
def isHbm (s : Space) : Bool := decide (s = .hbm)

/-- One pair's bookkeeping is in order: what it reads corresponds, and what it writes is new. -/
def okay (rs : List Rng) (a : Act sig sig') : Bool :=
  (a.reads.all fun p => (isHbm p.1.space && isHbm p.2.space) && covers rs p.1.idx.val p.2.idx.val)
    && ((isHbm a.y.space && isHbm a.y'.space) && (below rs a.y.idx.val a.y'.idx.val && decide (a.y.ty = a.y'.ty)))

/-- The runs after a line's pairs, if every pair's bookkeeping is in order on the way. -/
def track : List Rng → List (Act sig sig') → Option (List Rng)
  | rs, [] => some rs
  | rs, a :: acts => bif okay rs a then track (push rs a.y.idx.val a.y'.idx.val) acts else none

/-- Two matching lines run side by side keep corresponding buffers equal. -/
theorem Steps.agree {L : List (HloOp τ sig Val)} {Ls lk : List (List (HloOp τ sig Val))} {R : List (HloOp τ' sig' Val)}
    {Rs lr : List (List (HloOp τ' sig' Val))} {acts : List (Act sig sig')}
    (h : Steps L Ls R Rs acts lk lr) {rs rs' : List Rng} (ht : track rs acts = some rs') {V : Valuation τ sig Val}
    {V' : Valuation τ' sig' Val} (hA : Agree rs V V') :
    ∃ U U', afters (L :: Ls) V = afters lk U ∧ afters (R :: Rs) V' = afters lr U' ∧ Agree rs' U U' := by
  induction h generalizing rs V V' with
  | nil L Ls R Rs => cases ht; exact ⟨V, V', rfl, rfl, hA⟩
  | left _ ih => exact ih ht hA
  | right _ ih => exact ih ht hA
  | @cons op op' a L Ls lk R Rs lr acts hp _ ih =>
    unfold track at ht
    cases hk : okay rs a with
    | false => rw [hk] at ht; cases ht
    | true =>
      rw [hk] at ht
      simp only [okay, isHbm, Bool.and_eq_true, decide_eq_true_eq, List.all_eq_true] at hk
      obtain ⟨hr, ⟨hy, hy'⟩, hb, hty⟩ := hk
      refine ih ht (hA.push hb hy hy' (fun x hx hl => ?_) (fun x hx hl => ?_) ?_)
      · exact result_of_writes_ne op V a.y x hp.writes (fun e => by subst e; omega)
      · exact result_of_writes_ne op' V' a.y' x hp.writes' (fun e => by subst e; omega)
      · exact hp.same V V' (fun p hm => hA p.1 p.2 (hr p hm).1.1 (hr p hm).1.2 (hr p hm).2) hty

/-! ## The matching pairs, builder by builder -/

/-- Equal functions of equal arguments, across equal types. -/
theorem heq_app1 {A A' B B' : BufTy} (eA : A = A') (eB : B = B') {f : A.Contents Val → B.Contents Val}
    {f' : A'.Contents Val → B'.Contents Val} (hf : HEq f f') {u : A.Contents Val} {u' : A'.Contents Val} (hu : HEq u u') :
    HEq (f u) (f' u') := by
  subst eA eB; cases hf; cases hu; rfl

/-- Equal functions of two equal arguments, across equal types. -/
theorem heq_app2 {A A' B B' C C' : BufTy} (eA : A = A') (eB : B = B') (eC : C = C')
    {f : A.Contents Val → B.Contents Val → C.Contents Val} {f' : A'.Contents Val → B'.Contents Val → C'.Contents Val}
    (hf : HEq f f') {u : A.Contents Val} {u' : A'.Contents Val} (hu : HEq u u') {v : B.Contents Val} {v' : B'.Contents Val}
    (hv : HEq v v') : HEq (f u v) (f' u' v') := by
  subst eA eB eC; cases hf; cases hu; cases hv; rfl

/-- Equal functions of three equal arguments, across equal types. -/
theorem heq_app3 {A A' B B' C C' D D' : BufTy} (eA : A = A') (eB : B = B') (eC : C = C') (eD : D = D')
    {f : A.Contents Val → B.Contents Val → C.Contents Val → D.Contents Val}
    {f' : A'.Contents Val → B'.Contents Val → C'.Contents Val → D'.Contents Val}
    (hf : HEq f f') {u : A.Contents Val} {u' : A'.Contents Val} (hu : HEq u u') {v : B.Contents Val} {v' : B'.Contents Val}
    (hv : HEq v v') {w : C.Contents Val} {w' : C'.Contents Val} (hw : HEq w w') : HEq (f u v w) (f' u' v' w') := by
  subst eA eB eC eD; cases hf; cases hu; cases hv; cases hw; rfl

/-- Two reshapes of equal arguments, across equal types. -/
theorem heq_reshape {A A' B B' : BufTy} (eA : A = A') (eB : B = B') (he : A.elt = B.elt) (he' : A'.elt = B'.elt)
    (hn : A.shape.ShapeCasts B.shape) (hn' : A'.shape.ShapeCasts B'.shape) {u : A.Contents Val} {u' : A'.Contents Val}
    (hu : HEq u u') : HEq (fun i => he ▸ shapeCast B.shape u hn i : B.Contents Val) (fun i => he' ▸ shapeCast B'.shape u' hn' i : B'.Contents Val) := by
  subst eA eB; cases hu; rfl

section Builders

variable {x a b c y : Ref sig .tc} {x' a' b' c' y' : Ref sig' .tc}

/-- Two constants. -/
theorem Pair.nullary {v : y.ty.Contents Val} {v' : y'.ty.Contents Val} {hy hy'} (hv : HEq v v') :
    Pair (StableHlo.nullary y v hy : HloOp τ sig Val) (StableHlo.nullary y' v' hy' : HloOp τ' sig' Val) ⟨[], y, y'⟩ where
  writes := rfl
  writes' := rfl
  same V V' _ ey := ⟨ey, by rw [nullary_result, nullary_result]; exact hv⟩

/-- Two one-operand operations. -/
theorem Pair.unary {f : x.ty.Contents Val → y.ty.Contents Val} {f' : x'.ty.Contents Val → y'.ty.Contents Val} {hx hy hx' hy'}
    (hf : HEq f f') :
    Pair (StableHlo.unary x y f hx hy : HloOp τ sig Val) (StableHlo.unary x' y' f' hx' hy' : HloOp τ' sig' Val) ⟨[(x, x')], y, y'⟩ where
  writes := rfl
  writes' := rfl
  same V V' h ey := ⟨ey, by
    rw [unary_result, unary_result]
    exact heq_app1 (h (x, x') (by simp)).1 ey hf (h (x, x') (by simp)).2⟩

/-- Two two-operand operations. -/
theorem Pair.binary {f : a.ty.Contents Val → b.ty.Contents Val → y.ty.Contents Val}
    {f' : a'.ty.Contents Val → b'.ty.Contents Val → y'.ty.Contents Val} {ha hb hy ha' hb' hy'}
    (hf : HEq f f') :
    Pair (StableHlo.binary a b y f ha hb hy : HloOp τ sig Val) (StableHlo.binary a' b' y' f' ha' hb' hy' : HloOp τ' sig' Val)
      ⟨[(a, a'), (b, b')], y, y'⟩ where
  writes := rfl
  writes' := rfl
  same V V' h ey := ⟨ey, by
    rw [binary_result, binary_result]
    exact heq_app2 (h (a, a') (by simp)).1 (h (b, b') (by simp)).1 ey hf (h (a, a') (by simp)).2 (h (b, b') (by simp)).2⟩

/-- Two three-operand operations. -/
theorem Pair.ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (hf : HEq f f') :
    Pair (StableHlo.ternary c a b y f hc ha hb hy : HloOp τ sig Val)
      (StableHlo.ternary c' a' b' y' f' hc' ha' hb' hy' : HloOp τ' sig' Val) ⟨[(c, c'), (a, a'), (b, b')], y, y'⟩ where
  writes := rfl
  writes' := rfl
  same V V' h ey := ⟨ey, by
    rw [ternary_result, ternary_result]
    exact heq_app3 (h (c, c') (by simp)).1 (h (a, a') (by simp)).1 (h (b, b') (by simp)).1 ey hf (h (c, c') (by simp)).2 (h (a, a') (by simp)).2 (h (b, b') (by simp)).2⟩

/-- Two reshapes. -/
theorem Pair.reshape {he hn hx hy he' hn' hx' hy'} :
    Pair (StableHlo.reshape x y he hn hx hy : HloOp τ sig Val) (StableHlo.reshape x' y' he' hn' hx' hy' : HloOp τ' sig' Val)
      ⟨[(x, x')], y, y'⟩ where
  writes := rfl
  writes' := rfl
  same V V' h ey := ⟨ey, by
    rw [reshape_result, reshape_result]
    exact heq_reshape (h (x, x') (by simp)).1 ey he he' hn hn' (h (x, x') (by simp)).2⟩

end Builders

end Cert.Lockstep

end
-- ==== Proof.Chain.lean ====
/- Stretches of matching operations put one after another. -/
module

public import proofs.«01_k».proof.Proof.Lockstep

@[expose] public section

noncomputable section

namespace Cert.Lockstep

open Idealize.ShloMosaic Idealize.ShloMosaic.TcCoe Idealize.ShloMosaic.StableHlo

variable {τ τ' : Topo} {sig sig' : RefSig} {Val : EltTy → Type}

/-- From buffers that agree by `rs`, the first program's segments `Ks` against the second's `R`, `Rs` less their last part `left`
    end with buffers that agree by `rs'`. -/
def Runs (rs rs' : List Rng) (Ks : List (List (HloOp τ sig Val))) (R : List (HloOp τ' sig' Val)) (Rs : List (List (HloOp τ' sig' Val)))
    (left : List (HloOp τ' sig' Val)) : Prop :=
  ∀ (V : Valuation τ sig Val) (V' : Valuation τ' sig' Val), Agree rs V V' →
    ∃ U', Agree rs' (afters Ks V) U' ∧ afters (R :: Rs) V' = after left U'

/-- Operations that match one for one, their bookkeeping in order, run so. -/
theorem runs_of {rs rs' : List Rng} {Ks : List (List (HloOp τ sig Val))} {R : List (HloOp τ' sig' Val)}
    {Rs : List (List (HloOp τ' sig' Val))} {left : List (HloOp τ' sig' Val)}
    (h : ∃ acts, Steps [] Ks R Rs acts [[]] [left] ∧ track rs acts = some rs') : Runs rs rs' Ks R Rs left := by
  obtain ⟨acts, hs, ht⟩ := h
  intro V V' hA
  obtain ⟨U, U', e, e', hU⟩ := hs.agree ht hA
  refine ⟨U', ?_, e'⟩
  have : afters Ks V = U := e
  rwa [this]

/-- A stretch of segments after another. -/
theorem afters_append (Ls Ms : List (List (HloOp τ sig Val))) (V : Valuation τ sig Val) :
    afters (Ls ++ Ms) V = afters Ms (afters Ls V) := by
  induction Ls generalizing V with
  | nil => rfl
  | cons L Ls ih => exact ih (after L V)

/-- Two stretches in a row, the second beginning with what the first left. -/
theorem Runs.trans {rs rs' rs'' : List Rng} {Ks Ks' : List (List (HloOp τ sig Val))} {R left left' : List (HloOp τ' sig' Val)}
    {Rs Rs' : List (List (HloOp τ' sig' Val))} (h : Runs rs rs' Ks R Rs left) (h' : Runs rs' rs'' Ks' left Rs' left') :
    Runs rs rs'' (Ks ++ Ks') R (Rs ++ Rs') left' := by
  intro V V' hA
  obtain ⟨U, hU, e⟩ := h V V' hA
  obtain ⟨T, hT, e'⟩ := h' _ U hU
  refine ⟨T, ?_, ?_⟩
  · rw [afters_append]; exact hT
  · rw [← List.cons_append, afters_append, e]; exact e'

end Cert.Lockstep

end
-- ==== Proof.Host1.lean ====
/- Host operations of the kernel before its first custom call, matched with the reference's: operations 1 to 147. -/
module

public import proofs.«01_k».proof.Defs
public import proofs.«01_k».proof.Proof.Chain
public import proofs.«01_k».proof.Proof.Gen.KernelIdeal.Launch
public import proofs.«01_k».proof.Proof.Gen.ReferenceIdeal.Run

@[expose] public section

noncomputable section

namespace Cert.Host

open Idealize.ShloMosaic Idealize.ShloMosaic.StableHlo Cert.Lockstep
open Cert.KernelIdeal.Gen hiding facts facts₀
open Cert.ReferenceIdeal.Value

set_option maxRecDepth 20000 in
set_option maxHeartbeats 40000000 in
/-- Operations 1 to 89. -/
theorem stretch1 : Runs (τ := Cert.KernelIdeal.τ) (τ' := Cert.ReferenceIdeal.τ) (sig := Cert.KernelIdeal.sig)
    (sig' := Cert.ReferenceIdeal.sig) (Val := Elt Ideal) [⟨0, 24, 0⟩] [⟨0, 113, 0⟩]
    [ hostOps0 ]
    []
    [ ops_part0, ops_part1_0 ]
    (ops_part1_0.drop 29) := by
  apply runs_of
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

set_option maxRecDepth 20000 in
set_option maxHeartbeats 40000000 in
/-- Operations 90 to 147. -/
theorem stretch2 : Runs (τ := Cert.KernelIdeal.τ) (τ' := Cert.ReferenceIdeal.τ) (sig := Cert.KernelIdeal.sig)
    (sig' := Cert.ReferenceIdeal.sig) (Val := Elt Ideal) [⟨0, 113, 0⟩] [⟨0, 171, 0⟩]
    [ hostOps0_1, hostOps0_2, hostOps0_3, hostOps0_4, hostOps0_5 ]
    (ops_part1_0.drop 29)
    [ ops_part1_1, ops_part1_2, ops_part2_0 ]
    (ops_part2_0.drop 4) := by
  apply runs_of
  simp only [ops_part1_0, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

end Cert.Host

end
-- ==== Proof.Host2.lean ====
/- Host operations of the kernel before its first custom call, matched with the reference's: operations 148 to 254. -/
module

public import proofs.«01_k».proof.Defs
public import proofs.«01_k».proof.Proof.Chain
public import proofs.«01_k».proof.Proof.Gen.KernelIdeal.Launch
public import proofs.«01_k».proof.Proof.Gen.ReferenceIdeal.Run

@[expose] public section

noncomputable section

namespace Cert.Host

open Idealize.ShloMosaic Idealize.ShloMosaic.StableHlo Cert.Lockstep
open Cert.KernelIdeal.Gen hiding facts facts₀
open Cert.ReferenceIdeal.Value

set_option maxRecDepth 20000 in
set_option maxHeartbeats 40000000 in
/-- Operations 148 to 209. -/
theorem stretch3 : Runs (τ := Cert.KernelIdeal.τ) (τ' := Cert.ReferenceIdeal.τ) (sig := Cert.KernelIdeal.sig)
    (sig' := Cert.ReferenceIdeal.sig) (Val := Elt Ideal) [⟨0, 171, 0⟩] [⟨0, 233, 0⟩]
    [ hostOps0_6, hostOps0_7, hostOps0_8 ]
    (ops_part2_0.drop 4)
    [ ops_part2_1, ops_part2_2, ops_part3_0 ]
    (ops_part3_0.drop 2) := by
  apply runs_of
  simp only [ops_part2_0, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

set_option maxRecDepth 20000 in
set_option maxHeartbeats 40000000 in
/-- Operations 210 to 254. -/
theorem stretch4 : Runs (τ := Cert.KernelIdeal.τ) (τ' := Cert.ReferenceIdeal.τ) (sig := Cert.KernelIdeal.sig)
    (sig' := Cert.ReferenceIdeal.sig) (Val := Elt Ideal) [⟨0, 233, 0⟩] [⟨0, 278, 0⟩]
    [ hostOps0_9, hostOps0_10, hostOps0_11 ]
    (ops_part3_0.drop 2)
    [ ops_part3_1 ]
    (ops_part3_1.drop 17) := by
  apply runs_of
  simp only [ops_part3_0, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

end Cert.Host

end
-- ==== Proof.Host3.lean ====
/- Host operations of the kernel before its first custom call, matched with the reference's: operations 255 to 361. -/
module

public import proofs.«01_k».proof.Defs
public import proofs.«01_k».proof.Proof.Chain
public import proofs.«01_k».proof.Proof.Gen.KernelIdeal.Launch
public import proofs.«01_k».proof.Proof.Gen.ReferenceIdeal.Run

@[expose] public section

noncomputable section

namespace Cert.Host

open Idealize.ShloMosaic Idealize.ShloMosaic.StableHlo Cert.Lockstep
open Cert.KernelIdeal.Gen hiding facts facts₀
open Cert.ReferenceIdeal.Value

set_option maxRecDepth 20000 in
set_option maxHeartbeats 40000000 in
/-- Operations 255 to 316. -/
theorem stretch5 : Runs (τ := Cert.KernelIdeal.τ) (τ' := Cert.ReferenceIdeal.τ) (sig := Cert.KernelIdeal.sig)
    (sig' := Cert.ReferenceIdeal.sig) (Val := Elt Ideal) [⟨0, 278, 0⟩] [⟨0, 340, 0⟩]
    [ hostOps0_12, hostOps0_13, hostOps0_14 ]
    (ops_part3_1.drop 17)
    [ ops_part3_2, ops_part4_0 ]
    (ops_part4_0.drop 26) := by
  apply runs_of
  simp only [ops_part3_1, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

set_option maxRecDepth 20000 in
set_option maxHeartbeats 40000000 in
/-- Operations 317 to 361. -/
theorem stretch6 : Runs (τ := Cert.KernelIdeal.τ) (τ' := Cert.ReferenceIdeal.τ) (sig := Cert.KernelIdeal.sig)
    (sig' := Cert.ReferenceIdeal.sig) (Val := Elt Ideal) [⟨0, 340, 0⟩] [⟨0, 385, 0⟩]
    [ hostOps0_15, hostOps0_16, hostOps0_17 ]
    (ops_part4_0.drop 26)
    [ ops_part4_1, ops_part4_2 ]
    (ops_part4_2.drop 11) := by
  apply runs_of
  simp only [ops_part4_0, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

end Cert.Host

end
-- ==== Proof.Host4.lean ====
/- Host operations of the kernel before its first custom call, matched with the reference's: operations 362 to 468. -/
module

public import proofs.«01_k».proof.Defs
public import proofs.«01_k».proof.Proof.Chain
public import proofs.«01_k».proof.Proof.Gen.KernelIdeal.Launch
public import proofs.«01_k».proof.Proof.Gen.ReferenceIdeal.Run

@[expose] public section

noncomputable section

namespace Cert.Host

open Idealize.ShloMosaic Idealize.ShloMosaic.StableHlo Cert.Lockstep
open Cert.KernelIdeal.Gen hiding facts facts₀
open Cert.ReferenceIdeal.Value

set_option maxRecDepth 20000 in
set_option maxHeartbeats 40000000 in
/-- Operations 362 to 423. -/
theorem stretch7 : Runs (τ := Cert.KernelIdeal.τ) (τ' := Cert.ReferenceIdeal.τ) (sig := Cert.KernelIdeal.sig)
    (sig' := Cert.ReferenceIdeal.sig) (Val := Elt Ideal) [⟨0, 385, 0⟩] [⟨0, 447, 0⟩]
    [ hostOps0_18, hostOps0_19, hostOps0_20 ]
    (ops_part4_2.drop 11)
    [ ops_part5_0, ops_part5_1 ]
    (ops_part5_1.drop 18) := by
  apply runs_of
  simp only [ops_part4_2, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

set_option maxRecDepth 20000 in
set_option maxHeartbeats 40000000 in
/-- Operations 424 to 468. -/
theorem stretch8 : Runs (τ := Cert.KernelIdeal.τ) (τ' := Cert.ReferenceIdeal.τ) (sig := Cert.KernelIdeal.sig)
    (sig' := Cert.ReferenceIdeal.sig) (Val := Elt Ideal) [⟨0, 447, 0⟩] [⟨0, 492, 0⟩]
    [ hostOps0_21, hostOps0_22, hostOps0_23 ]
    (ops_part5_1.drop 18)
    [ ops_part5_2, ops_part6_0 ]
    (ops_part6_0.drop 10) := by
  apply runs_of
  simp only [ops_part5_1, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

end Cert.Host

end
-- ==== Proof.Host5.lean ====
/- Host operations of the kernel before its first custom call, matched with the reference's: operations 469 to 552. -/
module

public import proofs.«01_k».proof.Defs
public import proofs.«01_k».proof.Proof.Chain
public import proofs.«01_k».proof.Proof.Gen.KernelIdeal.Launch
public import proofs.«01_k».proof.Proof.Gen.ReferenceIdeal.Run

@[expose] public section

noncomputable section

namespace Cert.Host

open Idealize.ShloMosaic Idealize.ShloMosaic.StableHlo Cert.Lockstep
open Cert.KernelIdeal.Gen hiding facts facts₀
open Cert.ReferenceIdeal.Value

set_option maxRecDepth 20000 in
set_option maxHeartbeats 40000000 in
/-- Operations 469 to 530. -/
theorem stretch9 : Runs (τ := Cert.KernelIdeal.τ) (τ' := Cert.ReferenceIdeal.τ) (sig := Cert.KernelIdeal.sig)
    (sig' := Cert.ReferenceIdeal.sig) (Val := Elt Ideal) [⟨0, 492, 0⟩] [⟨0, 554, 0⟩]
    [ hostOps0_24, hostOps0_25, hostOps0_26 ]
    (ops_part6_0.drop 10)
    [ ops_part6_1, ops_part6_2, ops_part7_0 ]
    (ops_part7_0.drop 8) := by
  apply runs_of
  simp only [ops_part6_0, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

set_option maxRecDepth 20000 in
set_option maxHeartbeats 40000000 in
/-- Operations 531 to 552. -/
theorem stretch10 : Runs (τ := Cert.KernelIdeal.τ) (τ' := Cert.ReferenceIdeal.τ) (sig := Cert.KernelIdeal.sig)
    (sig' := Cert.ReferenceIdeal.sig) (Val := Elt Ideal) [⟨0, 554, 0⟩] [⟨0, 576, 0⟩]
    [ hostOps0_27 ]
    (ops_part7_0.drop 8)
    [  ]
    [] := by
  apply runs_of
  simp only [ops_part7_0, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

end Cert.Host

end
-- ==== Proof.Host6.lean ====
/- Host operations of the kernel before its first custom call, matched with the reference's: operations 553 to 719. -/
module

public import proofs.«01_k».proof.Defs
public import proofs.«01_k».proof.Proof.Chain
public import proofs.«01_k».proof.Proof.Gen.KernelIdeal.Launch
public import proofs.«01_k».proof.Proof.Gen.ReferenceIdeal.Run

@[expose] public section

noncomputable section

namespace Cert.Host

open Idealize.ShloMosaic Idealize.ShloMosaic.StableHlo Cert.Lockstep
open Cert.KernelIdeal.Gen hiding facts facts₀
open Cert.ReferenceIdeal.Value

set_option maxRecDepth 20000 in
set_option maxHeartbeats 40000000 in
/-- Operations 553 to 661. -/
theorem stretch11 : Runs (τ := Cert.KernelIdeal.τ) (τ' := Cert.ReferenceIdeal.τ) (sig := Cert.KernelIdeal.sig)
    (sig' := Cert.ReferenceIdeal.sig) (Val := Elt Ideal) [⟨0, 576, 0⟩] [⟨0, 685, 0⟩]
    [ hostOps0_28 ]
    []
    [ ops_part7_1, ops_part7_2, ops_part8_0, ops_part8_1 ]
    (ops_part8_1.drop 28) := by
  apply runs_of
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

set_option maxRecDepth 20000 in
set_option maxHeartbeats 40000000 in
/-- Operations 662 to 719. -/
theorem stretch12 : Runs (τ := Cert.KernelIdeal.τ) (τ' := Cert.ReferenceIdeal.τ) (sig := Cert.KernelIdeal.sig)
    (sig' := Cert.ReferenceIdeal.sig) (Val := Elt Ideal) [⟨0, 685, 0⟩] [⟨0, 743, 0⟩]
    [ hostOps0_29, hostOps0_30, hostOps0_31, hostOps0_32, hostOps0_33 ]
    (ops_part8_1.drop 28)
    [ ops_part8_2, ops_part9_0, ops_part9_1 ]
    (ops_part9_1.drop 24) := by
  apply runs_of
  simp only [ops_part8_1, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

end Cert.Host

end
-- ==== Proof.Host7.lean ====
/- Host operations of the kernel before its first custom call, matched with the reference's: operations 720 to 826. -/
module

public import proofs.«01_k».proof.Defs
public import proofs.«01_k».proof.Proof.Chain
public import proofs.«01_k».proof.Proof.Gen.KernelIdeal.Launch
public import proofs.«01_k».proof.Proof.Gen.ReferenceIdeal.Run

@[expose] public section

noncomputable section

namespace Cert.Host

open Idealize.ShloMosaic Idealize.ShloMosaic.StableHlo Cert.Lockstep
open Cert.KernelIdeal.Gen hiding facts facts₀
open Cert.ReferenceIdeal.Value

set_option maxRecDepth 20000 in
set_option maxHeartbeats 40000000 in
/-- Operations 720 to 781. -/
theorem stretch13 : Runs (τ := Cert.KernelIdeal.τ) (τ' := Cert.ReferenceIdeal.τ) (sig := Cert.KernelIdeal.sig)
    (sig' := Cert.ReferenceIdeal.sig) (Val := Elt Ideal) [⟨0, 743, 0⟩] [⟨0, 805, 0⟩]
    [ hostOps0_34, hostOps0_35, hostOps0_36 ]
    (ops_part9_1.drop 24)
    [ ops_part9_2, ops_part10_0, ops_part10_1 ]
    (ops_part10_1.drop 3) := by
  apply runs_of
  simp only [ops_part9_1, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

set_option maxRecDepth 20000 in
set_option maxHeartbeats 40000000 in
/-- Operations 782 to 826. -/
theorem stretch14 : Runs (τ := Cert.KernelIdeal.τ) (τ' := Cert.ReferenceIdeal.τ) (sig := Cert.KernelIdeal.sig)
    (sig' := Cert.ReferenceIdeal.sig) (Val := Elt Ideal) [⟨0, 805, 0⟩] [⟨0, 850, 0⟩]
    [ hostOps0_37, hostOps0_38, hostOps0_39 ]
    (ops_part10_1.drop 3)
    [ ops_part10_2 ]
    (ops_part10_2.drop 18) := by
  apply runs_of
  simp only [ops_part10_1, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

end Cert.Host

end
-- ==== Proof.Host8.lean ====
/- Host operations of the kernel before its first custom call, matched with the reference's: operations 827 to 933. -/
module

public import proofs.«01_k».proof.Defs
public import proofs.«01_k».proof.Proof.Chain
public import proofs.«01_k».proof.Proof.Gen.KernelIdeal.Launch
public import proofs.«01_k».proof.Proof.Gen.ReferenceIdeal.Run

@[expose] public section

noncomputable section

namespace Cert.Host

open Idealize.ShloMosaic Idealize.ShloMosaic.StableHlo Cert.Lockstep
open Cert.KernelIdeal.Gen hiding facts facts₀
open Cert.ReferenceIdeal.Value

set_option maxRecDepth 20000 in
set_option maxHeartbeats 40000000 in
/-- Operations 827 to 888. -/
theorem stretch15 : Runs (τ := Cert.KernelIdeal.τ) (τ' := Cert.ReferenceIdeal.τ) (sig := Cert.KernelIdeal.sig)
    (sig' := Cert.ReferenceIdeal.sig) (Val := Elt Ideal) [⟨0, 850, 0⟩] [⟨0, 912, 0⟩]
    [ hostOps0_40, hostOps0_41, hostOps0_42 ]
    (ops_part10_2.drop 18)
    [ ops_part11_0, ops_part11_1 ]
    (ops_part11_1.drop 25) := by
  apply runs_of
  simp only [ops_part10_2, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

set_option maxRecDepth 20000 in
set_option maxHeartbeats 40000000 in
/-- Operations 889 to 933. -/
theorem stretch16 : Runs (τ := Cert.KernelIdeal.τ) (τ' := Cert.ReferenceIdeal.τ) (sig := Cert.KernelIdeal.sig)
    (sig' := Cert.ReferenceIdeal.sig) (Val := Elt Ideal) [⟨0, 912, 0⟩] [⟨0, 957, 0⟩]
    [ hostOps0_43, hostOps0_44, hostOps0_45 ]
    (ops_part11_1.drop 25)
    [ ops_part11_2, ops_part12_0 ]
    (ops_part12_0.drop 17) := by
  apply runs_of
  simp only [ops_part11_1, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

end Cert.Host

end
-- ==== Proof.Host9.lean ====
/- Host operations of the kernel before its first custom call, matched with the reference's: operations 934 to 1040. -/
module

public import proofs.«01_k».proof.Defs
public import proofs.«01_k».proof.Proof.Chain
public import proofs.«01_k».proof.Proof.Gen.KernelIdeal.Launch
public import proofs.«01_k».proof.Proof.Gen.ReferenceIdeal.Run

@[expose] public section

noncomputable section

namespace Cert.Host

open Idealize.ShloMosaic Idealize.ShloMosaic.StableHlo Cert.Lockstep
open Cert.KernelIdeal.Gen hiding facts facts₀
open Cert.ReferenceIdeal.Value

set_option maxRecDepth 20000 in
set_option maxHeartbeats 40000000 in
/-- Operations 934 to 995. -/
theorem stretch17 : Runs (τ := Cert.KernelIdeal.τ) (τ' := Cert.ReferenceIdeal.τ) (sig := Cert.KernelIdeal.sig)
    (sig' := Cert.ReferenceIdeal.sig) (Val := Elt Ideal) [⟨0, 957, 0⟩] [⟨0, 1019, 0⟩]
    [ hostOps0_46, hostOps0_47, hostOps0_48 ]
    (ops_part12_0.drop 17)
    [ ops_part12_1, ops_part12_2, ops_part13_0 ]
    (ops_part13_0.drop 17) := by
  apply runs_of
  simp only [ops_part12_0, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

set_option maxRecDepth 20000 in
set_option maxHeartbeats 40000000 in
/-- Operations 996 to 1040. -/
theorem stretch18 : Runs (τ := Cert.KernelIdeal.τ) (τ' := Cert.ReferenceIdeal.τ) (sig := Cert.KernelIdeal.sig)
    (sig' := Cert.ReferenceIdeal.sig) (Val := Elt Ideal) [⟨0, 1019, 0⟩] [⟨0, 1064, 0⟩]
    [ hostOps0_49, hostOps0_50, hostOps0_51 ]
    (ops_part13_0.drop 17)
    [ ops_part13_1, ops_part13_2 ]
    (ops_part13_2.drop 2) := by
  apply runs_of
  simp only [ops_part13_0, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

end Cert.Host

end
-- ==== Proof.Host10.lean ====
/- Host operations of the kernel before its first custom call, matched with the reference's: operations 1041 to 1168. -/
module

public import proofs.«01_k».proof.Defs
public import proofs.«01_k».proof.Proof.Chain
public import proofs.«01_k».proof.Proof.Gen.KernelIdeal.Launch
public import proofs.«01_k».proof.Proof.Gen.ReferenceIdeal.Run

@[expose] public section

noncomputable section

namespace Cert.Host

open Idealize.ShloMosaic Idealize.ShloMosaic.StableHlo Cert.Lockstep
open Cert.KernelIdeal.Gen hiding facts facts₀
open Cert.ReferenceIdeal.Value

set_option maxRecDepth 20000 in
set_option maxHeartbeats 40000000 in
/-- Operations 1041 to 1102. -/
theorem stretch19 : Runs (τ := Cert.KernelIdeal.τ) (τ' := Cert.ReferenceIdeal.τ) (sig := Cert.KernelIdeal.sig)
    (sig' := Cert.ReferenceIdeal.sig) (Val := Elt Ideal) [⟨0, 1064, 0⟩] [⟨0, 1126, 0⟩]
    [ hostOps0_52, hostOps0_53, hostOps0_54 ]
    (ops_part13_2.drop 2)
    [ ops_part14_0, ops_part14_1 ]
    (ops_part14_1.drop 9) := by
  apply runs_of
  simp only [ops_part13_2, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

set_option maxRecDepth 20000 in
set_option maxHeartbeats 40000000 in
/-- Operations 1103 to 1168. -/
theorem stretch20 : Runs (τ := Cert.KernelIdeal.τ) (τ' := Cert.ReferenceIdeal.τ) (sig := Cert.KernelIdeal.sig)
    (sig' := Cert.ReferenceIdeal.sig) (Val := Elt Ideal) [⟨0, 1126, 0⟩] [⟨0, 1192, 0⟩]
    [ hostOps0_55, hostOps0_56, hostOps0_57, hostOps0_58.take 10 ]
    (ops_part14_1.drop 9)
    [ ops_part14_2, ops_part15_0 ]
    (ops_part15_0.drop 22) := by
  apply runs_of
  simp only [hostOps0_58, ops_part14_1, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

end Cert.Host

end
-- ==== Proof.Layer.lean ====
/- The two halves of a projection layer as the reference writes them, the final product of embeddings, and the proof that
   the kernel's bodies compute the same from whole arrays at the ideal values. -/
module

public import proofs.«01_k».proof.Defs
public import proofs.«01_k».proof.Proof.Gen.KernelIdeal.Skeleton
public import proofs.«01_k».proof.Proof.Gen.ReferenceIdeal
public import Idealize.ShloMosaic.Lib.Pipeline.Value
public import Idealize.ShloMosaic.PureOps.Ideal.Laws

@[expose] public section

set_option maxRecDepth 16384

noncomputable section

namespace Cert.Layer

open Idealize.ShloMosaic Cert.ReferenceIdeal Cert.ReferenceIdeal.Gen

/-- 512 embeddings of 300 entries. -/
abbrev Mat := FVec Ideal S512x300 .f32
/-- A layer's weight matrix. -/
abbrev Wgt := FVec Ideal S300x300 .f32
/-- A layer's bias. -/
abbrev Row := FVec Ideal S300 .f32

/-- The bias vector as a one-row matrix. -/
def biasRow (b : Row) : FVec Ideal S1x300 .f32 := broadcastInDim S1x300 ![1] bcast_S300_S1x300_1 b

/-- The product with a weight matrix plus a bias: a layer's second half. -/
def affine (x : Mat) (w : Wgt) (b : Row) : Mat :=
  addf (Host.dotGeneral dot_S512x300_S300x300_S512x300_1_0_0_1_n_n none x w)
    (broadcastInDim S512x300 ![0, 1] bcast_S1x300_S512x300_0_1 (biasRow b))

/-- The same under a maximum with zero: a layer's first half. -/
def hidden (x : Mat) (w : Wgt) (b : Row) : Mat :=
  maximumf (affine x w b) (broadcastInDim S512x300 ![] bcast_S_S512x300 (constant (F := Ideal) S_ .f32 0x00000000#32))

/-- Every embedding of the first matrix against every one of the second. -/
def scores (x y : Mat) : FVec Ideal S512x512 .f32 :=
  Host.dotGeneral dot_S512x300_S300x512_S512x512_1_0_0_1_n_n none x (transpose S300x512 [1, 0] y transposes_S512x300_S300x512_1_0)

/-- The kernel's second-half body computes the second half. -/
theorem pay_affine (x : Mat) (w : Wgt) (b : Row) : Cert.KernelIdeal.Gen.k1_pay1 (F := Ideal) x w (biasRow b) = affine x w b := by
  funext j
  unfold Cert.KernelIdeal.Gen.k1_pay1 affine
  simp only [shapeCast_self, Host.dotGeneral]
  show FloatOps.matmul _ _ _ _ _ j + _ = FloatOps.dotGeneral _ _ _ _ _ j + _
  rw [Ideal.matmul_constant_zero_apply, Ideal.dotGeneral_apply]
  congr 1
  exact congrArg (biasRow b) (funext fun a => by fin_cases a <;> rfl)

/-- The kernel's first-half body computes the first half. -/
theorem pay_hidden (x : Mat) (w : Wgt) (b : Row) : Cert.KernelIdeal.Gen.k0_pay1 (F := Ideal) x w (biasRow b) = hidden x w b := by
  show maximumf (Cert.KernelIdeal.Gen.k1_pay1 (F := Ideal) x w (biasRow b)) _ = _
  rw [pay_affine]
  rfl

/-- The kernel's last body computes the scores. -/
theorem pay_scores (x y : Mat) : Cert.KernelIdeal.Gen.k8_pay1 (F := Ideal) x y = scores x y := by
  funext j
  unfold Cert.KernelIdeal.Gen.k8_pay1 scores
  simp only [shapeCast_self, Host.dotGeneral]
  show FloatOps.matmul _ _ _ _ _ j = _
  rw [Ideal.matmul_constant_zero_apply, Ideal.dotGeneral_apply]
  refine Finset.sum_congr rfl fun k _ => congrArg₂ (fun a b : EReal => a * b) (congrArg x ?_) (congrArg y ?_)
  · funext a; fin_cases a <;> rfl
  · funext a; fin_cases a <;> rfl

end Cert.Layer
-- ==== Proof.Lines.lean ====
/- Short lines of host operations: what one leaves untouched, and what the reference's two layer lines compute. Also the
   step from agreeing buffers to agreeing buffers when each program has computed one more value by a line of its own. -/
module

public import proofs.«01_k».proof.Proof.Lockstep

@[expose] public section

noncomputable section

namespace Cert.Lockstep

open Idealize.ShloMosaic Idealize.ShloMosaic.TcCoe Idealize.ShloMosaic.StableHlo

variable {τ τ' : Topo} {sig sig' : RefSig} {Val : EltTy → Type}

/-- Agreement after each program has written some buffers from an index on, one pair of which is the same: the pair joins
    the runs. -/
theorem Agree.grow {rs : List Rng} {V W : Valuation τ sig Val} {V' W' : Valuation τ' sig' Val} {y : Ref sig .tc} {y' : Ref sig' .tc}
    (h : Agree rs V V') (n n' : Nat) (hb : below rs n n' = true) (hy : y.space = .hbm) (hy' : y'.space = .hbm)
    (hW : ∀ x : Ref sig .tc, x.space = .hbm → x.idx.val < n → W (Proc.devRef .tc x) = V (Proc.devRef .tc x))
    (hW' : ∀ x : Ref sig' .tc, x.space = .hbm → x.idx.val < n' → W' (Proc.devRef .tc x) = V' (Proc.devRef .tc x))
    (hs : Same W W' y y') : Agree (Lockstep.push rs y.idx.val y'.idx.val) W W' := by
  intro x x' hx hx' hc
  rcases covers_push hc with hc | ⟨e, e'⟩
  · obtain ⟨l, l'⟩ := lt_of_covers hc hb
    obtain ⟨h1, h2⟩ := h x x' hx hx' hc
    refine ⟨h1, ?_⟩
    rw [hW x hx l, hW' x' hx' l']
    exact h2
  · obtain rfl := ref_eq hx hy e
    obtain rfl := ref_eq hx' hy' e'
    exact hs

/-- The operation writes one buffer of the main memory, of index `n` or more. -/
def From (n : Nat) (op : HloOp τ sig Val) : Prop :=
  ∃ y : Ref sig .tc, op.writes = {Proc.devRef (τ := τ) .tc y} ∧ y.space = .hbm ∧ Nat.ble n y.idx.val = true

/-- A line that writes from index `n` on leaves the buffers below `n`. -/
theorem after_below {n : Nat} (ops : List (HloOp τ sig Val)) (h : ops.Forall (From n)) (V : Valuation τ sig Val) (x : Ref sig .tc)
    (hl : x.idx.val < n) : after ops V (Proc.devRef .tc x) = V (Proc.devRef .tc x) := by
  refine after_of_forall_not_mem ops V fun op hop hb => ?_
  obtain ⟨y, hw, _, hn⟩ := (List.forall_iff_forall_mem.mp h) op hop
  rw [hw, Finset.mem_singleton] at hb
  obtain rfl := Proc.devRef_injective _ hb
  exact absurd (Nat.le_of_ble_eq_true hn) (by omega)

variable {a w b d b₁ b₂ s z z₁ y : Ref sig .tc}

/-- Product, bias twice broadcast, sum: what the line leaves in its last buffer. -/
theorem line_affine (f : a.ty.Contents Val → w.ty.Contents Val → d.ty.Contents Val) (g : b.ty.Contents Val → b₁.ty.Contents Val)
    (g₁ : b₁.ty.Contents Val → b₂.ty.Contents Val) (k : d.ty.Contents Val → b₂.ty.Contents Val → y.ty.Contents Val)
    (ha hw hd hb hb₁ hb₁' hb₂ hd' hb₂' hy) (V : Valuation τ sig Val) (n1 : b ≠ d) (n2 : d ≠ b₁) (n3 : d ≠ b₂) :
    after [binary a w d f ha hw hd, unary b b₁ g hb hb₁, unary b₁ b₂ g₁ hb₁' hb₂, binary d b₂ y k hd' hb₂' hy] V (Proc.devRef .tc y)
      = k (f (V (Proc.devRef .tc a)) (V (Proc.devRef .tc w))) (g₁ (g (V (Proc.devRef .tc b)))) := by
  simp only [after_cons, after_nil]
  rw [binary_result, unary_result_ne (h := n3), unary_result_ne (h := n2), binary_result, unary_result, unary_result,
    binary_result_ne (h := n1)]

/-- The same followed by a maximum with a broadcast constant. -/
theorem line_hidden (f : a.ty.Contents Val → w.ty.Contents Val → d.ty.Contents Val) (g : b.ty.Contents Val → b₁.ty.Contents Val)
    (g₁ : b₁.ty.Contents Val → b₂.ty.Contents Val) (k : d.ty.Contents Val → b₂.ty.Contents Val → s.ty.Contents Val)
    (v : z.ty.Contents Val) (g₂ : z.ty.Contents Val → z₁.ty.Contents Val)
    (k₁ : s.ty.Contents Val → z₁.ty.Contents Val → y.ty.Contents Val)
    (ha hw hd hb hb₁ hb₁' hb₂ hd' hb₂' hs hz hz' hz₁ hs' hz₁' hy) (V : Valuation τ sig Val) (n1 : b ≠ d) (n2 : d ≠ b₁) (n3 : d ≠ b₂)
    (n4 : s ≠ z) (n5 : s ≠ z₁) :
    after [binary a w d f ha hw hd, unary b b₁ g hb hb₁, unary b₁ b₂ g₁ hb₁' hb₂, binary d b₂ s k hd' hb₂' hs,
        nullary z v hz, unary z z₁ g₂ hz' hz₁, binary s z₁ y k₁ hs' hz₁' hy] V (Proc.devRef .tc y)
      = k₁ (k (f (V (Proc.devRef .tc a)) (V (Proc.devRef .tc w))) (g₁ (g (V (Proc.devRef .tc b))))) (g₂ v) := by
  have h := line_affine f g g₁ k ha hw hd hb hb₁ hb₁' hb₂ hd' hb₂' hs V n1 n2 n3
  simp only [after_cons, after_nil] at h ⊢
  rw [binary_result, unary_result_ne (h := n5), nullary_result_ne (h := n4), h, unary_result, nullary_result]

/-- An operand of a two-operand operation made just before it: what the line leaves in its last buffer. -/
theorem line_two (g : a.ty.Contents Val → b.ty.Contents Val) (f : d.ty.Contents Val → b.ty.Contents Val → y.ty.Contents Val)
    (ha hb hd hb' hy) (V : Valuation τ sig Val) (n1 : d ≠ b) :
    after [unary a b g ha hb, binary d b y f hd hb' hy] V (Proc.devRef .tc y)
      = f (V (Proc.devRef .tc d)) (g (V (Proc.devRef .tc a))) := by
  simp only [after_cons, after_nil]
  rw [binary_result, unary_result, unary_result_ne (h := n1)]

end Cert.Lockstep
-- ==== Proof.RegionValue.lean ====
module

public import proofs.«01_k».proof.Proof.Gen.KernelIdeal.Frame
public import Idealize.ShloMosaic.Lib.Pipeline.ValueKit

@[expose] public section

set_option maxRecDepth 16384

noncomputable section

namespace Cert.KernelIdeal.Value

open Idealize.ShloMosaic Idealize.ShloMosaic.TcCoe Cert.KernelIdeal Cert.KernelIdeal.Gen

variable {F : FTy → Type} [FloatOps F]
variable (V : (c : Dev nD) → (b : Ref sig .tc) → Buf (Elt F) ((c : Thread nD τ).loc b)) (c : Dev nD)

/-- Region 0 leaves its body's payload of its whole operand arrays in its output array. -/
theorem arr0 : (dat0 V c).arrAt 3 cfg0.N = k0_pay1 (V c main_v785) (V c main_v787) (V c main_v794) := by
  refine (dat0 V c).arrAt_eq_of_after_last 3 t0_0 (by decide +kernel) _ fun j => ?_
  rw [after0_3]
  frame_out
  have h0 : iblk0 V c 0 t0_0 = V c main_v785 :=
    Memref.read_access_unit_zero (Elt F) main_v785 (funext fun a => by fin_cases a <;> decide) (fun a => by fin_cases a <;> decide) _
  have h1 : iblk0 V c 1 t0_0 = V c main_v787 :=
    Memref.read_access_unit_zero (Elt F) main_v787 (funext fun a => by fin_cases a <;> decide) (fun a => by fin_cases a <;> decide) _
  have h2 : iblk0 V c 2 t0_0 = V c main_v794 :=
    Memref.read_access_unit_zero (Elt F) main_v794 (funext fun a => by fin_cases a <;> decide) (fun a => by fin_cases a <;> decide) _
  rw [h0, h1, h2]
  rfl

/-- Region 1 leaves its body's payload of its whole operand arrays in its output array. -/
theorem arr1 : (dat1 V c).arrAt 3 cfg1.N = k1_pay1 (V c main_v795) (V c main_v791) (V c main_v796) := by
  refine (dat1 V c).arrAt_eq_of_after_last 3 t1_0 (by decide +kernel) _ fun j => ?_
  rw [after1_3]
  frame_out
  have h0 : iblk1 V c 0 t1_0 = V c main_v795 :=
    Memref.read_access_unit_zero (Elt F) main_v795 (funext fun a => by fin_cases a <;> decide) (fun a => by fin_cases a <;> decide) _
  have h1 : iblk1 V c 1 t1_0 = V c main_v791 :=
    Memref.read_access_unit_zero (Elt F) main_v791 (funext fun a => by fin_cases a <;> decide) (fun a => by fin_cases a <;> decide) _
  have h2 : iblk1 V c 2 t1_0 = V c main_v796 :=
    Memref.read_access_unit_zero (Elt F) main_v796 (funext fun a => by fin_cases a <;> decide) (fun a => by fin_cases a <;> decide) _
  rw [h0, h1, h2]
  rfl

/-- Region 2 leaves its body's payload of its whole operand arrays in its output array. -/
theorem arr2 : (dat2 V c).arrAt 3 cfg2.N = k2_pay1 (V c main_v804) (V c main_v806) (V c main_v813) := by
  refine (dat2 V c).arrAt_eq_of_after_last 3 t2_0 (by decide +kernel) _ fun j => ?_
  rw [after2_3]
  frame_out
  have h0 : iblk2 V c 0 t2_0 = V c main_v804 :=
    Memref.read_access_unit_zero (Elt F) main_v804 (funext fun a => by fin_cases a <;> decide) (fun a => by fin_cases a <;> decide) _
  have h1 : iblk2 V c 1 t2_0 = V c main_v806 :=
    Memref.read_access_unit_zero (Elt F) main_v806 (funext fun a => by fin_cases a <;> decide) (fun a => by fin_cases a <;> decide) _
  have h2 : iblk2 V c 2 t2_0 = V c main_v813 :=
    Memref.read_access_unit_zero (Elt F) main_v813 (funext fun a => by fin_cases a <;> decide) (fun a => by fin_cases a <;> decide) _
  rw [h0, h1, h2]
  rfl

/-- Region 3 leaves its body's payload of its whole operand arrays in its output array. -/
theorem arr3 : (dat3 V c).arrAt 3 cfg3.N = k3_pay1 (V c main_v814) (V c main_v810) (V c main_v815) := by
  refine (dat3 V c).arrAt_eq_of_after_last 3 t3_0 (by decide +kernel) _ fun j => ?_
  rw [after3_3]
  frame_out
  have h0 : iblk3 V c 0 t3_0 = V c main_v814 :=
    Memref.read_access_unit_zero (Elt F) main_v814 (funext fun a => by fin_cases a <;> decide) (fun a => by fin_cases a <;> decide) _
  have h1 : iblk3 V c 1 t3_0 = V c main_v810 :=
    Memref.read_access_unit_zero (Elt F) main_v810 (funext fun a => by fin_cases a <;> decide) (fun a => by fin_cases a <;> decide) _
  have h2 : iblk3 V c 2 t3_0 = V c main_v815 :=
    Memref.read_access_unit_zero (Elt F) main_v815 (funext fun a => by fin_cases a <;> decide) (fun a => by fin_cases a <;> decide) _
  rw [h0, h1, h2]
  rfl

/-- Region 4 leaves its body's payload of its whole operand arrays in its output array. -/
theorem arr4 : (dat4 V c).arrAt 3 cfg4.N = k4_pay1 (V c main_v830) (V c main_v832) (V c main_v839) := by
  refine (dat4 V c).arrAt_eq_of_after_last 3 t4_0 (by decide +kernel) _ fun j => ?_
  rw [after4_3]
  frame_out
  have h0 : iblk4 V c 0 t4_0 = V c main_v830 :=
    Memref.read_access_unit_zero (Elt F) main_v830 (funext fun a => by fin_cases a <;> decide) (fun a => by fin_cases a <;> decide) _
  have h1 : iblk4 V c 1 t4_0 = V c main_v832 :=
    Memref.read_access_unit_zero (Elt F) main_v832 (funext fun a => by fin_cases a <;> decide) (fun a => by fin_cases a <;> decide) _
  have h2 : iblk4 V c 2 t4_0 = V c main_v839 :=
    Memref.read_access_unit_zero (Elt F) main_v839 (funext fun a => by fin_cases a <;> decide) (fun a => by fin_cases a <;> decide) _
  rw [h0, h1, h2]
  rfl

/-- Region 5 leaves its body's payload of its whole operand arrays in its output array. -/
theorem arr5 : (dat5 V c).arrAt 3 cfg5.N = k5_pay1 (V c main_v840) (V c main_v836) (V c main_v841) := by
  refine (dat5 V c).arrAt_eq_of_after_last 3 t5_0 (by decide +kernel) _ fun j => ?_
  rw [after5_3]
  frame_out
  have h0 : iblk5 V c 0 t5_0 = V c main_v840 :=
    Memref.read_access_unit_zero (Elt F) main_v840 (funext fun a => by fin_cases a <;> decide) (fun a => by fin_cases a <;> decide) _
  have h1 : iblk5 V c 1 t5_0 = V c main_v836 :=
    Memref.read_access_unit_zero (Elt F) main_v836 (funext fun a => by fin_cases a <;> decide) (fun a => by fin_cases a <;> decide) _
  have h2 : iblk5 V c 2 t5_0 = V c main_v841 :=
    Memref.read_access_unit_zero (Elt F) main_v841 (funext fun a => by fin_cases a <;> decide) (fun a => by fin_cases a <;> decide) _
  rw [h0, h1, h2]
  rfl

/-- Region 6 leaves its body's payload of its whole operand arrays in its output array. -/
theorem arr6 : (dat6 V c).arrAt 3 cfg6.N = k6_pay1 (V c main_v849) (V c main_v851) (V c main_v858) := by
  refine (dat6 V c).arrAt_eq_of_after_last 3 t6_0 (by decide +kernel) _ fun j => ?_
  rw [after6_3]
  frame_out
  have h0 : iblk6 V c 0 t6_0 = V c main_v849 :=
    Memref.read_access_unit_zero (Elt F) main_v849 (funext fun a => by fin_cases a <;> decide) (fun a => by fin_cases a <;> decide) _
  have h1 : iblk6 V c 1 t6_0 = V c main_v851 :=
    Memref.read_access_unit_zero (Elt F) main_v851 (funext fun a => by fin_cases a <;> decide) (fun a => by fin_cases a <;> decide) _
  have h2 : iblk6 V c 2 t6_0 = V c main_v858 :=
    Memref.read_access_unit_zero (Elt F) main_v858 (funext fun a => by fin_cases a <;> decide) (fun a => by fin_cases a <;> decide) _
  rw [h0, h1, h2]
  rfl

/-- Region 7 leaves its body's payload of its whole operand arrays in its output array. -/
theorem arr7 : (dat7 V c).arrAt 3 cfg7.N = k7_pay1 (V c main_v859) (V c main_v855) (V c main_v860) := by
  refine (dat7 V c).arrAt_eq_of_after_last 3 t7_0 (by decide +kernel) _ fun j => ?_
  rw [after7_3]
  frame_out
  have h0 : iblk7 V c 0 t7_0 = V c main_v859 :=
    Memref.read_access_unit_zero (Elt F) main_v859 (funext fun a => by fin_cases a <;> decide) (fun a => by fin_cases a <;> decide) _
  have h1 : iblk7 V c 1 t7_0 = V c main_v855 :=
    Memref.read_access_unit_zero (Elt F) main_v855 (funext fun a => by fin_cases a <;> decide) (fun a => by fin_cases a <;> decide) _
  have h2 : iblk7 V c 2 t7_0 = V c main_v860 :=
    Memref.read_access_unit_zero (Elt F) main_v860 (funext fun a => by fin_cases a <;> decide) (fun a => by fin_cases a <;> decide) _
  rw [h0, h1, h2]
  rfl

/-- Region 8 leaves its body's payload of its whole operand arrays in its output array. -/
theorem arr8 : (dat8 V c).arrAt 2 cfg8.N = k8_pay1 (V c main_v820) (V c main_v865) := by
  refine (dat8 V c).arrAt_eq_of_after_last 2 t8_0 (by decide +kernel) _ fun j => ?_
  rw [after8_2]
  frame_out
  have h0 : iblk8 V c 0 t8_0 = V c main_v820 :=
    Memref.read_access_unit_zero (Elt F) main_v820 (funext fun a => by fin_cases a <;> decide) (fun a => by fin_cases a <;> decide) _
  have h1 : iblk8 V c 1 t8_0 = V c main_v865 :=
    Memref.read_access_unit_zero (Elt F) main_v865 (funext fun a => by fin_cases a <;> decide) (fun a => by fin_cases a <;> decide) _
  rw [h0, h1]
  rfl

end Cert.KernelIdeal.Value
-- ==== Proof.Tail.lean ====
/- From the first Pallas call on: the kernel's nine calls against the reference's layers, and the slices of the reference's
   operations they stand against. -/
module

public import proofs.«01_k».proof.Proof.Layer
public import proofs.«01_k».proof.Proof.Lines
public import proofs.«01_k».proof.Proof.RegionValue
public import proofs.«01_k».proof.Proof.Gen.ReferenceIdeal.Run

@[expose] public section

set_option maxRecDepth 16384

noncomputable section

namespace Cert.Tail

open Idealize.ShloMosaic Idealize.ShloMosaic.TcCoe Idealize.ShloMosaic.StableHlo Cert.Lockstep Cert.Layer
open Cert.KernelIdeal.Gen hiding facts facts₀
open Cert.KernelIdeal.Value
open Cert.ReferenceIdeal.Value (ops_part15_0 ops_part15_1 ops_part15_2 ops_part16_0 ops_part16_1 ops_part16_2 ops_part17)

/-- The kernel's buffers. -/
abbrev KVal := Valuation Cert.KernelIdeal.τ Cert.KernelIdeal.sig (Elt Ideal)
/-- The reference's buffers. -/
abbrev RVal := Valuation Cert.ReferenceIdeal.τ Cert.ReferenceIdeal.sig (Elt Ideal)

/-- The reference's operations from the first projection layer's product on. -/
def rest : List (HloOp Cert.ReferenceIdeal.τ Cert.ReferenceIdeal.sig (Elt Ideal)) :=
  ops_part15_0.drop 22 ++ (ops_part15_1 ++ (ops_part15_2 ++ (ops_part16_0 ++ (ops_part16_1 ++ (ops_part16_2 ++ ops_part17)))))

/-- `n` of them, from number `k` on. -/
abbrev part (k n : Nat) : List (HloOp Cert.ReferenceIdeal.τ Cert.ReferenceIdeal.sig (Elt Ideal)) := (rest.drop k).take n

/-! ## What the bodies compute, at equal operands -/

/-- The first-half body at operands equal to the reference's. -/
theorem pay_hidden_of {x x' : Mat} {w w' : Wgt} {r : FVec Ideal Cert.ReferenceIdeal.S1x300 .f32} {b : Row} (hx : x = x') (hw : w = w')
    (hr : r = biasRow b) : k0_pay1 (F := Ideal) x w r = hidden x' w' b := by
  subst hx hw hr; exact pay_hidden x w b

/-- The second-half body at operands equal to the reference's. -/
theorem pay_affine_of {x x' : Mat} {w w' : Wgt} {r : FVec Ideal Cert.ReferenceIdeal.S1x300 .f32} {b : Row} (hx : x = x') (hw : w = w')
    (hr : r = biasRow b) : k1_pay1 (F := Ideal) x w r = affine x' w' b := by
  subst hx hw hr; exact pay_affine x w b

/-! ## A call against a line -/

/-- A Pallas call entered after its bias has been made a row, against a line of the reference: the buffers that agreed before
    both still agree, and so do the two results once they are the same. -/
theorem region {rs : List Rng} {U W X : KVal} {V' : RVal} {line : List (HloOp Cert.ReferenceIdeal.τ Cert.ReferenceIdeal.sig (Elt Ideal))}
    {b b₁ o : Ref Cert.KernelIdeal.sig .tc} {o' : Ref Cert.ReferenceIdeal.sig .tc} {g : b.ty.Contents (Elt Ideal) → b₁.ty.Contents (Elt Ideal)}
    {hb hb₁} (n n' : Nat) (hA : Agree rs U V') (hbel : below rs n n' = true) (hU : W = after [unary b b₁ g hb hb₁] U)
    (hn : Nat.ble n b₁.idx.val = true) (hs : b₁.space = .hbm) (hn₁ : Nat.ble n o.idx.val = true) (ho : o.space = .hbm) (ho' : o'.space = .hbm)
    (hX : ∀ x, x ≠ o → X (Proc.devRef .tc x) = W (Proc.devRef .tc x)) (hl : line.Forall (From n'))
    (hv : Agree rs W V' → W (Proc.devRef .tc b₁) = g (U (Proc.devRef .tc b)) → Same X (after line V') o o') :
    Agree (push rs o.idx.val o'.idx.val) X (after line V') := by
  have hW : ∀ x : Ref Cert.KernelIdeal.sig .tc, x.idx.val < n → W (Proc.devRef .tc x) = U (Proc.devRef .tc x) := fun x hx => by
    rw [hU]
    exact after_below [unary b b₁ g hb hb₁] ⟨b₁, rfl, hs, hn⟩ U x hx
  refine hA.grow n n' hbel ho ho' (fun x hx hlt => ?_) (fun x hx hlt => after_below line hl V' x hlt) (hv ?_ ?_)
  · rw [hX x (fun e => ?_), hW x hlt]
    subst e
    exact absurd (Nat.le_of_ble_eq_true hn₁) (by omega)
  · intro x x' hx hx' hc
    obtain ⟨l, l'⟩ := lt_of_covers hc hbel
    rw [Same, hW x l]
    exact hA x x' hx hx' hc
  · rw [hU, after_cons, after_nil, unary_result]

/-- Buffers that agree, of one type, hold one value. -/
theorem val {rs : List Rng} {W : KVal} {V' : RVal} (hA : Agree rs W V') (x : Ref Cert.KernelIdeal.sig .tc)
    (x' : Ref Cert.ReferenceIdeal.sig .tc) (hx : x.space = .hbm) (hx' : x'.space = .hbm)
    (hc : covers rs x.idx.val x'.idx.val = true) : HEq (W (Proc.devRef .tc x)) (V' (Proc.devRef .tc x')) :=
  (hA x x' hx hx' hc).2

/-! ## Which buffers correspond after each call and after the host operations that follow it -/

/-- After call 0. -/
def rs0 : List Rng := [⟨1193, 1194, 1198⟩, ⟨0, 1192, 0⟩]
/-- After call 1. -/
def rs1 : List Rng := ⟨1195, 1196, 1202⟩ :: rs0
/-- Before call 2. -/
def rs2 : List Rng := ⟨1195, 1213, 1202⟩ :: rs0
/-- After call 2. -/
def rs3 : List Rng := ⟨1214, 1215, 1226⟩ :: rs2
/-- After call 3. -/
def rs4 : List Rng := ⟨1216, 1217, 1230⟩ :: rs3
/-- Before call 4. -/
def rs5 : List Rng := ⟨1216, 1249, 1230⟩ :: rs3
/-- After call 4. -/
def rs6 : List Rng := ⟨1250, 1251, 1269⟩ :: rs5
/-- After call 5. -/
def rs7 : List Rng := ⟨1252, 1253, 1273⟩ :: rs6
/-- Before call 6. -/
def rs8 : List Rng := ⟨1252, 1270, 1273⟩ :: rs6
/-- After call 6. -/
def rs9 : List Rng := ⟨1271, 1272, 1297⟩ :: rs8
/-- After call 7. -/
def rs10 : List Rng := ⟨1273, 1274, 1301⟩ :: rs9
/-- Before call 8. -/
def rs11 : List Rng := ⟨1273, 1282, 1301⟩ :: rs9
/-- After call 8. -/
def rs12 : List Rng := ⟨1282, 1283, 1311⟩ :: rs11

/-! ## The calls, one by one -/

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- Call 0 changes its result only. -/
theorem only0 (x : Ref Cert.KernelIdeal.sig .tc) (h : x ≠ Cert.KernelIdeal.main_v795) : W60 m ρ c (Proc.devRef .tc x) = W59 m ρ c (Proc.devRef .tc x) := by
  refine W60_of m ρ c x fun w e => ?_
  fin_cases w
  · rfl
  · rfl
  · rfl
  · exact absurd e.symm h

/-- The line against call 0 computes the layer's first half. -/
theorem line0 (V' : RVal) : after (part 0 7) V' (Proc.devRef .tc Cert.ReferenceIdeal.main_v798)
    = hidden (V' (Proc.devRef .tc Cert.ReferenceIdeal.main_v785)) (V' (Proc.devRef .tc Cert.ReferenceIdeal.main_v787))
        (V' (Proc.devRef .tc Cert.ReferenceIdeal.main_v789)) :=
  line_hidden _ _ _ _ _ _ _ _ _ _ _ _ _ _ _ _ _ _ _ _ _ _ _ V' (by decide) (by decide) (by decide) (by decide) (by decide)

/-- It writes new buffers only. -/
theorem from0 : (part 0 7).Forall (From 1192) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩⟩

/-- Call 0 against its line. -/
theorem agree0 {U : KVal} {V' : RVal} (hA : Agree [⟨0, 1192, 0⟩] U V') (hU : W59 m ρ c = after (hostOps0_58.drop 10) U) :
    Agree rs0 (W60 m ρ c) (after (part 0 7) V') :=
  region (o := Cert.KernelIdeal.main_v795) (o' := Cert.ReferenceIdeal.main_v798) 1192 1192 hA rfl hU rfl rfl rfl rfl rfl (only0 m ρ c)
    from0 fun h hb => ⟨rfl, heq_of_eq ((W60_arr m ρ c 3).trans ((arr0 _ c).trans ((pay_hidden_of
      (eq_of_heq (val h Cert.KernelIdeal.main_v785 Cert.ReferenceIdeal.main_v785 rfl rfl rfl))
      (eq_of_heq (val h Cert.KernelIdeal.main_v787 Cert.ReferenceIdeal.main_v787 rfl rfl rfl))
      (hb.trans (congrArg biasRow (eq_of_heq (val hA Cert.KernelIdeal.main_v789 Cert.ReferenceIdeal.main_v789 rfl rfl rfl))))).trans
      (line0 V').symm)))⟩

/-- Call 1 changes its result only. -/
theorem only1 (x : Ref Cert.KernelIdeal.sig .tc) (h : x ≠ Cert.KernelIdeal.main_v797) : W62 m ρ c (Proc.devRef .tc x) = W61 m ρ c (Proc.devRef .tc x) := by
  refine W62_of m ρ c x fun w e => ?_
  fin_cases w
  · rfl
  · rfl
  · rfl
  · exact absurd e.symm h

/-- The line against call 1 computes the layer's second half. -/
theorem line1 (V' : RVal) : after (part 7 4) V' (Proc.devRef .tc Cert.ReferenceIdeal.main_v802)
    = affine (V' (Proc.devRef .tc Cert.ReferenceIdeal.main_v798)) (V' (Proc.devRef .tc Cert.ReferenceIdeal.main_v791))
        (V' (Proc.devRef .tc Cert.ReferenceIdeal.main_v793)) :=
  line_affine _ _ _ _ _ _ _ _ _ _ _ _ _ _ V' (by decide) (by decide) (by decide)

/-- It writes new buffers only. -/
theorem from1 : (part 7 4).Forall (From 1199) :=
  ⟨⟨_, rfl, rfl, rfl⟩, ⟨_, rfl, rfl, rfl⟩, ⟨_, rfl, rfl, rfl⟩, ⟨_, rfl, rfl, rfl⟩⟩

/-- Call 1 against its line. -/
theorem agree1 {U : KVal} {V' : RVal} (hA : Agree rs0 U V') (hU : W61 m ρ c = after hostOps1 U) :
    Agree rs1 (W62 m ρ c) (after (part 7 4) V') :=
  region (o := Cert.KernelIdeal.main_v797) (o' := Cert.ReferenceIdeal.main_v802) 1194 1199 hA rfl hU rfl rfl rfl rfl rfl (only1 m ρ c)
    from1 fun h hb => ⟨rfl, heq_of_eq ((W62_arr m ρ c 3).trans ((arr1 _ c).trans ((pay_affine_of
      (eq_of_heq (val h Cert.KernelIdeal.main_v795 Cert.ReferenceIdeal.main_v798 rfl rfl rfl))
      (eq_of_heq (val h Cert.KernelIdeal.main_v791 Cert.ReferenceIdeal.main_v791 rfl rfl rfl))
      (hb.trans (congrArg biasRow (eq_of_heq (val hA Cert.KernelIdeal.main_v793 Cert.ReferenceIdeal.main_v793 rfl rfl rfl))))).trans
      (line1 V').symm)))⟩

/-- Call 2 changes its result only. -/
theorem only2 (x : Ref Cert.KernelIdeal.sig .tc) (h : x ≠ Cert.KernelIdeal.main_v814) : W64 m ρ c (Proc.devRef .tc x) = W63 m ρ c (Proc.devRef .tc x) := by
  refine W64_of m ρ c x fun w e => ?_
  fin_cases w
  · rfl
  · rfl
  · rfl
  · exact absurd e.symm h

/-- The line against call 2 computes the layer's first half. -/
theorem line2 (V' : RVal) : after (part 28 7) V' (Proc.devRef .tc Cert.ReferenceIdeal.main_v822)
    = hidden (V' (Proc.devRef .tc Cert.ReferenceIdeal.main_v809)) (V' (Proc.devRef .tc Cert.ReferenceIdeal.main_v811))
        (V' (Proc.devRef .tc Cert.ReferenceIdeal.main_v813)) :=
  line_hidden _ _ _ _ _ _ _ _ _ _ _ _ _ _ _ _ _ _ _ _ _ _ _ V' (by decide) (by decide) (by decide) (by decide) (by decide)

/-- It writes new buffers only. -/
theorem from2 : (part 28 7).Forall (From 1220) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩⟩

/-- Call 2 against its line. -/
theorem agree2 {U : KVal} {V' : RVal} (hA : Agree rs2 U V') (hU : W63 m ρ c = after (hostOps2.drop 17) U) :
    Agree rs3 (W64 m ρ c) (after (part 28 7) V') :=
  region (o := Cert.KernelIdeal.main_v814) (o' := Cert.ReferenceIdeal.main_v822) 1213 1220 hA rfl hU rfl rfl rfl rfl rfl (only2 m ρ c)
    from2 fun h hb => ⟨rfl, heq_of_eq ((W64_arr m ρ c 3).trans ((arr2 _ c).trans ((pay_hidden_of
      (eq_of_heq (val h Cert.KernelIdeal.main_v804 Cert.ReferenceIdeal.main_v809 rfl rfl rfl))
      (eq_of_heq (val h Cert.KernelIdeal.main_v806 Cert.ReferenceIdeal.main_v811 rfl rfl rfl))
      (hb.trans (congrArg biasRow (eq_of_heq (val hA Cert.KernelIdeal.main_v808 Cert.ReferenceIdeal.main_v813 rfl rfl rfl))))).trans
      (line2 V').symm)))⟩

/-- Call 3 changes its result only. -/
theorem only3 (x : Ref Cert.KernelIdeal.sig .tc) (h : x ≠ Cert.KernelIdeal.main_v816) : W66 m ρ c (Proc.devRef .tc x) = W65 m ρ c (Proc.devRef .tc x) := by
  refine W66_of m ρ c x fun w e => ?_
  fin_cases w
  · rfl
  · rfl
  · rfl
  · exact absurd e.symm h

/-- The line against call 3 computes the layer's second half. -/
theorem line3 (V' : RVal) : after (part 35 4) V' (Proc.devRef .tc Cert.ReferenceIdeal.main_v826)
    = affine (V' (Proc.devRef .tc Cert.ReferenceIdeal.main_v822)) (V' (Proc.devRef .tc Cert.ReferenceIdeal.main_v815))
        (V' (Proc.devRef .tc Cert.ReferenceIdeal.main_v817)) :=
  line_affine _ _ _ _ _ _ _ _ _ _ _ _ _ _ V' (by decide) (by decide) (by decide)

/-- It writes new buffers only. -/
theorem from3 : (part 35 4).Forall (From 1227) :=
  ⟨⟨_, rfl, rfl, rfl⟩, ⟨_, rfl, rfl, rfl⟩, ⟨_, rfl, rfl, rfl⟩, ⟨_, rfl, rfl, rfl⟩⟩

/-- Call 3 against its line. -/
theorem agree3 {U : KVal} {V' : RVal} (hA : Agree rs3 U V') (hU : W65 m ρ c = after hostOps3 U) :
    Agree rs4 (W66 m ρ c) (after (part 35 4) V') :=
  region (o := Cert.KernelIdeal.main_v816) (o' := Cert.ReferenceIdeal.main_v826) 1215 1227 hA rfl hU rfl rfl rfl rfl rfl (only3 m ρ c)
    from3 fun h hb => ⟨rfl, heq_of_eq ((W66_arr m ρ c 3).trans ((arr3 _ c).trans ((pay_affine_of
      (eq_of_heq (val h Cert.KernelIdeal.main_v814 Cert.ReferenceIdeal.main_v822 rfl rfl rfl))
      (eq_of_heq (val h Cert.KernelIdeal.main_v810 Cert.ReferenceIdeal.main_v815 rfl rfl rfl))
      (hb.trans (congrArg biasRow (eq_of_heq (val hA Cert.KernelIdeal.main_v812 Cert.ReferenceIdeal.main_v817 rfl rfl rfl))))).trans
      (line3 V').symm)))⟩

/-- Call 4 changes its result only. -/
theorem only4 (x : Ref Cert.KernelIdeal.sig .tc) (h : x ≠ Cert.KernelIdeal.main_v840) : W72 m ρ c (Proc.devRef .tc x) = W71 m ρ c (Proc.devRef .tc x) := by
  refine W72_of m ρ c x fun w e => ?_
  fin_cases w
  · rfl
  · rfl
  · rfl
  · exact absurd e.symm h

/-- The line against call 4 computes the layer's first half. -/
theorem line4 (V' : RVal) : after (part 71 7) V' (Proc.devRef .tc Cert.ReferenceIdeal.main_v853)
    = hidden (V' (Proc.devRef .tc Cert.ReferenceIdeal.main_v840)) (V' (Proc.devRef .tc Cert.ReferenceIdeal.main_v842))
        (V' (Proc.devRef .tc Cert.ReferenceIdeal.main_v844)) :=
  line_hidden _ _ _ _ _ _ _ _ _ _ _ _ _ _ _ _ _ _ _ _ _ _ _ V' (by decide) (by decide) (by decide) (by decide) (by decide)

/-- It writes new buffers only. -/
theorem from4 : (part 71 7).Forall (From 1263) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩⟩

/-- Call 4 against its line. -/
theorem agree4 {U : KVal} {V' : RVal} (hA : Agree rs5 U V') (hU : W71 m ρ c = after (hostOps4_4.drop 10) U) :
    Agree rs6 (W72 m ρ c) (after (part 71 7) V') :=
  region (o := Cert.KernelIdeal.main_v840) (o' := Cert.ReferenceIdeal.main_v853) 1249 1263 hA rfl hU rfl rfl rfl rfl rfl (only4 m ρ c)
    from4 fun h hb => ⟨rfl, heq_of_eq ((W72_arr m ρ c 3).trans ((arr4 _ c).trans ((pay_hidden_of
      (eq_of_heq (val h Cert.KernelIdeal.main_v830 Cert.ReferenceIdeal.main_v840 rfl rfl rfl))
      (eq_of_heq (val h Cert.KernelIdeal.main_v832 Cert.ReferenceIdeal.main_v842 rfl rfl rfl))
      (hb.trans (congrArg biasRow (eq_of_heq (val hA Cert.KernelIdeal.main_v834 Cert.ReferenceIdeal.main_v844 rfl rfl rfl))))).trans
      (line4 V').symm)))⟩

/-- Call 5 changes its result only. -/
theorem only5 (x : Ref Cert.KernelIdeal.sig .tc) (h : x ≠ Cert.KernelIdeal.main_v842) : W74 m ρ c (Proc.devRef .tc x) = W73 m ρ c (Proc.devRef .tc x) := by
  refine W74_of m ρ c x fun w e => ?_
  fin_cases w
  · rfl
  · rfl
  · rfl
  · exact absurd e.symm h

/-- The line against call 5 computes the layer's second half. -/
theorem line5 (V' : RVal) : after (part 78 4) V' (Proc.devRef .tc Cert.ReferenceIdeal.main_v857)
    = affine (V' (Proc.devRef .tc Cert.ReferenceIdeal.main_v853)) (V' (Proc.devRef .tc Cert.ReferenceIdeal.main_v846))
        (V' (Proc.devRef .tc Cert.ReferenceIdeal.main_v848)) :=
  line_affine _ _ _ _ _ _ _ _ _ _ _ _ _ _ V' (by decide) (by decide) (by decide)

/-- It writes new buffers only. -/
theorem from5 : (part 78 4).Forall (From 1270) :=
  ⟨⟨_, rfl, rfl, rfl⟩, ⟨_, rfl, rfl, rfl⟩, ⟨_, rfl, rfl, rfl⟩, ⟨_, rfl, rfl, rfl⟩⟩

/-- Call 5 against its line. -/
theorem agree5 {U : KVal} {V' : RVal} (hA : Agree rs6 U V') (hU : W73 m ρ c = after hostOps5 U) :
    Agree rs7 (W74 m ρ c) (after (part 78 4) V') :=
  region (o := Cert.KernelIdeal.main_v842) (o' := Cert.ReferenceIdeal.main_v857) 1251 1270 hA rfl hU rfl rfl rfl rfl rfl (only5 m ρ c)
    from5 fun h hb => ⟨rfl, heq_of_eq ((W74_arr m ρ c 3).trans ((arr5 _ c).trans ((pay_affine_of
      (eq_of_heq (val h Cert.KernelIdeal.main_v840 Cert.ReferenceIdeal.main_v853 rfl rfl rfl))
      (eq_of_heq (val h Cert.KernelIdeal.main_v836 Cert.ReferenceIdeal.main_v846 rfl rfl rfl))
      (hb.trans (congrArg biasRow (eq_of_heq (val hA Cert.KernelIdeal.main_v838 Cert.ReferenceIdeal.main_v848 rfl rfl rfl))))).trans
      (line5 V').symm)))⟩

/-- Call 6 changes its result only. -/
theorem only6 (x : Ref Cert.KernelIdeal.sig .tc) (h : x ≠ Cert.KernelIdeal.main_v859) : W76 m ρ c (Proc.devRef .tc x) = W75 m ρ c (Proc.devRef .tc x) := by
  refine W76_of m ρ c x fun w e => ?_
  fin_cases w
  · rfl
  · rfl
  · rfl
  · exact absurd e.symm h

/-- The line against call 6 computes the layer's first half. -/
theorem line6 (V' : RVal) : after (part 99 7) V' (Proc.devRef .tc Cert.ReferenceIdeal.main_v877)
    = hidden (V' (Proc.devRef .tc Cert.ReferenceIdeal.main_v864)) (V' (Proc.devRef .tc Cert.ReferenceIdeal.main_v866))
        (V' (Proc.devRef .tc Cert.ReferenceIdeal.main_v868)) :=
  line_hidden _ _ _ _ _ _ _ _ _ _ _ _ _ _ _ _ _ _ _ _ _ _ _ V' (by decide) (by decide) (by decide) (by decide) (by decide)

/-- It writes new buffers only. -/
theorem from6 : (part 99 7).Forall (From 1291) :=
  ⟨⟨_, rfl, rfl, rfl⟩, ⟨_, rfl, rfl, rfl⟩, ⟨_, rfl, rfl, rfl⟩, ⟨_, rfl, rfl, rfl⟩, ⟨_, rfl, rfl, rfl⟩, ⟨_, rfl, rfl, rfl⟩, ⟨_, rfl, rfl, rfl⟩⟩

/-- Call 6 against its line. -/
theorem agree6 {U : KVal} {V' : RVal} (hA : Agree rs8 U V') (hU : W75 m ρ c = after (hostOps6.drop 17) U) :
    Agree rs9 (W76 m ρ c) (after (part 99 7) V') :=
  region (o := Cert.KernelIdeal.main_v859) (o' := Cert.ReferenceIdeal.main_v877) 1270 1291 hA rfl hU rfl rfl rfl rfl rfl (only6 m ρ c)
    from6 fun h hb => ⟨rfl, heq_of_eq ((W76_arr m ρ c 3).trans ((arr6 _ c).trans ((pay_hidden_of
      (eq_of_heq (val h Cert.KernelIdeal.main_v849 Cert.ReferenceIdeal.main_v864 rfl rfl rfl))
      (eq_of_heq (val h Cert.KernelIdeal.main_v851 Cert.ReferenceIdeal.main_v866 rfl rfl rfl))
      (hb.trans (congrArg biasRow (eq_of_heq (val hA Cert.KernelIdeal.main_v853 Cert.ReferenceIdeal.main_v868 rfl rfl rfl))))).trans
      (line6 V').symm)))⟩

/-- Call 7 changes its result only. -/
theorem only7 (x : Ref Cert.KernelIdeal.sig .tc) (h : x ≠ Cert.KernelIdeal.main_v861) : W78 m ρ c (Proc.devRef .tc x) = W77 m ρ c (Proc.devRef .tc x) := by
  refine W78_of m ρ c x fun w e => ?_
  fin_cases w
  · rfl
  · rfl
  · rfl
  · exact absurd e.symm h

/-- The line against call 7 computes the layer's second half. -/
theorem line7 (V' : RVal) : after (part 106 4) V' (Proc.devRef .tc Cert.ReferenceIdeal.main_v881)
    = affine (V' (Proc.devRef .tc Cert.ReferenceIdeal.main_v877)) (V' (Proc.devRef .tc Cert.ReferenceIdeal.main_v870))
        (V' (Proc.devRef .tc Cert.ReferenceIdeal.main_v872)) :=
  line_affine _ _ _ _ _ _ _ _ _ _ _ _ _ _ V' (by decide) (by decide) (by decide)

/-- It writes new buffers only. -/
theorem from7 : (part 106 4).Forall (From 1298) :=
  ⟨⟨_, rfl, rfl, rfl⟩, ⟨_, rfl, rfl, rfl⟩, ⟨_, rfl, rfl, rfl⟩, ⟨_, rfl, rfl, rfl⟩⟩

/-- Call 7 against its line. -/
theorem agree7 {U : KVal} {V' : RVal} (hA : Agree rs9 U V') (hU : W77 m ρ c = after hostOps7 U) :
    Agree rs10 (W78 m ρ c) (after (part 106 4) V') :=
  region (o := Cert.KernelIdeal.main_v861) (o' := Cert.ReferenceIdeal.main_v881) 1272 1298 hA rfl hU rfl rfl rfl rfl rfl (only7 m ρ c)
    from7 fun h hb => ⟨rfl, heq_of_eq ((W78_arr m ρ c 3).trans ((arr7 _ c).trans ((pay_affine_of
      (eq_of_heq (val h Cert.KernelIdeal.main_v859 Cert.ReferenceIdeal.main_v877 rfl rfl rfl))
      (eq_of_heq (val h Cert.KernelIdeal.main_v855 Cert.ReferenceIdeal.main_v870 rfl rfl rfl))
      (hb.trans (congrArg biasRow (eq_of_heq (val hA Cert.KernelIdeal.main_v857 Cert.ReferenceIdeal.main_v872 rfl rfl rfl))))).trans
      (line7 V').symm)))⟩

/-- Call 8 changes its result only. -/
theorem only8 (x : Ref Cert.KernelIdeal.sig .tc) (h : x ≠ Cert.KernelIdeal.main_v866) : W82 m ρ c (Proc.devRef .tc x) = W81 m ρ c (Proc.devRef .tc x) := by
  refine W82_of m ρ c x fun w e => ?_
  fin_cases w
  · rfl
  · rfl
  · exact absurd e.symm h

/-- The line against the last call computes the scores. -/
theorem line8 (V' : RVal) : after (part 118 2) V' (Proc.devRef .tc Cert.ReferenceIdeal.main_v887)
    = scores (V' (Proc.devRef .tc Cert.ReferenceIdeal.main_v830)) (V' (Proc.devRef .tc Cert.ReferenceIdeal.main_v885)) :=
  line_two _ _ _ _ _ _ _ V' (by decide)

/-- The last call against the reference's transpose and product. -/
theorem agree8 {V' : RVal} (hA : Agree rs11 (W81 m ρ c) V') : Agree rs12 (W82 m ρ c) (after (part 118 2) V') := by
  have hl : (part 118 2).Forall (From 1310) := ⟨⟨_, rfl, rfl, rfl⟩, ⟨_, rfl, rfl, rfl⟩⟩
  refine hA.grow (y := Cert.KernelIdeal.main_v866) (y' := Cert.ReferenceIdeal.main_v887) 1282 1310 rfl rfl rfl (fun x _ hlt => only8 m ρ c x ?_)
    (fun x _ hlt => after_below _ hl V' x hlt) ⟨rfl, heq_of_eq ?_⟩
  · rintro rfl; exact absurd hlt (by decide)
  refine (W82_arr m ρ c 2).trans ((arr8 _ c).trans ((pay_scores _ _).trans ?_))
  refine Eq.trans ?_ (line8 V').symm
  exact congrArg₂ scores (eq_of_heq (val hA Cert.KernelIdeal.main_v820 Cert.ReferenceIdeal.main_v830 rfl rfl rfl))
    (eq_of_heq (val hA Cert.KernelIdeal.main_v865 Cert.ReferenceIdeal.main_v885 rfl rfl rfl))

end Cert.Tail
-- ==== Proof.Prefix.lean ====
/- Everything the kernel does before its first Pallas call against the reference's first operations. -/
module

public import proofs.«01_k».proof.Proof.Host1
public import proofs.«01_k».proof.Proof.Host2
public import proofs.«01_k».proof.Proof.Host3
public import proofs.«01_k».proof.Proof.Host4
public import proofs.«01_k».proof.Proof.Host5
public import proofs.«01_k».proof.Proof.Host6
public import proofs.«01_k».proof.Proof.Host7
public import proofs.«01_k».proof.Proof.Host8
public import proofs.«01_k».proof.Proof.Host9
public import proofs.«01_k».proof.Proof.Host10
public import proofs.«01_k».proof.Proof.Tail

@[expose] public section

set_option maxRecDepth 16384

noncomputable section

namespace Cert.Host

open Idealize.ShloMosaic Idealize.ShloMosaic.StableHlo Cert.Lockstep Cert.Tail
open Cert.KernelIdeal.Gen hiding facts facts₀
open Cert.ReferenceIdeal.Value hiding run

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- A line cut in two. -/
theorem after_split {τ : Topo} {sig : RefSig} {Val : EltTy → Type} (n : Nat) (L : List (HloOp τ sig Val)) (V : Valuation τ sig Val) :
    after L V = after (L.drop n) (after (L.take n) V) := by
  rw [← after_append, List.take_append_drop]

/-- The kernel's segments before its first call, the last less the bias made a row. -/
abbrev kernelSegs : List (List (HloOp Cert.KernelIdeal.τ Cert.KernelIdeal.sig (Elt Ideal))) :=
    [ hostOps0, hostOps0_1, hostOps0_2, hostOps0_3, hostOps0_4, hostOps0_5, hostOps0_6, hostOps0_7,
      hostOps0_8, hostOps0_9, hostOps0_10, hostOps0_11, hostOps0_12, hostOps0_13, hostOps0_14, hostOps0_15,
      hostOps0_16, hostOps0_17, hostOps0_18, hostOps0_19, hostOps0_20, hostOps0_21, hostOps0_22, hostOps0_23,
      hostOps0_24, hostOps0_25, hostOps0_26, hostOps0_27, hostOps0_28, hostOps0_29, hostOps0_30, hostOps0_31,
      hostOps0_32, hostOps0_33, hostOps0_34, hostOps0_35, hostOps0_36, hostOps0_37, hostOps0_38, hostOps0_39,
      hostOps0_40, hostOps0_41, hostOps0_42, hostOps0_43, hostOps0_44, hostOps0_45, hostOps0_46, hostOps0_47,
      hostOps0_48, hostOps0_49, hostOps0_50, hostOps0_51, hostOps0_52, hostOps0_53, hostOps0_54, hostOps0_55,
      hostOps0_56, hostOps0_57, hostOps0_58.take 10 ]

/-- The reference's parts up to the one its first projection layer begins in. -/
abbrev referenceSegs : List (List (HloOp Cert.ReferenceIdeal.τ Cert.ReferenceIdeal.sig (Elt Ideal))) :=
    [ ops_part0, ops_part1_0, ops_part1_1, ops_part1_2, ops_part2_0, ops_part2_1, ops_part2_2, ops_part3_0,
      ops_part3_1, ops_part3_2, ops_part4_0, ops_part4_1, ops_part4_2, ops_part5_0, ops_part5_1, ops_part5_2,
      ops_part6_0, ops_part6_1, ops_part6_2, ops_part7_0, ops_part7_1, ops_part7_2, ops_part8_0, ops_part8_1,
      ops_part8_2, ops_part9_0, ops_part9_1, ops_part9_2, ops_part10_0, ops_part10_1, ops_part10_2, ops_part11_0,
      ops_part11_1, ops_part11_2, ops_part12_0, ops_part12_1, ops_part12_2, ops_part13_0, ops_part13_1, ops_part13_2,
      ops_part14_0, ops_part14_1, ops_part14_2, ops_part15_0 ]

/-- All the stretches in a row. -/
theorem stretches : Runs [⟨0, 24, 0⟩] [⟨0, 1192, 0⟩] kernelSegs [] referenceSegs (ops_part15_0.drop 22) :=
  stretch1.trans <| stretch2.trans <| stretch3.trans <| stretch4.trans <|
    stretch5.trans <| stretch6.trans <| stretch7.trans <| stretch8.trans <| stretch9.trans <| stretch10.trans <|
    stretch11.trans <| stretch12.trans <| stretch13.trans <| stretch14.trans <| stretch15.trans <|
    stretch16.trans <| stretch17.trans <| stretch18.trans <| stretch19.trans stretch20

/-- The kernel's buffers when it enters the first call. -/
theorem entry : W59 m ρ c = after (hostOps0_58.drop 10) (afters kernelSegs (W0 m ρ c)) :=
  after_split 10 hostOps0_58 (W58 m ρ c)

/-- The reference's operations, part by part. -/
theorem reference_split (V : RVal) : after ops V
    = after (ops_part15_1 ++ (ops_part15_2 ++ (ops_part16_0 ++ (ops_part16_1 ++ (ops_part16_2 ++ ops_part17))))) (afters ([] :: referenceSegs) V) := by
  simp only [ops, ops_part1, ops_part2, ops_part3, ops_part4, ops_part5, ops_part6, ops_part7, ops_part8, ops_part9, ops_part10, ops_part11, ops_part12, ops_part13, ops_part14, ops_part15, ops_part16, after_append]
  rfl

/-- From equal arguments, the buffers agree where the first call is entered. -/
theorem before {V' : RVal} (h : Agree [⟨0, 24, 0⟩] (W0 m ρ c) V') :
    ∃ (U : KVal) (U' : RVal), Agree [⟨0, 1192, 0⟩] U U' ∧ W59 m ρ c = after (hostOps0_58.drop 10) U ∧ after ops V' = after rest U' := by
  obtain ⟨U', hA, e⟩ := stretches _ _ h
  refine ⟨_, U', hA, entry m ρ c, ?_⟩
  rw [reference_split, e, ← after_append]
  rfl

end Cert.Host

end
-- ==== Proof.Between.lean ====
/- Between the Pallas calls: the host operations of the kernel matched with the reference's. -/
module

public import proofs.«01_k».proof.Proof.Chain
public import proofs.«01_k».proof.Proof.Tail
public import proofs.«01_k».proof.Proof.Gen.KernelIdeal.Launch

@[expose] public section

set_option maxRecDepth 20000
set_option maxHeartbeats 4000000

noncomputable section

namespace Cert.Tail

open Idealize.ShloMosaic Idealize.ShloMosaic.StableHlo Cert.Lockstep
open Cert.KernelIdeal.Gen hiding facts facts₀
open Cert.ReferenceIdeal.Value (ops_part15_0 ops_part15_1 ops_part15_2 ops_part16_0 ops_part16_1 ops_part16_2 ops_part17)

/-- Before call 2. -/
theorem host2 : Runs (τ := Cert.KernelIdeal.τ) (τ' := Cert.ReferenceIdeal.τ) (sig := Cert.KernelIdeal.sig)
    (sig' := Cert.ReferenceIdeal.sig) (Val := Elt Ideal) rs1 rs2
    [hostOps2.take 17] (part 11 17) [] [] := by
  apply runs_of
  simp only [hostOps2, part, rest, ops_part15_0, ops_part15_1, ops_part15_2, ops_part16_0, ops_part16_1, ops_part16_2, ops_part17,
    List.cons_append, List.nil_append, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

/-- Before call 4. -/
theorem host4 : Runs (τ := Cert.KernelIdeal.τ) (τ' := Cert.ReferenceIdeal.τ) (sig := Cert.KernelIdeal.sig)
    (sig' := Cert.ReferenceIdeal.sig) (Val := Elt Ideal) rs4 rs5
    [hostOps4, hostOps4_1, hostOps4_2, hostOps4_3, hostOps4_4.take 10] (part 39 32) [] [] := by
  apply runs_of
  simp only [hostOps4_4, part, rest, ops_part15_0, ops_part15_1, ops_part15_2, ops_part16_0, ops_part16_1, ops_part16_2, ops_part17,
    List.cons_append, List.nil_append, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

/-- Before call 6. -/
theorem host6 : Runs (τ := Cert.KernelIdeal.τ) (τ' := Cert.ReferenceIdeal.τ) (sig := Cert.KernelIdeal.sig)
    (sig' := Cert.ReferenceIdeal.sig) (Val := Elt Ideal) rs7 rs8
    [hostOps6.take 17] (part 82 17) [] [] := by
  apply runs_of
  simp only [hostOps6, part, rest, ops_part15_0, ops_part15_1, ops_part15_2, ops_part16_0, ops_part16_1, ops_part16_2, ops_part17,
    List.cons_append, List.nil_append, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

/-- Before call 8. -/
theorem host8 : Runs (τ := Cert.KernelIdeal.τ) (τ' := Cert.ReferenceIdeal.τ) (sig := Cert.KernelIdeal.sig)
    (sig' := Cert.ReferenceIdeal.sig) (Val := Elt Ideal) rs10 rs11
    [hostOps8, hostOps8_1, hostOps8_2] (part 110 8) [] [] := by
  apply runs_of
  simp only [part, rest, ops_part15_0, ops_part15_1, ops_part15_2, ops_part16_0, ops_part16_1, ops_part16_2, ops_part17,
    List.cons_append, List.nil_append, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

/-- After the last call. -/
theorem host9 : Runs (τ := Cert.KernelIdeal.τ) (τ' := Cert.ReferenceIdeal.τ) (sig := Cert.KernelIdeal.sig)
    (sig' := Cert.ReferenceIdeal.sig) (Val := Elt Ideal) rs12 (⟨1282, 1287, 1311⟩ :: rs11)
    [hostOps9] (part 120 4) [] [] := by
  apply runs_of
  simp only [part, rest, ops_part15_0, ops_part15_1, ops_part15_2, ops_part16_0, ops_part16_1, ops_part16_2, ops_part17,
    List.cons_append, List.nil_append, List.drop_succ_cons, List.drop_zero, List.take_succ_cons, List.take_zero]
  apply Exists.intro
  apply And.intro
  · repeat (first
      | (with_reducible apply Steps.cons
         · first
           | (with_reducible apply Pair.unary) <;> rfl
           | (with_reducible apply Pair.binary) <;> rfl
           | (with_reducible apply Pair.nullary) <;> rfl
           | with_reducible apply Pair.reshape
           | (with_reducible apply Pair.ternary) <;> rfl)
      | with_reducible apply Steps.left
      | with_reducible apply Steps.right
      | exact Steps.nil _ _ _ _)
  · decide +kernel

end Cert.Tail

end
-- ==== Proof.Whole.lean ====
/- The kernel's whole run against the reference's: the results are the same. -/
module

public import proofs.«01_k».proof.Proof.Prefix
public import proofs.«01_k».proof.Proof.Between

@[expose] public section

set_option maxRecDepth 16384

noncomputable section

namespace Cert.Tail

open Idealize.ShloMosaic Idealize.ShloMosaic.TcCoe Idealize.ShloMosaic.StableHlo Cert.Lockstep Cert.Host
open Cert.KernelIdeal.Gen hiding facts facts₀
open Cert.ReferenceIdeal.Value (ops)

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- A part of the reference's operations, then the ones after it. -/
theorem rest_split (k n : Nat) (V : RVal) : after (rest.drop k) V = after (rest.drop (k + n)) (after (part k n) V) := by
  rw [after_split n, List.drop_drop]

/-- Nothing comes after the last part. -/
theorem rest_end : rest.drop 124 = [] := rfl

/-- A stretch of host operations between two calls, against a part of the reference's operations. -/
theorem stretch {rs rs' : List Rng} {Ks : List (List (HloOp Cert.KernelIdeal.τ Cert.KernelIdeal.sig (Elt Ideal)))} {k n : Nat}
    (h : Runs rs rs' Ks (part k n) [] []) {V : KVal} {V' : RVal} (hA : Agree rs V V') : Agree rs' (afters Ks V) (after (part k n) V') := by
  obtain ⟨U', hU, e⟩ := h V V' hA
  have e : after (part k n) V' = U' := e
  rwa [e]

/-- From the first call to the end. -/
theorem after_calls {U : KVal} {V' : RVal} (hA : Agree [⟨0, 1192, 0⟩] U V') (hU : W59 m ρ c = after (hostOps0_58.drop 10) U) :
    Agree (⟨1282, 1287, 1311⟩ :: rs11) (W83 m ρ c) (after rest V') := by
  have a := agree1 m ρ c (agree0 m ρ c hA hU) rfl
  have a := agree2 m ρ c (stretch host2 a) (after_split 17 hostOps2 (W62 m ρ c))
  have a := agree3 m ρ c a rfl
  have a := agree4 m ρ c (stretch host4 a) (after_split 10 hostOps4_4 (W70 m ρ c))
  have a := agree5 m ρ c a rfl
  have a := agree6 m ρ c (stretch host6 a) (after_split 17 hostOps6 (W74 m ρ c))
  have a := agree7 m ρ c a rfl
  have a := agree8 m ρ c (stretch host8 a)
  have a := stretch host9 a
  have e : after rest V' = after (rest.drop 0) V' := rfl
  rw [e, rest_split 0 7, rest_split 7 4, rest_split 11 17, rest_split 28 7, rest_split 35 4, rest_split 39 32, rest_split 71 7, rest_split 78 4,
    rest_split 82 17, rest_split 99 7, rest_split 106 4, rest_split 110 8, rest_split 118 2, rest_split 120 4, rest_end, after_nil]
  exact a

/-- From equal arguments, the two programs end with equal results and equal arguments. -/
theorem whole {V' : RVal} (h : Agree [⟨0, 24, 0⟩] (W0 m ρ c) V') : Agree (⟨1282, 1287, 1311⟩ :: rs11) (W83 m ρ c) (after ops V') := by
  obtain ⟨U, U', hA, e, e'⟩ := before m ρ c h
  rw [e']
  exact after_calls m ρ c hA e

end Cert.Tail

end
-- ==== Proof.Algebraic.lean ====
/- The value claim: over the extended reals the kernel and the reference end with equal results. -/
module

public import proofs.«01_k».proof.Proof.KernelRun
public import proofs.«01_k».proof.Proof.Whole

@[expose] public section

set_option maxRecDepth 16384

noncomputable section

namespace Cert.Tail

open Idealize.ShloMosaic Idealize.ShloMosaic.TcCoe Idealize.ShloMosaic.StableHlo Idealize.SL.Sem Cert.Lockstep
open Cert.KernelIdeal.Gen hiding facts facts₀

/-- One more argument that agrees. -/
theorem arg {n : Nat} {V : KVal} {V' : RVal} (x : Ref Cert.KernelIdeal.sig .tc) (x' : Ref Cert.ReferenceIdeal.sig .tc) (hx : x.space = .hbm)
    (hx' : x'.space = .hbm) (e : x.idx.val = n) (e' : x'.idx.val = n) (hs : Same V V' x x') (h : Agree [⟨0, n, 0⟩] V V') :
    Agree [⟨0, n + 1, 0⟩] V V' := by
  intro y y' hy hy' hc
  simp only [covers, List.any_cons, List.any_nil, Bool.or_false, Bool.and_eq_true, Nat.ble_eq, Nat.blt_eq, Nat.beq_eq] at hc
  by_cases hn : y.idx.val = n
  · obtain rfl := ref_eq hy hx (hn.trans e.symm)
    obtain rfl := ref_eq hy' hx' (by omega)
    exact hs
  · refine h y y' hy hy' ?_
    simp only [covers, List.any_cons, List.any_nil, Bool.or_false, Bool.and_eq_true, Nat.ble_eq, Nat.blt_eq, Nat.beq_eq]
    omega

/-- No argument agrees to begin with. -/
theorem none {V : KVal} {V' : RVal} : Agree [⟨0, 0, 0⟩] V V' := by
  intro y y' _ _ hc
  simp only [covers, List.any_cons, List.any_nil, Bool.or_false, Bool.and_eq_true, Nat.ble_eq, Nat.blt_eq, Nat.beq_eq] at hc
  omega

/-- The two programs, run from equal arguments, end with equal results and their arguments unchanged. -/
theorem algebraic : Cert.algebraic_KernelIdeal_ReferenceIdeal (hKernelIdeal := Cert.KernelIdeal.Gen.facts)
    (hReferenceIdeal := Cert.ReferenceIdeal.Gen.facts) := by
  intro m ρ m' ρ' _ hagree
  have h : ∀ c : Dev Cert.KernelIdeal.nD, Agree (⟨1282, 1287, 1311⟩ :: rs11) (W83 m ρ c) (after Cert.ReferenceIdeal.Value.ops (launchContents m' c)) := by
    intro c
    obtain ⟨h0, h1, h2, h3, h4, h5, h6, h7, h8, h9, h10, h11, h12, h13, h14, h15, h16, h17, h18, h19, h20, h21, h22, h23⟩ := hagree c
    refine whole m ρ c ?_
    have a := arg Cert.KernelIdeal.main_arg0 Cert.ReferenceIdeal.main_arg0 rfl rfl rfl rfl ⟨rfl, heq_of_eq h0.symm⟩ (none (V := W0 m ρ c) (V' := launchContents m' c))
    have a := arg Cert.KernelIdeal.main_arg1 Cert.ReferenceIdeal.main_arg1 rfl rfl rfl rfl ⟨rfl, heq_of_eq h1.symm⟩ a
    have a := arg Cert.KernelIdeal.main_arg2 Cert.ReferenceIdeal.main_arg2 rfl rfl rfl rfl ⟨rfl, heq_of_eq h2.symm⟩ a
    have a := arg Cert.KernelIdeal.main_arg3 Cert.ReferenceIdeal.main_arg3 rfl rfl rfl rfl ⟨rfl, heq_of_eq h3.symm⟩ a
    have a := arg Cert.KernelIdeal.main_arg4 Cert.ReferenceIdeal.main_arg4 rfl rfl rfl rfl ⟨rfl, heq_of_eq h4.symm⟩ a
    have a := arg Cert.KernelIdeal.main_arg5 Cert.ReferenceIdeal.main_arg5 rfl rfl rfl rfl ⟨rfl, heq_of_eq h5.symm⟩ a
    have a := arg Cert.KernelIdeal.main_arg6 Cert.ReferenceIdeal.main_arg6 rfl rfl rfl rfl ⟨rfl, heq_of_eq h6.symm⟩ a
    have a := arg Cert.KernelIdeal.main_arg7 Cert.ReferenceIdeal.main_arg7 rfl rfl rfl rfl ⟨rfl, heq_of_eq h7.symm⟩ a
    have a := arg Cert.KernelIdeal.main_arg8 Cert.ReferenceIdeal.main_arg8 rfl rfl rfl rfl ⟨rfl, heq_of_eq h8.symm⟩ a
    have a := arg Cert.KernelIdeal.main_arg9 Cert.ReferenceIdeal.main_arg9 rfl rfl rfl rfl ⟨rfl, heq_of_eq h9.symm⟩ a
    have a := arg Cert.KernelIdeal.main_arg10 Cert.ReferenceIdeal.main_arg10 rfl rfl rfl rfl ⟨rfl, heq_of_eq h10.symm⟩ a
    have a := arg Cert.KernelIdeal.main_arg11 Cert.ReferenceIdeal.main_arg11 rfl rfl rfl rfl ⟨rfl, heq_of_eq h11.symm⟩ a
    have a := arg Cert.KernelIdeal.main_arg12 Cert.ReferenceIdeal.main_arg12 rfl rfl rfl rfl ⟨rfl, heq_of_eq h12.symm⟩ a
    have a := arg Cert.KernelIdeal.main_arg13 Cert.ReferenceIdeal.main_arg13 rfl rfl rfl rfl ⟨rfl, heq_of_eq h13.symm⟩ a
    have a := arg Cert.KernelIdeal.main_arg14 Cert.ReferenceIdeal.main_arg14 rfl rfl rfl rfl ⟨rfl, heq_of_eq h14.symm⟩ a
    have a := arg Cert.KernelIdeal.main_arg15 Cert.ReferenceIdeal.main_arg15 rfl rfl rfl rfl ⟨rfl, heq_of_eq h15.symm⟩ a
    have a := arg Cert.KernelIdeal.main_arg16 Cert.ReferenceIdeal.main_arg16 rfl rfl rfl rfl ⟨rfl, heq_of_eq h16.symm⟩ a
    have a := arg Cert.KernelIdeal.main_arg17 Cert.ReferenceIdeal.main_arg17 rfl rfl rfl rfl ⟨rfl, heq_of_eq h17.symm⟩ a
    have a := arg Cert.KernelIdeal.main_arg18 Cert.ReferenceIdeal.main_arg18 rfl rfl rfl rfl ⟨rfl, heq_of_eq h18.symm⟩ a
    have a := arg Cert.KernelIdeal.main_arg19 Cert.ReferenceIdeal.main_arg19 rfl rfl rfl rfl ⟨rfl, heq_of_eq h19.symm⟩ a
    have a := arg Cert.KernelIdeal.main_arg20 Cert.ReferenceIdeal.main_arg20 rfl rfl rfl rfl ⟨rfl, heq_of_eq h20.symm⟩ a
    have a := arg Cert.KernelIdeal.main_arg21 Cert.ReferenceIdeal.main_arg21 rfl rfl rfl rfl ⟨rfl, heq_of_eq h21.symm⟩ a
    have a := arg Cert.KernelIdeal.main_arg22 Cert.ReferenceIdeal.main_arg22 rfl rfl rfl rfl ⟨rfl, heq_of_eq h22.symm⟩ a
    have a := arg Cert.KernelIdeal.main_arg23 Cert.ReferenceIdeal.main_arg23 rfl rfl rfl rfl ⟨rfl, heq_of_eq h23.symm⟩ a
    exact a
  refine ⟨fun c => W83 m ρ c (Proc.devRef .tc Cert.KernelIdeal.main_v868), fun c => W83 m ρ c (Proc.devRef .tc Cert.KernelIdeal.main_v869), ?_, ?_⟩
  · refine (θ_run Cert.KernelIdeal.defs _ _).mono (fun r h c => ?_) (Cert.KernelIdeal.Value.final m ρ)
    have g : ∀ x : Ref Cert.KernelIdeal.sig .tc, ¬ (Proc.devRef .tc x : DevRef Cert.KernelIdeal.τ Cert.KernelIdeal.sig).isScoped → r.2.mem ((c.tc : Thread Cert.KernelIdeal.nD Cert.KernelIdeal.τ).loc x)
        = W83 m ρ c (Proc.devRef .tc x) := fun x hx => h c _ (mem_uc x hx)
    exact ⟨g _ (by decide), g _ (by decide),
      (g _ (by decide)).trans (W83_main_arg0 m ρ c),
      (g _ (by decide)).trans (W83_main_arg1 m ρ c),
      (g _ (by decide)).trans (W83_main_arg2 m ρ c),
      (g _ (by decide)).trans (W83_main_arg3 m ρ c),
      (g _ (by decide)).trans (W83_main_arg4 m ρ c),
      (g _ (by decide)).trans (W83_main_arg5 m ρ c),
      (g _ (by decide)).trans (W83_main_arg6 m ρ c),
      (g _ (by decide)).trans (W83_main_arg7 m ρ c),
      (g _ (by decide)).trans (W83_main_arg8 m ρ c),
      (g _ (by decide)).trans (W83_main_arg9 m ρ c),
      (g _ (by decide)).trans (W83_main_arg10 m ρ c),
      (g _ (by decide)).trans (W83_main_arg11 m ρ c),
      (g _ (by decide)).trans (W83_main_arg12 m ρ c),
      (g _ (by decide)).trans (W83_main_arg13 m ρ c),
      (g _ (by decide)).trans (W83_main_arg14 m ρ c),
      (g _ (by decide)).trans (W83_main_arg15 m ρ c),
      (g _ (by decide)).trans (W83_main_arg16 m ρ c),
      (g _ (by decide)).trans (W83_main_arg17 m ρ c),
      (g _ (by decide)).trans (W83_main_arg18 m ρ c),
      (g _ (by decide)).trans (W83_main_arg19 m ρ c),
      (g _ (by decide)).trans (W83_main_arg20 m ρ c),
      (g _ (by decide)).trans (W83_main_arg21 m ρ c),
      (g _ (by decide)).trans (W83_main_arg22 m ρ c),
      (g _ (by decide)).trans (W83_main_arg23 m ρ c)⟩
  · refine (θ_run Cert.ReferenceIdeal.defs _ _).mono (fun r g c => ?_) (run_seq Cert.ReferenceIdeal.Value.scopedRefs_eq
      Cert.ReferenceIdeal.Value.scopedSems_eq Cert.ReferenceIdeal.defs Cert.ReferenceIdeal.main (fun _ => Cert.ReferenceIdeal.Value.ops)
      Cert.ReferenceIdeal.Value.main_eq (fun _ => Cert.ReferenceIdeal.Value.ops_sub) m' ρ' fun _ => Cert.ReferenceIdeal.Value.ops_fresh)
    have k : ∀ x x', x.space = .hbm → x'.space = .hbm → covers (⟨1282, 1287, 1311⟩ :: rs11) x.idx.val x'.idx.val = true →
        HEq (r.2.mem ((c.tc : Thread Cert.ReferenceIdeal.nD Cert.ReferenceIdeal.τ).loc x')) (W83 m ρ c (Proc.devRef .tc x)) := fun x x' hx hx' hc =>
      (heq_of_eq (g c x')).trans (val (h c) x x' hx hx' hc).symm
    obtain ⟨h0, h1, h2, h3, h4, h5, h6, h7, h8, h9, h10, h11, h12, h13, h14, h15, h16, h17, h18, h19, h20, h21, h22, h23⟩ := hagree c
    exact ⟨eq_of_heq (k Cert.KernelIdeal.main_v868 Cert.ReferenceIdeal.main_v889 rfl rfl rfl),
      eq_of_heq (k Cert.KernelIdeal.main_v869 Cert.ReferenceIdeal.main_v890 rfl rfl rfl),
      (eq_of_heq (k Cert.KernelIdeal.main_arg0 Cert.ReferenceIdeal.main_arg0 rfl rfl rfl)).trans ((W83_main_arg0 m ρ c).trans h0.symm),
      (eq_of_heq (k Cert.KernelIdeal.main_arg1 Cert.ReferenceIdeal.main_arg1 rfl rfl rfl)).trans ((W83_main_arg1 m ρ c).trans h1.symm),
      (eq_of_heq (k Cert.KernelIdeal.main_arg2 Cert.ReferenceIdeal.main_arg2 rfl rfl rfl)).trans ((W83_main_arg2 m ρ c).trans h2.symm),
      (eq_of_heq (k Cert.KernelIdeal.main_arg3 Cert.ReferenceIdeal.main_arg3 rfl rfl rfl)).trans ((W83_main_arg3 m ρ c).trans h3.symm),
      (eq_of_heq (k Cert.KernelIdeal.main_arg4 Cert.ReferenceIdeal.main_arg4 rfl rfl rfl)).trans ((W83_main_arg4 m ρ c).trans h4.symm),
      (eq_of_heq (k Cert.KernelIdeal.main_arg5 Cert.ReferenceIdeal.main_arg5 rfl rfl rfl)).trans ((W83_main_arg5 m ρ c).trans h5.symm),
      (eq_of_heq (k Cert.KernelIdeal.main_arg6 Cert.ReferenceIdeal.main_arg6 rfl rfl rfl)).trans ((W83_main_arg6 m ρ c).trans h6.symm),
      (eq_of_heq (k Cert.KernelIdeal.main_arg7 Cert.ReferenceIdeal.main_arg7 rfl rfl rfl)).trans ((W83_main_arg7 m ρ c).trans h7.symm),
      (eq_of_heq (k Cert.KernelIdeal.main_arg8 Cert.ReferenceIdeal.main_arg8 rfl rfl rfl)).trans ((W83_main_arg8 m ρ c).trans h8.symm),
      (eq_of_heq (k Cert.KernelIdeal.main_arg9 Cert.ReferenceIdeal.main_arg9 rfl rfl rfl)).trans ((W83_main_arg9 m ρ c).trans h9.symm),
      (eq_of_heq (k Cert.KernelIdeal.main_arg10 Cert.ReferenceIdeal.main_arg10 rfl rfl rfl)).trans ((W83_main_arg10 m ρ c).trans h10.symm),
      (eq_of_heq (k Cert.KernelIdeal.main_arg11 Cert.ReferenceIdeal.main_arg11 rfl rfl rfl)).trans ((W83_main_arg11 m ρ c).trans h11.symm),
      (eq_of_heq (k Cert.KernelIdeal.main_arg12 Cert.ReferenceIdeal.main_arg12 rfl rfl rfl)).trans ((W83_main_arg12 m ρ c).trans h12.symm),
      (eq_of_heq (k Cert.KernelIdeal.main_arg13 Cert.ReferenceIdeal.main_arg13 rfl rfl rfl)).trans ((W83_main_arg13 m ρ c).trans h13.symm),
      (eq_of_heq (k Cert.KernelIdeal.main_arg14 Cert.ReferenceIdeal.main_arg14 rfl rfl rfl)).trans ((W83_main_arg14 m ρ c).trans h14.symm),
      (eq_of_heq (k Cert.KernelIdeal.main_arg15 Cert.ReferenceIdeal.main_arg15 rfl rfl rfl)).trans ((W83_main_arg15 m ρ c).trans h15.symm),
      (eq_of_heq (k Cert.KernelIdeal.main_arg16 Cert.ReferenceIdeal.main_arg16 rfl rfl rfl)).trans ((W83_main_arg16 m ρ c).trans h16.symm),
      (eq_of_heq (k Cert.KernelIdeal.main_arg17 Cert.ReferenceIdeal.main_arg17 rfl rfl rfl)).trans ((W83_main_arg17 m ρ c).trans h17.symm),
      (eq_of_heq (k Cert.KernelIdeal.main_arg18 Cert.ReferenceIdeal.main_arg18 rfl rfl rfl)).trans ((W83_main_arg18 m ρ c).trans h18.symm),
      (eq_of_heq (k Cert.KernelIdeal.main_arg19 Cert.ReferenceIdeal.main_arg19 rfl rfl rfl)).trans ((W83_main_arg19 m ρ c).trans h19.symm),
      (eq_of_heq (k Cert.KernelIdeal.main_arg20 Cert.ReferenceIdeal.main_arg20 rfl rfl rfl)).trans ((W83_main_arg20 m ρ c).trans h20.symm),
      (eq_of_heq (k Cert.KernelIdeal.main_arg21 Cert.ReferenceIdeal.main_arg21 rfl rfl rfl)).trans ((W83_main_arg21 m ρ c).trans h21.symm),
      (eq_of_heq (k Cert.KernelIdeal.main_arg22 Cert.ReferenceIdeal.main_arg22 rfl rfl rfl)).trans ((W83_main_arg22 m ρ c).trans h22.symm),
      (eq_of_heq (k Cert.KernelIdeal.main_arg23 Cert.ReferenceIdeal.main_arg23 rfl rfl rfl)).trans ((W83_main_arg23 m ρ c).trans h23.symm)⟩

end Cert.Tail

end
-- ==== Proof.lean ====
/- The three frames, the idealized kernel's text, and the value claim: the kernel's nine Pallas calls and its host operations
   against the reference's operations (`Cert.Tail.algebraic`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2.2, Idealize.ShloMosaic.sem_eq_zero_of_no_sems (by decide) r.2⟩)
    (Cert.ReferenceIdeal.Value.run m ρ),
  trivial, Cert.Tail.algebraic⟩

end Cert.Proof

end
